-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_DilFfnKernel (m : (ℓ : Loc Cert.DilFfnKernel.nD Cert.DilFfnKernel.τ Cert.DilFfnKernel.sig) → Buf (Elt Bits) ℓ) : Prop :=
  True

def Pre_DilFfnKernelIdeal (m : (ℓ : Loc Cert.DilFfnKernelIdeal.nD Cert.DilFfnKernelIdeal.τ Cert.DilFfnKernelIdeal.sig) → Buf (Elt Ideal) ℓ) : Prop :=
  True

def Pre_DilFfnReferenceIdeal (m : (ℓ : Loc Cert.DilFfnReferenceIdeal.nD Cert.DilFfnReferenceIdeal.τ Cert.DilFfnReferenceIdeal.sig) → Buf (Elt Ideal) ℓ) : Prop :=
  True

def Pre_Proj1Kernel (m : (ℓ : Loc Cert.Proj1Kernel.nD Cert.Proj1Kernel.τ Cert.Proj1Kernel.sig) → Buf (Elt Bits) ℓ) : Prop :=
  True

def Pre_Proj1KernelIdeal (m : (ℓ : Loc Cert.Proj1KernelIdeal.nD Cert.Proj1KernelIdeal.τ Cert.Proj1KernelIdeal.sig) → Buf (Elt Ideal) ℓ) : Prop :=
  True

def Pre_Proj1ReferenceIdeal (m : (ℓ : Loc Cert.Proj1ReferenceIdeal.nD Cert.Proj1ReferenceIdeal.τ Cert.Proj1ReferenceIdeal.sig) → Buf (Elt Ideal) ℓ) : Prop :=
  True

def Pre_Proj4Kernel (m : (ℓ : Loc Cert.Proj4Kernel.nD Cert.Proj4Kernel.τ Cert.Proj4Kernel.sig) → Buf (Elt Bits) ℓ) : Prop :=
  True

def Pre_Proj4KernelIdeal (m : (ℓ : Loc Cert.Proj4KernelIdeal.nD Cert.Proj4KernelIdeal.τ Cert.Proj4KernelIdeal.sig) → Buf (Elt Ideal) ℓ) : Prop :=
  True

def Pre_Proj4ReferenceIdeal (m : (ℓ : Loc Cert.Proj4ReferenceIdeal.nD Cert.Proj4ReferenceIdeal.τ Cert.Proj4ReferenceIdeal.sig) → Buf (Elt Ideal) ℓ) : Prop :=
  True

def Pre_Proj16Kernel (m : (ℓ : Loc Cert.Proj16Kernel.nD Cert.Proj16Kernel.τ Cert.Proj16Kernel.sig) → Buf (Elt Bits) ℓ) : Prop :=
  True

def Pre_Proj16KernelIdeal (m : (ℓ : Loc Cert.Proj16KernelIdeal.nD Cert.Proj16KernelIdeal.τ Cert.Proj16KernelIdeal.sig) → Buf (Elt Ideal) ℓ) : Prop :=
  True

def Pre_Proj16ReferenceIdeal (m : (ℓ : Loc Cert.Proj16ReferenceIdeal.nD Cert.Proj16ReferenceIdeal.τ Cert.Proj16ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6)
      ∧ r.2.mem ((c.tc : Thread Cert.FfnKernel.nD Cert.FfnKernel.τ).loc Cert.FfnKernel.main_arg7) = m ((c.tc : Thread Cert.FfnKernel.nD Cert.FfnKernel.τ).loc Cert.FfnKernel.main_arg7))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_DilFfnKernel [hDilFfnKernel : Cert.DilFfnKernel.Facts] : Prop :=
  ∀ (m : (ℓ : Loc Cert.DilFfnKernel.nD Cert.DilFfnKernel.τ Cert.DilFfnKernel.sig) → Buf (Elt Bits) ℓ) (g : Dev Cert.DilFfnKernel.nD → PrngReg), Pre_DilFfnKernel m →
    θ_run (Cert.DilFfnKernel.defs (F := Bits)) (onTc (τ := Cert.DilFfnKernel.τ) (Cert.DilFfnKernel.main (F := Bits))) ⟨m, fun _ => 0, g⟩ (fun r => (∀ c : Dev Cert.DilFfnKernel.nD,
      r.2.mem ((c.tc : Thread Cert.DilFfnKernel.nD Cert.DilFfnKernel.τ).loc Cert.DilFfnKernel.main_arg0) = m ((c.tc : Thread Cert.DilFfnKernel.nD Cert.DilFfnKernel.τ).loc Cert.DilFfnKernel.main_arg0)
      ∧ r.2.mem ((c.tc : Thread Cert.DilFfnKernel.nD Cert.DilFfnKernel.τ).loc Cert.DilFfnKernel.main_arg1) = m ((c.tc : Thread Cert.DilFfnKernel.nD Cert.DilFfnKernel.τ).loc Cert.DilFfnKernel.main_arg1)
      ∧ r.2.mem ((c.tc : Thread Cert.DilFfnKernel.nD Cert.DilFfnKernel.τ).loc Cert.DilFfnKernel.main_arg2) = m ((c.tc : Thread Cert.DilFfnKernel.nD Cert.DilFfnKernel.τ).loc Cert.DilFfnKernel.main_arg2)
      ∧ r.2.mem ((c.tc : Thread Cert.DilFfnKernel.nD Cert.DilFfnKernel.τ).loc Cert.DilFfnKernel.main_arg3) = m ((c.tc : Thread Cert.DilFfnKernel.nD Cert.DilFfnKernel.τ).loc Cert.DilFfnKernel.main_arg3)
      ∧ r.2.mem ((c.tc : Thread Cert.DilFfnKernel.nD Cert.DilFfnKernel.τ).loc Cert.DilFfnKernel.main_arg4) = m ((c.tc : Thread Cert.DilFfnKernel.nD Cert.DilFfnKernel.τ).loc Cert.DilFfnKernel.main_arg4)
      ∧ r.2.mem ((c.tc : Thread Cert.DilFfnKernel.nD Cert.DilFfnKernel.τ).loc Cert.DilFfnKernel.main_arg5) = m ((c.tc : Thread Cert.DilFfnKernel.nD Cert.DilFfnKernel.τ).loc Cert.DilFfnKernel.main_arg5)
      ∧ r.2.mem ((c.tc : Thread Cert.DilFfnKernel.nD Cert.DilFfnKernel.τ).loc Cert.DilFfnKernel.main_arg6) = m ((c.tc : Thread Cert.DilFfnKernel.nD Cert.DilFfnKernel.τ).loc Cert.DilFfnKernel.main_arg6)
      ∧ r.2.mem ((c.tc : Thread Cert.DilFfnKernel.nD Cert.DilFfnKernel.τ).loc Cert.DilFfnKernel.main_arg7) = m ((c.tc : Thread Cert.DilFfnKernel.nD Cert.DilFfnKernel.τ).loc Cert.DilFfnKernel.main_arg7)
      ∧ r.2.mem ((c.tc : Thread Cert.DilFfnKernel.nD Cert.DilFfnKernel.τ).loc Cert.DilFfnKernel.main_arg8) = m ((c.tc : Thread Cert.DilFfnKernel.nD Cert.DilFfnKernel.τ).loc Cert.DilFfnKernel.main_arg8)
      ∧ r.2.mem ((c.tc : Thread Cert.DilFfnKernel.nD Cert.DilFfnKernel.τ).loc Cert.DilFfnKernel.main_arg9) = m ((c.tc : Thread Cert.DilFfnKernel.nD Cert.DilFfnKernel.τ).loc Cert.DilFfnKernel.main_arg9)
      ∧ r.2.mem ((c.tc : Thread Cert.DilFfnKernel.nD Cert.DilFfnKernel.τ).loc Cert.DilFfnKernel.main_arg10) = m ((c.tc : Thread Cert.DilFfnKernel.nD Cert.DilFfnKernel.τ).loc Cert.DilFfnKernel.main_arg10)
      ∧ r.2.mem ((c.tc : Thread Cert.DilFfnKernel.nD Cert.DilFfnKernel.τ).loc Cert.DilFfnKernel.main_arg11) = m ((c.tc : Thread Cert.DilFfnKernel.nD Cert.DilFfnKernel.τ).loc Cert.DilFfnKernel.main_arg11)
      ∧ r.2.mem ((c.tc : Thread Cert.DilFfnKernel.nD Cert.DilFfnKernel.τ).loc Cert.DilFfnKernel.main_arg12) = m ((c.tc : Thread Cert.DilFfnKernel.nD Cert.DilFfnKernel.τ).loc Cert.DilFfnKernel.main_arg12))
      ∧ r.2.sem = fun _ => 0)

def quiescent_DilFfnKernelIdeal [hDilFfnKernelIdeal : Cert.DilFfnKernelIdeal.Facts] : Prop :=
  ∀ (m : (ℓ : Loc Cert.DilFfnKernelIdeal.nD Cert.DilFfnKernelIdeal.τ Cert.DilFfnKernelIdeal.sig) → Buf (Elt Ideal) ℓ) (g : Dev Cert.DilFfnKernelIdeal.nD → PrngReg), Pre_DilFfnKernelIdeal m →
    θ_run (Cert.DilFfnKernelIdeal.defs (F := Ideal)) (onTc (τ := Cert.DilFfnKernelIdeal.τ) (Cert.DilFfnKernelIdeal.main (F := Ideal))) ⟨m, fun _ => 0, g⟩ (fun r => (∀ c : Dev Cert.DilFfnKernelIdeal.nD,
      r.2.mem ((c.tc : Thread Cert.DilFfnKernelIdeal.nD Cert.DilFfnKernelIdeal.τ).loc Cert.DilFfnKernelIdeal.main_arg0) = m ((c.tc : Thread Cert.DilFfnKernelIdeal.nD Cert.DilFfnKernelIdeal.τ).loc Cert.DilFfnKernelIdeal.main_arg0)
      ∧ r.2.mem ((c.tc : Thread Cert.DilFfnKernelIdeal.nD Cert.DilFfnKernelIdeal.τ).loc Cert.DilFfnKernelIdeal.main_arg1) = m ((c.tc : Thread Cert.DilFfnKernelIdeal.nD Cert.DilFfnKernelIdeal.τ).loc Cert.DilFfnKernelIdeal.main_arg1)
      ∧ r.2.mem ((c.tc : Thread Cert.DilFfnKernelIdeal.nD Cert.DilFfnKernelIdeal.τ).loc Cert.DilFfnKernelIdeal.main_arg2) = m ((c.tc : Thread Cert.DilFfnKernelIdeal.nD Cert.DilFfnKernelIdeal.τ).loc Cert.DilFfnKernelIdeal.main_arg2)
      ∧ r.2.mem ((c.tc : Thread Cert.DilFfnKernelIdeal.nD Cert.DilFfnKernelIdeal.τ).loc Cert.DilFfnKernelIdeal.main_arg3) = m ((c.tc : Thread Cert.DilFfnKernelIdeal.nD Cert.DilFfnKernelIdeal.τ).loc Cert.DilFfnKernelIdeal.main_arg3)
      ∧ r.2.mem ((c.tc : Thread Cert.DilFfnKernelIdeal.nD Cert.DilFfnKernelIdeal.τ).loc Cert.DilFfnKernelIdeal.main_arg4) = m ((c.tc : Thread Cert.DilFfnKernelIdeal.nD Cert.DilFfnKernelIdeal.τ).loc Cert.DilFfnKernelIdeal.main_arg4)
      ∧ r.2.mem ((c.tc : Thread Cert.DilFfnKernelIdeal.nD Cert.DilFfnKernelIdeal.τ).loc Cert.DilFfnKernelIdeal.main_arg5) = m ((c.tc : Thread Cert.DilFfnKernelIdeal.nD Cert.DilFfnKernelIdeal.τ).loc Cert.DilFfnKernelIdeal.main_arg5)
      ∧ r.2.mem ((c.tc : Thread Cert.DilFfnKernelIdeal.nD Cert.DilFfnKernelIdeal.τ).loc Cert.DilFfnKernelIdeal.main_arg6) = m ((c.tc : Thread Cert.DilFfnKernelIdeal.nD Cert.DilFfnKernelIdeal.τ).loc Cert.DilFfnKernelIdeal.main_arg6)
      ∧ r.2.mem ((c.tc : Thread Cert.DilFfnKernelIdeal.nD Cert.DilFfnKernelIdeal.τ).loc Cert.DilFfnKernelIdeal.main_arg7) = m ((c.tc : Thread Cert.DilFfnKernelIdeal.nD Cert.DilFfnKernelIdeal.τ).loc Cert.DilFfnKernelIdeal.main_arg7)
      ∧ r.2.mem ((c.tc : Thread Cert.DilFfnKernelIdeal.nD Cert.DilFfnKernelIdeal.τ).loc Cert.DilFfnKernelIdeal.main_arg8) = m ((c.tc : Thread Cert.DilFfnKernelIdeal.nD Cert.DilFfnKernelIdeal.τ).loc Cert.DilFfnKernelIdeal.main_arg8)
      ∧ r.2.mem ((c.tc : Thread Cert.DilFfnKernelIdeal.nD Cert.DilFfnKernelIdeal.τ).loc Cert.DilFfnKernelIdeal.main_arg9) = m ((c.tc : Thread Cert.DilFfnKernelIdeal.nD Cert.DilFfnKernelIdeal.τ).loc Cert.DilFfnKernelIdeal.main_arg9)
      ∧ r.2.mem ((c.tc : Thread Cert.DilFfnKernelIdeal.nD Cert.DilFfnKernelIdeal.τ).loc Cert.DilFfnKernelIdeal.main_arg10) = m ((c.tc : Thread Cert.DilFfnKernelIdeal.nD Cert.DilFfnKernelIdeal.τ).loc Cert.DilFfnKernelIdeal.main_arg10)
      ∧ r.2.mem ((c.tc : Thread Cert.DilFfnKernelIdeal.nD Cert.DilFfnKernelIdeal.τ).loc Cert.DilFfnKernelIdeal.main_arg11) = m ((c.tc : Thread Cert.DilFfnKernelIdeal.nD Cert.DilFfnKernelIdeal.τ).loc Cert.DilFfnKernelIdeal.main_arg11)
      ∧ r.2.mem ((c.tc : Thread Cert.DilFfnKernelIdeal.nD Cert.DilFfnKernelIdeal.τ).loc Cert.DilFfnKernelIdeal.main_arg12) = m ((c.tc : Thread Cert.DilFfnKernelIdeal.nD Cert.DilFfnKernelIdeal.τ).loc Cert.DilFfnKernelIdeal.main_arg12))
      ∧ r.2.sem = fun _ => 0)

def quiescent_DilFfnReferenceIdeal [hDilFfnReferenceIdeal : Cert.DilFfnReferenceIdeal.Facts] : Prop :=
  ∀ (m : (ℓ : Loc Cert.DilFfnReferenceIdeal.nD Cert.DilFfnReferenceIdeal.τ Cert.DilFfnReferenceIdeal.sig) → Buf (Elt Ideal) ℓ) (g : Dev Cert.DilFfnReferenceIdeal.nD → PrngReg), Pre_DilFfnReferenceIdeal m →
    θ_run (Cert.DilFfnReferenceIdeal.defs (F := Ideal)) (onTc (τ := Cert.DilFfnReferenceIdeal.τ) (Cert.DilFfnReferenceIdeal.main (F := Ideal))) ⟨m, fun _ => 0, g⟩ (fun r => (∀ c : Dev Cert.DilFfnReferenceIdeal.nD,
      r.2.mem ((c.tc : Thread Cert.DilFfnReferenceIdeal.nD Cert.DilFfnReferenceIdeal.τ).loc Cert.DilFfnReferenceIdeal.main_arg0) = m ((c.tc : Thread Cert.DilFfnReferenceIdeal.nD Cert.DilFfnReferenceIdeal.τ).loc Cert.DilFfnReferenceIdeal.main_arg0)
      ∧ r.2.mem ((c.tc : Thread Cert.DilFfnReferenceIdeal.nD Cert.DilFfnReferenceIdeal.τ).loc Cert.DilFfnReferenceIdeal.main_arg1) = m ((c.tc : Thread Cert.DilFfnReferenceIdeal.nD Cert.DilFfnReferenceIdeal.τ).loc Cert.DilFfnReferenceIdeal.main_arg1)
      ∧ r.2.mem ((c.tc : Thread Cert.DilFfnReferenceIdeal.nD Cert.DilFfnReferenceIdeal.τ).loc Cert.DilFfnReferenceIdeal.main_arg2) = m ((c.tc : Thread Cert.DilFfnReferenceIdeal.nD Cert.DilFfnReferenceIdeal.τ).loc Cert.DilFfnReferenceIdeal.main_arg2)
      ∧ r.2.mem ((c.tc : Thread Cert.DilFfnReferenceIdeal.nD Cert.DilFfnReferenceIdeal.τ).loc Cert.DilFfnReferenceIdeal.main_arg3) = m ((c.tc : Thread Cert.DilFfnReferenceIdeal.nD Cert.DilFfnReferenceIdeal.τ).loc Cert.DilFfnReferenceIdeal.main_arg3)
      ∧ r.2.mem ((c.tc : Thread Cert.DilFfnReferenceIdeal.nD Cert.DilFfnReferenceIdeal.τ).loc Cert.DilFfnReferenceIdeal.main_arg4) = m ((c.tc : Thread Cert.DilFfnReferenceIdeal.nD Cert.DilFfnReferenceIdeal.τ).loc Cert.DilFfnReferenceIdeal.main_arg4)
      ∧ r.2.mem ((c.tc : Thread Cert.DilFfnReferenceIdeal.nD Cert.DilFfnReferenceIdeal.τ).loc Cert.DilFfnReferenceIdeal.main_arg5) = m ((c.tc : Thread Cert.DilFfnReferenceIdeal.nD Cert.DilFfnReferenceIdeal.τ).loc Cert.DilFfnReferenceIdeal.main_arg5)
      ∧ r.2.mem ((c.tc : Thread Cert.DilFfnReferenceIdeal.nD Cert.DilFfnReferenceIdeal.τ).loc Cert.DilFfnReferenceIdeal.main_arg6) = m ((c.tc : Thread Cert.DilFfnReferenceIdeal.nD Cert.DilFfnReferenceIdeal.τ).loc Cert.DilFfnReferenceIdeal.main_arg6)
      ∧ r.2.mem ((c.tc : Thread Cert.DilFfnReferenceIdeal.nD Cert.DilFfnReferenceIdeal.τ).loc Cert.DilFfnReferenceIdeal.main_arg7) = m ((c.tc : Thread Cert.DilFfnReferenceIdeal.nD Cert.DilFfnReferenceIdeal.τ).loc Cert.DilFfnReferenceIdeal.main_arg7)
      ∧ r.2.mem ((c.tc : Thread Cert.DilFfnReferenceIdeal.nD Cert.DilFfnReferenceIdeal.τ).loc Cert.DilFfnReferenceIdeal.main_arg8) = m ((c.tc : Thread Cert.DilFfnReferenceIdeal.nD Cert.DilFfnReferenceIdeal.τ).loc Cert.DilFfnReferenceIdeal.main_arg8)
      ∧ r.2.mem ((c.tc : Thread Cert.DilFfnReferenceIdeal.nD Cert.DilFfnReferenceIdeal.τ).loc Cert.DilFfnReferenceIdeal.main_arg9) = m ((c.tc : Thread Cert.DilFfnReferenceIdeal.nD Cert.DilFfnReferenceIdeal.τ).loc Cert.DilFfnReferenceIdeal.main_arg9)
      ∧ r.2.mem ((c.tc : Thread Cert.DilFfnReferenceIdeal.nD Cert.DilFfnReferenceIdeal.τ).loc Cert.DilFfnReferenceIdeal.main_arg10) = m ((c.tc : Thread Cert.DilFfnReferenceIdeal.nD Cert.DilFfnReferenceIdeal.τ).loc Cert.DilFfnReferenceIdeal.main_arg10)
      ∧ r.2.mem ((c.tc : Thread Cert.DilFfnReferenceIdeal.nD Cert.DilFfnReferenceIdeal.τ).loc Cert.DilFfnReferenceIdeal.main_arg11) = m ((c.tc : Thread Cert.DilFfnReferenceIdeal.nD Cert.DilFfnReferenceIdeal.τ).loc Cert.DilFfnReferenceIdeal.main_arg11)
      ∧ r.2.mem ((c.tc : Thread Cert.DilFfnReferenceIdeal.nD Cert.DilFfnReferenceIdeal.τ).loc Cert.DilFfnReferenceIdeal.main_arg12) = m ((c.tc : Thread Cert.DilFfnReferenceIdeal.nD Cert.DilFfnReferenceIdeal.τ).loc Cert.DilFfnReferenceIdeal.main_arg12))
      ∧ r.2.sem = fun _ => 0)

def quiescent_Proj1Kernel [hProj1Kernel : Cert.Proj1Kernel.Facts] : Prop :=
  ∀ (m : (ℓ : Loc Cert.Proj1Kernel.nD Cert.Proj1Kernel.τ Cert.Proj1Kernel.sig) → Buf (Elt Bits) ℓ) (g : Dev Cert.Proj1Kernel.nD → PrngReg), Pre_Proj1Kernel m →
    θ_run (Cert.Proj1Kernel.defs (F := Bits)) (onTc (τ := Cert.Proj1Kernel.τ) (Cert.Proj1Kernel.main (F := Bits))) ⟨m, fun _ => 0, g⟩ (fun r => (∀ c : Dev Cert.Proj1Kernel.nD,
      r.2.mem ((c.tc : Thread Cert.Proj1Kernel.nD Cert.Proj1Kernel.τ).loc Cert.Proj1Kernel.main_arg0) = m ((c.tc : Thread Cert.Proj1Kernel.nD Cert.Proj1Kernel.τ).loc Cert.Proj1Kernel.main_arg0)
      ∧ r.2.mem ((c.tc : Thread Cert.Proj1Kernel.nD Cert.Proj1Kernel.τ).loc Cert.Proj1Kernel.main_arg1) = m ((c.tc : Thread Cert.Proj1Kernel.nD Cert.Proj1Kernel.τ).loc Cert.Proj1Kernel.main_arg1)
      ∧ r.2.mem ((c.tc : Thread Cert.Proj1Kernel.nD Cert.Proj1Kernel.τ).loc Cert.Proj1Kernel.main_arg2) = m ((c.tc : Thread Cert.Proj1Kernel.nD Cert.Proj1Kernel.τ).loc Cert.Proj1Kernel.main_arg2)
      ∧ r.2.mem ((c.tc : Thread Cert.Proj1Kernel.nD Cert.Proj1Kernel.τ).loc Cert.Proj1Kernel.main_arg3) = m ((c.tc : Thread Cert.Proj1Kernel.nD Cert.Proj1Kernel.τ).loc Cert.Proj1Kernel.main_arg3)
      ∧ r.2.mem ((c.tc : Thread Cert.Proj1Kernel.nD Cert.Proj1Kernel.τ).loc Cert.Proj1Kernel.main_arg4) = m ((c.tc : Thread Cert.Proj1Kernel.nD Cert.Proj1Kernel.τ).loc Cert.Proj1Kernel.main_arg4))
      ∧ r.2.sem = fun _ => 0)

def quiescent_Proj1KernelIdeal [hProj1KernelIdeal : Cert.Proj1KernelIdeal.Facts] : Prop :=
  ∀ (m : (ℓ : Loc Cert.Proj1KernelIdeal.nD Cert.Proj1KernelIdeal.τ Cert.Proj1KernelIdeal.sig) → Buf (Elt Ideal) ℓ) (g : Dev Cert.Proj1KernelIdeal.nD → PrngReg), Pre_Proj1KernelIdeal m →
    θ_run (Cert.Proj1KernelIdeal.defs (F := Ideal)) (onTc (τ := Cert.Proj1KernelIdeal.τ) (Cert.Proj1KernelIdeal.main (F := Ideal))) ⟨m, fun _ => 0, g⟩ (fun r => (∀ c : Dev Cert.Proj1KernelIdeal.nD,
      r.2.mem ((c.tc : Thread Cert.Proj1KernelIdeal.nD Cert.Proj1KernelIdeal.τ).loc Cert.Proj1KernelIdeal.main_arg0) = m ((c.tc : Thread Cert.Proj1KernelIdeal.nD Cert.Proj1KernelIdeal.τ).loc Cert.Proj1KernelIdeal.main_arg0)
      ∧ r.2.mem ((c.tc : Thread Cert.Proj1KernelIdeal.nD Cert.Proj1KernelIdeal.τ).loc Cert.Proj1KernelIdeal.main_arg1) = m ((c.tc : Thread Cert.Proj1KernelIdeal.nD Cert.Proj1KernelIdeal.τ).loc Cert.Proj1KernelIdeal.main_arg1)
      ∧ r.2.mem ((c.tc : Thread Cert.Proj1KernelIdeal.nD Cert.Proj1KernelIdeal.τ).loc Cert.Proj1KernelIdeal.main_arg2) = m ((c.tc : Thread Cert.Proj1KernelIdeal.nD Cert.Proj1KernelIdeal.τ).loc Cert.Proj1KernelIdeal.main_arg2)
      ∧ r.2.mem ((c.tc : Thread Cert.Proj1KernelIdeal.nD Cert.Proj1KernelIdeal.τ).loc Cert.Proj1KernelIdeal.main_arg3) = m ((c.tc : Thread Cert.Proj1KernelIdeal.nD Cert.Proj1KernelIdeal.τ).loc Cert.Proj1KernelIdeal.main_arg3)
      ∧ r.2.mem ((c.tc : Thread Cert.Proj1KernelIdeal.nD Cert.Proj1KernelIdeal.τ).loc Cert.Proj1KernelIdeal.main_arg4) = m ((c.tc : Thread Cert.Proj1KernelIdeal.nD Cert.Proj1KernelIdeal.τ).loc Cert.Proj1KernelIdeal.main_arg4))
      ∧ r.2.sem = fun _ => 0)

def quiescent_Proj1ReferenceIdeal [hProj1ReferenceIdeal : Cert.Proj1ReferenceIdeal.Facts] : Prop :=
  ∀ (m : (ℓ : Loc Cert.Proj1ReferenceIdeal.nD Cert.Proj1ReferenceIdeal.τ Cert.Proj1ReferenceIdeal.sig) → Buf (Elt Ideal) ℓ) (g : Dev Cert.Proj1ReferenceIdeal.nD → PrngReg), Pre_Proj1ReferenceIdeal m →
    θ_run (Cert.Proj1ReferenceIdeal.defs (F := Ideal)) (onTc (τ := Cert.Proj1ReferenceIdeal.τ) (Cert.Proj1ReferenceIdeal.main (F := Ideal))) ⟨m, fun _ => 0, g⟩ (fun r => (∀ c : Dev Cert.Proj1ReferenceIdeal.nD,
      r.2.mem ((c.tc : Thread Cert.Proj1ReferenceIdeal.nD Cert.Proj1ReferenceIdeal.τ).loc Cert.Proj1ReferenceIdeal.main_arg0) = m ((c.tc : Thread Cert.Proj1ReferenceIdeal.nD Cert.Proj1ReferenceIdeal.τ).loc Cert.Proj1ReferenceIdeal.main_arg0)
      ∧ r.2.mem ((c.tc : Thread Cert.Proj1ReferenceIdeal.nD Cert.Proj1ReferenceIdeal.τ).loc Cert.Proj1ReferenceIdeal.main_arg1) = m ((c.tc : Thread Cert.Proj1ReferenceIdeal.nD Cert.Proj1ReferenceIdeal.τ).loc Cert.Proj1ReferenceIdeal.main_arg1)
      ∧ r.2.mem ((c.tc : Thread Cert.Proj1ReferenceIdeal.nD Cert.Proj1ReferenceIdeal.τ).loc Cert.Proj1ReferenceIdeal.main_arg2) = m ((c.tc : Thread Cert.Proj1ReferenceIdeal.nD Cert.Proj1ReferenceIdeal.τ).loc Cert.Proj1ReferenceIdeal.main_arg2)
      ∧ r.2.mem ((c.tc : Thread Cert.Proj1ReferenceIdeal.nD Cert.Proj1ReferenceIdeal.τ).loc Cert.Proj1ReferenceIdeal.main_arg3) = m ((c.tc : Thread Cert.Proj1ReferenceIdeal.nD Cert.Proj1ReferenceIdeal.τ).loc Cert.Proj1ReferenceIdeal.main_arg3)
      ∧ r.2.mem ((c.tc : Thread Cert.Proj1ReferenceIdeal.nD Cert.Proj1ReferenceIdeal.τ).loc Cert.Proj1ReferenceIdeal.main_arg4) = m ((c.tc : Thread Cert.Proj1ReferenceIdeal.nD Cert.Proj1ReferenceIdeal.τ).loc Cert.Proj1ReferenceIdeal.main_arg4))
      ∧ r.2.sem = fun _ => 0)

def quiescent_Proj4Kernel [hProj4Kernel : Cert.Proj4Kernel.Facts] : Prop :=
  ∀ (m : (ℓ : Loc Cert.Proj4Kernel.nD Cert.Proj4Kernel.τ Cert.Proj4Kernel.sig) → Buf (Elt Bits) ℓ) (g : Dev Cert.Proj4Kernel.nD → PrngReg), Pre_Proj4Kernel m →
    θ_run (Cert.Proj4Kernel.defs (F := Bits)) (onTc (τ := Cert.Proj4Kernel.τ) (Cert.Proj4Kernel.main (F := Bits))) ⟨m, fun _ => 0, g⟩ (fun r => (∀ c : Dev Cert.Proj4Kernel.nD,
      r.2.mem ((c.tc : Thread Cert.Proj4Kernel.nD Cert.Proj4Kernel.τ).loc Cert.Proj4Kernel.main_arg0) = m ((c.tc : Thread Cert.Proj4Kernel.nD Cert.Proj4Kernel.τ).loc Cert.Proj4Kernel.main_arg0)
      ∧ r.2.mem ((c.tc : Thread Cert.Proj4Kernel.nD Cert.Proj4Kernel.τ).loc Cert.Proj4Kernel.main_arg1) = m ((c.tc : Thread Cert.Proj4Kernel.nD Cert.Proj4Kernel.τ).loc Cert.Proj4Kernel.main_arg1)
      ∧ r.2.mem ((c.tc : Thread Cert.Proj4Kernel.nD Cert.Proj4Kernel.τ).loc Cert.Proj4Kernel.main_arg2) = m ((c.tc : Thread Cert.Proj4Kernel.nD Cert.Proj4Kernel.τ).loc Cert.Proj4Kernel.main_arg2)
      ∧ r.2.mem ((c.tc : Thread Cert.Proj4Kernel.nD Cert.Proj4Kernel.τ).loc Cert.Proj4Kernel.main_arg3) = m ((c.tc : Thread Cert.Proj4Kernel.nD Cert.Proj4Kernel.τ).loc Cert.Proj4Kernel.main_arg3)
      ∧ r.2.mem ((c.tc : Thread Cert.Proj4Kernel.nD Cert.Proj4Kernel.τ).loc Cert.Proj4Kernel.main_arg4) = m ((c.tc : Thread Cert.Proj4Kernel.nD Cert.Proj4Kernel.τ).loc Cert.Proj4Kernel.main_arg4))
      ∧ r.2.sem = fun _ => 0)

def quiescent_Proj4KernelIdeal [hProj4KernelIdeal : Cert.Proj4KernelIdeal.Facts] : Prop :=
  ∀ (m : (ℓ : Loc Cert.Proj4KernelIdeal.nD Cert.Proj4KernelIdeal.τ Cert.Proj4KernelIdeal.sig) → Buf (Elt Ideal) ℓ) (g : Dev Cert.Proj4KernelIdeal.nD → PrngReg), Pre_Proj4KernelIdeal m →
    θ_run (Cert.Proj4KernelIdeal.defs (F := Ideal)) (onTc (τ := Cert.Proj4KernelIdeal.τ) (Cert.Proj4KernelIdeal.main (F := Ideal))) ⟨m, fun _ => 0, g⟩ (fun r => (∀ c : Dev Cert.Proj4KernelIdeal.nD,
      r.2.mem ((c.tc : Thread Cert.Proj4KernelIdeal.nD Cert.Proj4KernelIdeal.τ).loc Cert.Proj4KernelIdeal.main_arg0) = m ((c.tc : Thread Cert.Proj4KernelIdeal.nD Cert.Proj4KernelIdeal.τ).loc Cert.Proj4KernelIdeal.main_arg0)
      ∧ r.2.mem ((c.tc : Thread Cert.Proj4KernelIdeal.nD Cert.Proj4KernelIdeal.τ).loc Cert.Proj4KernelIdeal.main_arg1) = m ((c.tc : Thread Cert.Proj4KernelIdeal.nD Cert.Proj4KernelIdeal.τ).loc Cert.Proj4KernelIdeal.main_arg1)
      ∧ r.2.mem ((c.tc : Thread Cert.Proj4KernelIdeal.nD Cert.Proj4KernelIdeal.τ).loc Cert.Proj4KernelIdeal.main_arg2) = m ((c.tc : Thread Cert.Proj4KernelIdeal.nD Cert.Proj4KernelIdeal.τ).loc Cert.Proj4KernelIdeal.main_arg2)
      ∧ r.2.mem ((c.tc : Thread Cert.Proj4KernelIdeal.nD Cert.Proj4KernelIdeal.τ).loc Cert.Proj4KernelIdeal.main_arg3) = m ((c.tc : Thread Cert.Proj4KernelIdeal.nD Cert.Proj4KernelIdeal.τ).loc Cert.Proj4KernelIdeal.main_arg3)
      ∧ r.2.mem ((c.tc : Thread Cert.Proj4KernelIdeal.nD Cert.Proj4KernelIdeal.τ).loc Cert.Proj4KernelIdeal.main_arg4) = m ((c.tc : Thread Cert.Proj4KernelIdeal.nD Cert.Proj4KernelIdeal.τ).loc Cert.Proj4KernelIdeal.main_arg4))
      ∧ r.2.sem = fun _ => 0)

def quiescent_Proj4ReferenceIdeal [hProj4ReferenceIdeal : Cert.Proj4ReferenceIdeal.Facts] : Prop :=
  ∀ (m : (ℓ : Loc Cert.Proj4ReferenceIdeal.nD Cert.Proj4ReferenceIdeal.τ Cert.Proj4ReferenceIdeal.sig) → Buf (Elt Ideal) ℓ) (g : Dev Cert.Proj4ReferenceIdeal.nD → PrngReg), Pre_Proj4ReferenceIdeal m →
    θ_run (Cert.Proj4ReferenceIdeal.defs (F := Ideal)) (onTc (τ := Cert.Proj4ReferenceIdeal.τ) (Cert.Proj4ReferenceIdeal.main (F := Ideal))) ⟨m, fun _ => 0, g⟩ (fun r => (∀ c : Dev Cert.Proj4ReferenceIdeal.nD,
      r.2.mem ((c.tc : Thread Cert.Proj4ReferenceIdeal.nD Cert.Proj4ReferenceIdeal.τ).loc Cert.Proj4ReferenceIdeal.main_arg0) = m ((c.tc : Thread Cert.Proj4ReferenceIdeal.nD Cert.Proj4ReferenceIdeal.τ).loc Cert.Proj4ReferenceIdeal.main_arg0)
      ∧ r.2.mem ((c.tc : Thread Cert.Proj4ReferenceIdeal.nD Cert.Proj4ReferenceIdeal.τ).loc Cert.Proj4ReferenceIdeal.main_arg1) = m ((c.tc : Thread Cert.Proj4ReferenceIdeal.nD Cert.Proj4ReferenceIdeal.τ).loc Cert.Proj4ReferenceIdeal.main_arg1)
      ∧ r.2.mem ((c.tc : Thread Cert.Proj4ReferenceIdeal.nD Cert.Proj4ReferenceIdeal.τ).loc Cert.Proj4ReferenceIdeal.main_arg2) = m ((c.tc : Thread Cert.Proj4ReferenceIdeal.nD Cert.Proj4ReferenceIdeal.τ).loc Cert.Proj4ReferenceIdeal.main_arg2)
      ∧ r.2.mem ((c.tc : Thread Cert.Proj4ReferenceIdeal.nD Cert.Proj4ReferenceIdeal.τ).loc Cert.Proj4ReferenceIdeal.main_arg3) = m ((c.tc : Thread Cert.Proj4ReferenceIdeal.nD Cert.Proj4ReferenceIdeal.τ).loc Cert.Proj4ReferenceIdeal.main_arg3)
      ∧ r.2.mem ((c.tc : Thread Cert.Proj4ReferenceIdeal.nD Cert.Proj4ReferenceIdeal.τ).loc Cert.Proj4ReferenceIdeal.main_arg4) = m ((c.tc : Thread Cert.Proj4ReferenceIdeal.nD Cert.Proj4ReferenceIdeal.τ).loc Cert.Proj4ReferenceIdeal.main_arg4))
      ∧ r.2.sem = fun _ => 0)

def quiescent_Proj16Kernel [hProj16Kernel : Cert.Proj16Kernel.Facts] : Prop :=
  ∀ (m : (ℓ : Loc Cert.Proj16Kernel.nD Cert.Proj16Kernel.τ Cert.Proj16Kernel.sig) → Buf (Elt Bits) ℓ) (g : Dev Cert.Proj16Kernel.nD → PrngReg), Pre_Proj16Kernel m →
    θ_run (Cert.Proj16Kernel.defs (F := Bits)) (onTc (τ := Cert.Proj16Kernel.τ) (Cert.Proj16Kernel.main (F := Bits))) ⟨m, fun _ => 0, g⟩ (fun r => (∀ c : Dev Cert.Proj16Kernel.nD,
      r.2.mem ((c.tc : Thread Cert.Proj16Kernel.nD Cert.Proj16Kernel.τ).loc Cert.Proj16Kernel.main_arg0) = m ((c.tc : Thread Cert.Proj16Kernel.nD Cert.Proj16Kernel.τ).loc Cert.Proj16Kernel.main_arg0)
      ∧ r.2.mem ((c.tc : Thread Cert.Proj16Kernel.nD Cert.Proj16Kernel.τ).loc Cert.Proj16Kernel.main_arg1) = m ((c.tc : Thread Cert.Proj16Kernel.nD Cert.Proj16Kernel.τ).loc Cert.Proj16Kernel.main_arg1)
      ∧ r.2.mem ((c.tc : Thread Cert.Proj16Kernel.nD Cert.Proj16Kernel.τ).loc Cert.Proj16Kernel.main_arg2) = m ((c.tc : Thread Cert.Proj16Kernel.nD Cert.Proj16Kernel.τ).loc Cert.Proj16Kernel.main_arg2)
      ∧ r.2.mem ((c.tc : Thread Cert.Proj16Kernel.nD Cert.Proj16Kernel.τ).loc Cert.Proj16Kernel.main_arg3) = m ((c.tc : Thread Cert.Proj16Kernel.nD Cert.Proj16Kernel.τ).loc Cert.Proj16Kernel.main_arg3)
      ∧ r.2.mem ((c.tc : Thread Cert.Proj16Kernel.nD Cert.Proj16Kernel.τ).loc Cert.Proj16Kernel.main_arg4) = m ((c.tc : Thread Cert.Proj16Kernel.nD Cert.Proj16Kernel.τ).loc Cert.Proj16Kernel.main_arg4))
      ∧ r.2.sem = fun _ => 0)

def quiescent_Proj16KernelIdeal [hProj16KernelIdeal : Cert.Proj16KernelIdeal.Facts] : Prop :=
  ∀ (m : (ℓ : Loc Cert.Proj16KernelIdeal.nD Cert.Proj16KernelIdeal.τ Cert.Proj16KernelIdeal.sig) → Buf (Elt Ideal) ℓ) (g : Dev Cert.Proj16KernelIdeal.nD → PrngReg), Pre_Proj16KernelIdeal m →
    θ_run (Cert.Proj16KernelIdeal.defs (F := Ideal)) (onTc (τ := Cert.Proj16KernelIdeal.τ) (Cert.Proj16KernelIdeal.main (F := Ideal))) ⟨m, fun _ => 0, g⟩ (fun r => (∀ c : Dev Cert.Proj16KernelIdeal.nD,
      r.2.mem ((c.tc : Thread Cert.Proj16KernelIdeal.nD Cert.Proj16KernelIdeal.τ).loc Cert.Proj16KernelIdeal.main_arg0) = m ((c.tc : Thread Cert.Proj16KernelIdeal.nD Cert.Proj16KernelIdeal.τ).loc Cert.Proj16KernelIdeal.main_arg0)
      ∧ r.2.mem ((c.tc : Thread Cert.Proj16KernelIdeal.nD Cert.Proj16KernelIdeal.τ).loc Cert.Proj16KernelIdeal.main_arg1) = m ((c.tc : Thread Cert.Proj16KernelIdeal.nD Cert.Proj16KernelIdeal.τ).loc Cert.Proj16KernelIdeal.main_arg1)
      ∧ r.2.mem ((c.tc : Thread Cert.Proj16KernelIdeal.nD Cert.Proj16KernelIdeal.τ).loc Cert.Proj16KernelIdeal.main_arg2) = m ((c.tc : Thread Cert.Proj16KernelIdeal.nD Cert.Proj16KernelIdeal.τ).loc Cert.Proj16KernelIdeal.main_arg2)
      ∧ r.2.mem ((c.tc : Thread Cert.Proj16KernelIdeal.nD Cert.Proj16KernelIdeal.τ).loc Cert.Proj16KernelIdeal.main_arg3) = m ((c.tc : Thread Cert.Proj16KernelIdeal.nD Cert.Proj16KernelIdeal.τ).loc Cert.Proj16KernelIdeal.main_arg3)
      ∧ r.2.mem ((c.tc : Thread Cert.Proj16KernelIdeal.nD Cert.Proj16KernelIdeal.τ).loc Cert.Proj16KernelIdeal.main_arg4) = m ((c.tc : Thread Cert.Proj16KernelIdeal.nD Cert.Proj16KernelIdeal.τ).loc Cert.Proj16KernelIdeal.main_arg4))
      ∧ r.2.sem = fun _ => 0)

def quiescent_Proj16ReferenceIdeal [hProj16ReferenceIdeal : Cert.Proj16ReferenceIdeal.Facts] : Prop :=
  ∀ (m : (ℓ : Loc Cert.Proj16ReferenceIdeal.nD Cert.Proj16ReferenceIdeal.τ Cert.Proj16ReferenceIdeal.sig) → Buf (Elt Ideal) ℓ) (g : Dev Cert.Proj16ReferenceIdeal.nD → PrngReg), Pre_Proj16ReferenceIdeal m →
    θ_run (Cert.Proj16ReferenceIdeal.defs (F := Ideal)) (onTc (τ := Cert.Proj16ReferenceIdeal.τ) (Cert.Proj16ReferenceIdeal.main (F := Ideal))) ⟨m, fun _ => 0, g⟩ (fun r => (∀ c : Dev Cert.Proj16ReferenceIdeal.nD,
      r.2.mem ((c.tc : Thread Cert.Proj16ReferenceIdeal.nD Cert.Proj16ReferenceIdeal.τ).loc Cert.Proj16ReferenceIdeal.main_arg0) = m ((c.tc : Thread Cert.Proj16ReferenceIdeal.nD Cert.Proj16ReferenceIdeal.τ).loc Cert.Proj16ReferenceIdeal.main_arg0)
      ∧ r.2.mem ((c.tc : Thread Cert.Proj16ReferenceIdeal.nD Cert.Proj16ReferenceIdeal.τ).loc Cert.Proj16ReferenceIdeal.main_arg1) = m ((c.tc : Thread Cert.Proj16ReferenceIdeal.nD Cert.Proj16ReferenceIdeal.τ).loc Cert.Proj16ReferenceIdeal.main_arg1)
      ∧ r.2.mem ((c.tc : Thread Cert.Proj16ReferenceIdeal.nD Cert.Proj16ReferenceIdeal.τ).loc Cert.Proj16ReferenceIdeal.main_arg2) = m ((c.tc : Thread Cert.Proj16ReferenceIdeal.nD Cert.Proj16ReferenceIdeal.τ).loc Cert.Proj16ReferenceIdeal.main_arg2)
      ∧ r.2.mem ((c.tc : Thread Cert.Proj16ReferenceIdeal.nD Cert.Proj16ReferenceIdeal.τ).loc Cert.Proj16ReferenceIdeal.main_arg3) = m ((c.tc : Thread Cert.Proj16ReferenceIdeal.nD Cert.Proj16ReferenceIdeal.τ).loc Cert.Proj16ReferenceIdeal.main_arg3)
      ∧ r.2.mem ((c.tc : Thread Cert.Proj16ReferenceIdeal.nD Cert.Proj16ReferenceIdeal.τ).loc Cert.Proj16ReferenceIdeal.main_arg4) = m ((c.tc : Thread Cert.Proj16ReferenceIdeal.nD Cert.Proj16ReferenceIdeal.τ).loc Cert.Proj16ReferenceIdeal.main_arg4))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "mask" .f32 0xF149F2CA#32 ⊥

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)
      ∧ m' ((c.tc : Thread Cert.FfnReferenceIdeal.nD Cert.FfnReferenceIdeal.τ).loc Cert.FfnReferenceIdeal.main_arg7) = m ((c.tc : Thread Cert.FfnKernelIdeal.nD Cert.FfnKernelIdeal.τ).loc Cert.FfnKernelIdeal.main_arg7)) →
    ∃ (v0 : (c : Dev Cert.FfnKernelIdeal.nD) → Buf (Elt Ideal) ((c.tc : Thread Cert.FfnKernelIdeal.nD Cert.FfnKernelIdeal.τ).loc Cert.FfnKernelIdeal.main_v7)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v7) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
          ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v47) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_DilFfnKernel_DilFfnKernelIdeal : Prop :=
  True

def preserves_Proj1Kernel_Proj1KernelIdeal : Prop :=
  True

def preserves_Proj4Kernel_Proj4KernelIdeal : Prop :=
  True

def preserves_Proj16Kernel_Proj16KernelIdeal : Prop :=
  True

def algebraic_DilFfnKernelIdeal_DilFfnReferenceIdeal [hDilFfnKernelIdeal : Cert.DilFfnKernelIdeal.Facts] [hDilFfnReferenceIdeal : Cert.DilFfnReferenceIdeal.Facts] : Prop :=
  ∀ (m : (ℓ : Loc Cert.DilFfnKernelIdeal.nD Cert.DilFfnKernelIdeal.τ Cert.DilFfnKernelIdeal.sig) → Buf (Elt Ideal) ℓ) (g : Dev Cert.DilFfnKernelIdeal.nD → PrngReg)
    (m' : (ℓ : Loc Cert.DilFfnReferenceIdeal.nD Cert.DilFfnReferenceIdeal.τ Cert.DilFfnReferenceIdeal.sig) → Buf (Elt Ideal) ℓ) (g' : Dev Cert.DilFfnReferenceIdeal.nD → PrngReg), Pre_DilFfnKernelIdeal m →
    (∀ c : Dev Cert.DilFfnKernelIdeal.nD,
      m' ((c.tc : Thread Cert.DilFfnReferenceIdeal.nD Cert.DilFfnReferenceIdeal.τ).loc Cert.DilFfnReferenceIdeal.main_arg0) = m ((c.tc : Thread Cert.DilFfnKernelIdeal.nD Cert.DilFfnKernelIdeal.τ).loc Cert.DilFfnKernelIdeal.main_arg0)
      ∧ m' ((c.tc : Thread Cert.DilFfnReferenceIdeal.nD Cert.DilFfnReferenceIdeal.τ).loc Cert.DilFfnReferenceIdeal.main_arg1) = m ((c.tc : Thread Cert.DilFfnKernelIdeal.nD Cert.DilFfnKernelIdeal.τ).loc Cert.DilFfnKernelIdeal.main_arg1)
      ∧ m' ((c.tc : Thread Cert.DilFfnReferenceIdeal.nD Cert.DilFfnReferenceIdeal.τ).loc Cert.DilFfnReferenceIdeal.main_arg2) = m ((c.tc : Thread Cert.DilFfnKernelIdeal.nD Cert.DilFfnKernelIdeal.τ).loc Cert.DilFfnKernelIdeal.main_arg2)
      ∧ m' ((c.tc : Thread Cert.DilFfnReferenceIdeal.nD Cert.DilFfnReferenceIdeal.τ).loc Cert.DilFfnReferenceIdeal.main_arg3) = m ((c.tc : Thread Cert.DilFfnKernelIdeal.nD Cert.DilFfnKernelIdeal.τ).loc Cert.DilFfnKernelIdeal.main_arg3)
      ∧ m' ((c.tc : Thread Cert.DilFfnReferenceIdeal.nD Cert.DilFfnReferenceIdeal.τ).loc Cert.DilFfnReferenceIdeal.main_arg4) = m ((c.tc : Thread Cert.DilFfnKernelIdeal.nD Cert.DilFfnKernelIdeal.τ).loc Cert.DilFfnKernelIdeal.main_arg4)
      ∧ m' ((c.tc : Thread Cert.DilFfnReferenceIdeal.nD Cert.DilFfnReferenceIdeal.τ).loc Cert.DilFfnReferenceIdeal.main_arg5) = m ((c.tc : Thread Cert.DilFfnKernelIdeal.nD Cert.DilFfnKernelIdeal.τ).loc Cert.DilFfnKernelIdeal.main_arg5)
      ∧ m' ((c.tc : Thread Cert.DilFfnReferenceIdeal.nD Cert.DilFfnReferenceIdeal.τ).loc Cert.DilFfnReferenceIdeal.main_arg6) = m ((c.tc : Thread Cert.DilFfnKernelIdeal.nD Cert.DilFfnKernelIdeal.τ).loc Cert.DilFfnKernelIdeal.main_arg6)
      ∧ m' ((c.tc : Thread Cert.DilFfnReferenceIdeal.nD Cert.DilFfnReferenceIdeal.τ).loc Cert.DilFfnReferenceIdeal.main_arg7) = m ((c.tc : Thread Cert.DilFfnKernelIdeal.nD Cert.DilFfnKernelIdeal.τ).loc Cert.DilFfnKernelIdeal.main_arg7)
      ∧ m' ((c.tc : Thread Cert.DilFfnReferenceIdeal.nD Cert.DilFfnReferenceIdeal.τ).loc Cert.DilFfnReferenceIdeal.main_arg8) = m ((c.tc : Thread Cert.DilFfnKernelIdeal.nD Cert.DilFfnKernelIdeal.τ).loc Cert.DilFfnKernelIdeal.main_arg8)
      ∧ m' ((c.tc : Thread Cert.DilFfnReferenceIdeal.nD Cert.DilFfnReferenceIdeal.τ).loc Cert.DilFfnReferenceIdeal.main_arg9) = m ((c.tc : Thread Cert.DilFfnKernelIdeal.nD Cert.DilFfnKernelIdeal.τ).loc Cert.DilFfnKernelIdeal.main_arg9)
      ∧ m' ((c.tc : Thread Cert.DilFfnReferenceIdeal.nD Cert.DilFfnReferenceIdeal.τ).loc Cert.DilFfnReferenceIdeal.main_arg10) = m ((c.tc : Thread Cert.DilFfnKernelIdeal.nD Cert.DilFfnKernelIdeal.τ).loc Cert.DilFfnKernelIdeal.main_arg10)
      ∧ m' ((c.tc : Thread Cert.DilFfnReferenceIdeal.nD Cert.DilFfnReferenceIdeal.τ).loc Cert.DilFfnReferenceIdeal.main_arg11) = m ((c.tc : Thread Cert.DilFfnKernelIdeal.nD Cert.DilFfnKernelIdeal.τ).loc Cert.DilFfnKernelIdeal.main_arg11)
      ∧ m' ((c.tc : Thread Cert.DilFfnReferenceIdeal.nD Cert.DilFfnReferenceIdeal.τ).loc Cert.DilFfnReferenceIdeal.main_arg12) = m ((c.tc : Thread Cert.DilFfnKernelIdeal.nD Cert.DilFfnKernelIdeal.τ).loc Cert.DilFfnKernelIdeal.main_arg12)) →
    ∃ (v0 : (c : Dev Cert.DilFfnKernelIdeal.nD) → Buf (Elt Ideal) ((c.tc : Thread Cert.DilFfnKernelIdeal.nD Cert.DilFfnKernelIdeal.τ).loc Cert.DilFfnKernelIdeal.main_v18)),
      θ_run (Cert.DilFfnKernelIdeal.defs (F := Ideal)) (onTc (τ := Cert.DilFfnKernelIdeal.τ) (Cert.DilFfnKernelIdeal.main (F := Ideal))) ⟨m, fun _ => 0, g⟩ (fun r => ∀ c : Dev Cert.DilFfnKernelIdeal.nD,
          r.2.mem ((c.tc : Thread Cert.DilFfnKernelIdeal.nD Cert.DilFfnKernelIdeal.τ).loc Cert.DilFfnKernelIdeal.main_v18) = v0 c
          ∧ r.2.mem ((c.tc : Thread Cert.DilFfnKernelIdeal.nD Cert.DilFfnKernelIdeal.τ).loc Cert.DilFfnKernelIdeal.main_arg0) = m ((c.tc : Thread Cert.DilFfnKernelIdeal.nD Cert.DilFfnKernelIdeal.τ).loc Cert.DilFfnKernelIdeal.main_arg0)
          ∧ r.2.mem ((c.tc : Thread Cert.DilFfnKernelIdeal.nD Cert.DilFfnKernelIdeal.τ).loc Cert.DilFfnKernelIdeal.main_arg1) = m ((c.tc : Thread Cert.DilFfnKernelIdeal.nD Cert.DilFfnKernelIdeal.τ).loc Cert.DilFfnKernelIdeal.main_arg1)
          ∧ r.2.mem ((c.tc : Thread Cert.DilFfnKernelIdeal.nD Cert.DilFfnKernelIdeal.τ).loc Cert.DilFfnKernelIdeal.main_arg2) = m ((c.tc : Thread Cert.DilFfnKernelIdeal.nD Cert.DilFfnKernelIdeal.τ).loc Cert.DilFfnKernelIdeal.main_arg2)
          ∧ r.2.mem ((c.tc : Thread Cert.DilFfnKernelIdeal.nD Cert.DilFfnKernelIdeal.τ).loc Cert.DilFfnKernelIdeal.main_arg3) = m ((c.tc : Thread Cert.DilFfnKernelIdeal.nD Cert.DilFfnKernelIdeal.τ).loc Cert.DilFfnKernelIdeal.main_arg3)
          ∧ r.2.mem ((c.tc : Thread Cert.DilFfnKernelIdeal.nD Cert.DilFfnKernelIdeal.τ).loc Cert.DilFfnKernelIdeal.main_arg4) = m ((c.tc : Thread Cert.DilFfnKernelIdeal.nD Cert.DilFfnKernelIdeal.τ).loc Cert.DilFfnKernelIdeal.main_arg4)
          ∧ r.2.mem ((c.tc : Thread Cert.DilFfnKernelIdeal.nD Cert.DilFfnKernelIdeal.τ).loc Cert.DilFfnKernelIdeal.main_arg5) = m ((c.tc : Thread Cert.DilFfnKernelIdeal.nD Cert.DilFfnKernelIdeal.τ).loc Cert.DilFfnKernelIdeal.main_arg5)
          ∧ r.2.mem ((c.tc : Thread Cert.DilFfnKernelIdeal.nD Cert.DilFfnKernelIdeal.τ).loc Cert.DilFfnKernelIdeal.main_arg6) = m ((c.tc : Thread Cert.DilFfnKernelIdeal.nD Cert.DilFfnKernelIdeal.τ).loc Cert.DilFfnKernelIdeal.main_arg6)
          ∧ r.2.mem ((c.tc : Thread Cert.DilFfnKernelIdeal.nD Cert.DilFfnKernelIdeal.τ).loc Cert.DilFfnKernelIdeal.main_arg7) = m ((c.tc : Thread Cert.DilFfnKernelIdeal.nD Cert.DilFfnKernelIdeal.τ).loc Cert.DilFfnKernelIdeal.main_arg7)
          ∧ r.2.mem ((c.tc : Thread Cert.DilFfnKernelIdeal.nD Cert.DilFfnKernelIdeal.τ).loc Cert.DilFfnKernelIdeal.main_arg8) = m ((c.tc : Thread Cert.DilFfnKernelIdeal.nD Cert.DilFfnKernelIdeal.τ).loc Cert.DilFfnKernelIdeal.main_arg8)
          ∧ r.2.mem ((c.tc : Thread Cert.DilFfnKernelIdeal.nD Cert.DilFfnKernelIdeal.τ).loc Cert.DilFfnKernelIdeal.main_arg9) = m ((c.tc : Thread Cert.DilFfnKernelIdeal.nD Cert.DilFfnKernelIdeal.τ).loc Cert.DilFfnKernelIdeal.main_arg9)
          ∧ r.2.mem ((c.tc : Thread Cert.DilFfnKernelIdeal.nD Cert.DilFfnKernelIdeal.τ).loc Cert.DilFfnKernelIdeal.main_arg10) = m ((c.tc : Thread Cert.DilFfnKernelIdeal.nD Cert.DilFfnKernelIdeal.τ).loc Cert.DilFfnKernelIdeal.main_arg10)
          ∧ r.2.mem ((c.tc : Thread Cert.DilFfnKernelIdeal.nD Cert.DilFfnKernelIdeal.τ).loc Cert.DilFfnKernelIdeal.main_arg11) = m ((c.tc : Thread Cert.DilFfnKernelIdeal.nD Cert.DilFfnKernelIdeal.τ).loc Cert.DilFfnKernelIdeal.main_arg11)
          ∧ r.2.mem ((c.tc : Thread Cert.DilFfnKernelIdeal.nD Cert.DilFfnKernelIdeal.τ).loc Cert.DilFfnKernelIdeal.main_arg12) = m ((c.tc : Thread Cert.DilFfnKernelIdeal.nD Cert.DilFfnKernelIdeal.τ).loc Cert.DilFfnKernelIdeal.main_arg12))
      ∧ θ_run (Cert.DilFfnReferenceIdeal.defs (F := Ideal)) (onTc (τ := Cert.DilFfnReferenceIdeal.τ) (Cert.DilFfnReferenceIdeal.main (F := Ideal))) ⟨m', fun _ => 0, g'⟩ (fun r => ∀ c : Dev Cert.DilFfnReferenceIdeal.nD,
          r.2.mem ((c.tc : Thread Cert.DilFfnReferenceIdeal.nD Cert.DilFfnReferenceIdeal.τ).loc Cert.DilFfnReferenceIdeal.main_v86) = v0 c
          ∧ r.2.mem ((c.tc : Thread Cert.DilFfnReferenceIdeal.nD Cert.DilFfnReferenceIdeal.τ).loc Cert.DilFfnReferenceIdeal.main_arg0) = m' ((c.tc : Thread Cert.DilFfnReferenceIdeal.nD Cert.DilFfnReferenceIdeal.τ).loc Cert.DilFfnReferenceIdeal.main_arg0)
          ∧ r.2.mem ((c.tc : Thread Cert.DilFfnReferenceIdeal.nD Cert.DilFfnReferenceIdeal.τ).loc Cert.DilFfnReferenceIdeal.main_arg1) = m' ((c.tc : Thread Cert.DilFfnReferenceIdeal.nD Cert.DilFfnReferenceIdeal.τ).loc Cert.DilFfnReferenceIdeal.main_arg1)
          ∧ r.2.mem ((c.tc : Thread Cert.DilFfnReferenceIdeal.nD Cert.DilFfnReferenceIdeal.τ).loc Cert.DilFfnReferenceIdeal.main_arg2) = m' ((c.tc : Thread Cert.DilFfnReferenceIdeal.nD Cert.DilFfnReferenceIdeal.τ).loc Cert.DilFfnReferenceIdeal.main_arg2)
          ∧ r.2.mem ((c.tc : Thread Cert.DilFfnReferenceIdeal.nD Cert.DilFfnReferenceIdeal.τ).loc Cert.DilFfnReferenceIdeal.main_arg3) = m' ((c.tc : Thread Cert.DilFfnReferenceIdeal.nD Cert.DilFfnReferenceIdeal.τ).loc Cert.DilFfnReferenceIdeal.main_arg3)
          ∧ r.2.mem ((c.tc : Thread Cert.DilFfnReferenceIdeal.nD Cert.DilFfnReferenceIdeal.τ).loc Cert.DilFfnReferenceIdeal.main_arg4) = m' ((c.tc : Thread Cert.DilFfnReferenceIdeal.nD Cert.DilFfnReferenceIdeal.τ).loc Cert.DilFfnReferenceIdeal.main_arg4)
          ∧ r.2.mem ((c.tc : Thread Cert.DilFfnReferenceIdeal.nD Cert.DilFfnReferenceIdeal.τ).loc Cert.DilFfnReferenceIdeal.main_arg5) = m' ((c.tc : Thread Cert.DilFfnReferenceIdeal.nD Cert.DilFfnReferenceIdeal.τ).loc Cert.DilFfnReferenceIdeal.main_arg5)
          ∧ r.2.mem ((c.tc : Thread Cert.DilFfnReferenceIdeal.nD Cert.DilFfnReferenceIdeal.τ).loc Cert.DilFfnReferenceIdeal.main_arg6) = m' ((c.tc : Thread Cert.DilFfnReferenceIdeal.nD Cert.DilFfnReferenceIdeal.τ).loc Cert.DilFfnReferenceIdeal.main_arg6)
          ∧ r.2.mem ((c.tc : Thread Cert.DilFfnReferenceIdeal.nD Cert.DilFfnReferenceIdeal.τ).loc Cert.DilFfnReferenceIdeal.main_arg7) = m' ((c.tc : Thread Cert.DilFfnReferenceIdeal.nD Cert.DilFfnReferenceIdeal.τ).loc Cert.DilFfnReferenceIdeal.main_arg7)
          ∧ r.2.mem ((c.tc : Thread Cert.DilFfnReferenceIdeal.nD Cert.DilFfnReferenceIdeal.τ).loc Cert.DilFfnReferenceIdeal.main_arg8) = m' ((c.tc : Thread Cert.DilFfnReferenceIdeal.nD Cert.DilFfnReferenceIdeal.τ).loc Cert.DilFfnReferenceIdeal.main_arg8)
          ∧ r.2.mem ((c.tc : Thread Cert.DilFfnReferenceIdeal.nD Cert.DilFfnReferenceIdeal.τ).loc Cert.DilFfnReferenceIdeal.main_arg9) = m' ((c.tc : Thread Cert.DilFfnReferenceIdeal.nD Cert.DilFfnReferenceIdeal.τ).loc Cert.DilFfnReferenceIdeal.main_arg9)
          ∧ r.2.mem ((c.tc : Thread Cert.DilFfnReferenceIdeal.nD Cert.DilFfnReferenceIdeal.τ).loc Cert.DilFfnReferenceIdeal.main_arg10) = m' ((c.tc : Thread Cert.DilFfnReferenceIdeal.nD Cert.DilFfnReferenceIdeal.τ).loc Cert.DilFfnReferenceIdeal.main_arg10)
          ∧ r.2.mem ((c.tc : Thread Cert.DilFfnReferenceIdeal.nD Cert.DilFfnReferenceIdeal.τ).loc Cert.DilFfnReferenceIdeal.main_arg11) = m' ((c.tc : Thread Cert.DilFfnReferenceIdeal.nD Cert.DilFfnReferenceIdeal.τ).loc Cert.DilFfnReferenceIdeal.main_arg11)
          ∧ r.2.mem ((c.tc : Thread Cert.DilFfnReferenceIdeal.nD Cert.DilFfnReferenceIdeal.τ).loc Cert.DilFfnReferenceIdeal.main_arg12) = m' ((c.tc : Thread Cert.DilFfnReferenceIdeal.nD Cert.DilFfnReferenceIdeal.τ).loc Cert.DilFfnReferenceIdeal.main_arg12))

def algebraic_Proj1KernelIdeal_Proj1ReferenceIdeal [hProj1KernelIdeal : Cert.Proj1KernelIdeal.Facts] [hProj1ReferenceIdeal : Cert.Proj1ReferenceIdeal.Facts] : Prop :=
  ∀ (m : (ℓ : Loc Cert.Proj1KernelIdeal.nD Cert.Proj1KernelIdeal.τ Cert.Proj1KernelIdeal.sig) → Buf (Elt Ideal) ℓ) (g : Dev Cert.Proj1KernelIdeal.nD → PrngReg)
    (m' : (ℓ : Loc Cert.Proj1ReferenceIdeal.nD Cert.Proj1ReferenceIdeal.τ Cert.Proj1ReferenceIdeal.sig) → Buf (Elt Ideal) ℓ) (g' : Dev Cert.Proj1ReferenceIdeal.nD → PrngReg), Pre_Proj1KernelIdeal m →
    (∀ c : Dev Cert.Proj1KernelIdeal.nD,
      m' ((c.tc : Thread Cert.Proj1ReferenceIdeal.nD Cert.Proj1ReferenceIdeal.τ).loc Cert.Proj1ReferenceIdeal.main_arg0) = m ((c.tc : Thread Cert.Proj1KernelIdeal.nD Cert.Proj1KernelIdeal.τ).loc Cert.Proj1KernelIdeal.main_arg0)
      ∧ m' ((c.tc : Thread Cert.Proj1ReferenceIdeal.nD Cert.Proj1ReferenceIdeal.τ).loc Cert.Proj1ReferenceIdeal.main_arg1) = m ((c.tc : Thread Cert.Proj1KernelIdeal.nD Cert.Proj1KernelIdeal.τ).loc Cert.Proj1KernelIdeal.main_arg1)
      ∧ m' ((c.tc : Thread Cert.Proj1ReferenceIdeal.nD Cert.Proj1ReferenceIdeal.τ).loc Cert.Proj1ReferenceIdeal.main_arg2) = m ((c.tc : Thread Cert.Proj1KernelIdeal.nD Cert.Proj1KernelIdeal.τ).loc Cert.Proj1KernelIdeal.main_arg2)
      ∧ m' ((c.tc : Thread Cert.Proj1ReferenceIdeal.nD Cert.Proj1ReferenceIdeal.τ).loc Cert.Proj1ReferenceIdeal.main_arg3) = m ((c.tc : Thread Cert.Proj1KernelIdeal.nD Cert.Proj1KernelIdeal.τ).loc Cert.Proj1KernelIdeal.main_arg3)
      ∧ m' ((c.tc : Thread Cert.Proj1ReferenceIdeal.nD Cert.Proj1ReferenceIdeal.τ).loc Cert.Proj1ReferenceIdeal.main_arg4) = m ((c.tc : Thread Cert.Proj1KernelIdeal.nD Cert.Proj1KernelIdeal.τ).loc Cert.Proj1KernelIdeal.main_arg4)) →
    ∃ (v0 : (c : Dev Cert.Proj1KernelIdeal.nD) → Buf (Elt Ideal) ((c.tc : Thread Cert.Proj1KernelIdeal.nD Cert.Proj1KernelIdeal.τ).loc Cert.Proj1KernelIdeal.main_v12_0)) (v1 : (c : Dev Cert.Proj1KernelIdeal.nD) → Buf (Elt Ideal) ((c.tc : Thread Cert.Proj1KernelIdeal.nD Cert.Proj1KernelIdeal.τ).loc Cert.Proj1KernelIdeal.main_v12_1)) (v2 : (c : Dev Cert.Proj1KernelIdeal.nD) → Buf (Elt Ideal) ((c.tc : Thread Cert.Proj1KernelIdeal.nD Cert.Proj1KernelIdeal.τ).loc Cert.Proj1KernelIdeal.main_v12_2)),
      θ_run (Cert.Proj1KernelIdeal.defs (F := Ideal)) (onTc (τ := Cert.Proj1KernelIdeal.τ) (Cert.Proj1KernelIdeal.main (F := Ideal))) ⟨m, fun _ => 0, g⟩ (fun r => ∀ c : Dev Cert.Proj1KernelIdeal.nD,
          r.2.mem ((c.tc : Thread Cert.Proj1KernelIdeal.nD Cert.Proj1KernelIdeal.τ).loc Cert.Proj1KernelIdeal.main_v12_0) = v0 c
          ∧ r.2.mem ((c.tc : Thread Cert.Proj1KernelIdeal.nD Cert.Proj1KernelIdeal.τ).loc Cert.Proj1KernelIdeal.main_v12_1) = v1 c
          ∧ r.2.mem ((c.tc : Thread Cert.Proj1KernelIdeal.nD Cert.Proj1KernelIdeal.τ).loc Cert.Proj1KernelIdeal.main_v12_2) = v2 c
          ∧ r.2.mem ((c.tc : Thread Cert.Proj1KernelIdeal.nD Cert.Proj1KernelIdeal.τ).loc Cert.Proj1KernelIdeal.main_arg0) = m ((c.tc : Thread Cert.Proj1KernelIdeal.nD Cert.Proj1KernelIdeal.τ).loc Cert.Proj1KernelIdeal.main_arg0)
          ∧ r.2.mem ((c.tc : Thread Cert.Proj1KernelIdeal.nD Cert.Proj1KernelIdeal.τ).loc Cert.Proj1KernelIdeal.main_arg1) = m ((c.tc : Thread Cert.Proj1KernelIdeal.nD Cert.Proj1KernelIdeal.τ).loc Cert.Proj1KernelIdeal.main_arg1)
          ∧ r.2.mem ((c.tc : Thread Cert.Proj1KernelIdeal.nD Cert.Proj1KernelIdeal.τ).loc Cert.Proj1KernelIdeal.main_arg2) = m ((c.tc : Thread Cert.Proj1KernelIdeal.nD Cert.Proj1KernelIdeal.τ).loc Cert.Proj1KernelIdeal.main_arg2)
          ∧ r.2.mem ((c.tc : Thread Cert.Proj1KernelIdeal.nD Cert.Proj1KernelIdeal.τ).loc Cert.Proj1KernelIdeal.main_arg3) = m ((c.tc : Thread Cert.Proj1KernelIdeal.nD Cert.Proj1KernelIdeal.τ).loc Cert.Proj1KernelIdeal.main_arg3)
          ∧ r.2.mem ((c.tc : Thread Cert.Proj1KernelIdeal.nD Cert.Proj1KernelIdeal.τ).loc Cert.Proj1KernelIdeal.main_arg4) = m ((c.tc : Thread Cert.Proj1KernelIdeal.nD Cert.Proj1KernelIdeal.τ).loc Cert.Proj1KernelIdeal.main_arg4))
      ∧ θ_run (Cert.Proj1ReferenceIdeal.defs (F := Ideal)) (onTc (τ := Cert.Proj1ReferenceIdeal.τ) (Cert.Proj1ReferenceIdeal.main (F := Ideal))) ⟨m', fun _ => 0, g'⟩ (fun r => ∀ c : Dev Cert.Proj1ReferenceIdeal.nD,
          r.2.mem ((c.tc : Thread Cert.Proj1ReferenceIdeal.nD Cert.Proj1ReferenceIdeal.τ).loc Cert.Proj1ReferenceIdeal.main_v55) = v0 c
          ∧ r.2.mem ((c.tc : Thread Cert.Proj1ReferenceIdeal.nD Cert.Proj1ReferenceIdeal.τ).loc Cert.Proj1ReferenceIdeal.main_v60) = v1 c
          ∧ r.2.mem ((c.tc : Thread Cert.Proj1ReferenceIdeal.nD Cert.Proj1ReferenceIdeal.τ).loc Cert.Proj1ReferenceIdeal.main_v65) = v2 c
          ∧ r.2.mem ((c.tc : Thread Cert.Proj1ReferenceIdeal.nD Cert.Proj1ReferenceIdeal.τ).loc Cert.Proj1ReferenceIdeal.main_arg0) = m' ((c.tc : Thread Cert.Proj1ReferenceIdeal.nD Cert.Proj1ReferenceIdeal.τ).loc Cert.Proj1ReferenceIdeal.main_arg0)
          ∧ r.2.mem ((c.tc : Thread Cert.Proj1ReferenceIdeal.nD Cert.Proj1ReferenceIdeal.τ).loc Cert.Proj1ReferenceIdeal.main_arg1) = m' ((c.tc : Thread Cert.Proj1ReferenceIdeal.nD Cert.Proj1ReferenceIdeal.τ).loc Cert.Proj1ReferenceIdeal.main_arg1)
          ∧ r.2.mem ((c.tc : Thread Cert.Proj1ReferenceIdeal.nD Cert.Proj1ReferenceIdeal.τ).loc Cert.Proj1ReferenceIdeal.main_arg2) = m' ((c.tc : Thread Cert.Proj1ReferenceIdeal.nD Cert.Proj1ReferenceIdeal.τ).loc Cert.Proj1ReferenceIdeal.main_arg2)
          ∧ r.2.mem ((c.tc : Thread Cert.Proj1ReferenceIdeal.nD Cert.Proj1ReferenceIdeal.τ).loc Cert.Proj1ReferenceIdeal.main_arg3) = m' ((c.tc : Thread Cert.Proj1ReferenceIdeal.nD Cert.Proj1ReferenceIdeal.τ).loc Cert.Proj1ReferenceIdeal.main_arg3)
          ∧ r.2.mem ((c.tc : Thread Cert.Proj1ReferenceIdeal.nD Cert.Proj1ReferenceIdeal.τ).loc Cert.Proj1ReferenceIdeal.main_arg4) = m' ((c.tc : Thread Cert.Proj1ReferenceIdeal.nD Cert.Proj1ReferenceIdeal.τ).loc Cert.Proj1ReferenceIdeal.main_arg4))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hDilFfnKernel : Cert.DilFfnKernel.Facts) (hDilFfnKernelIdeal : Cert.DilFfnKernelIdeal.Facts) (hDilFfnReferenceIdeal : Cert.DilFfnReferenceIdeal.Facts) (hProj1Kernel : Cert.Proj1Kernel.Facts) (hProj1KernelIdeal : Cert.Proj1KernelIdeal.Facts) (hProj1ReferenceIdeal : Cert.Proj1ReferenceIdeal.Facts) (hProj4Kernel : Cert.Proj4Kernel.Facts) (hProj4KernelIdeal : Cert.Proj4KernelIdeal.Facts) (hProj4ReferenceIdeal : Cert.Proj4ReferenceIdeal.Facts) (hProj16Kernel : Cert.Proj16Kernel.Facts) (hProj16KernelIdeal : Cert.Proj16KernelIdeal.Facts) (hProj16ReferenceIdeal : Cert.Proj16ReferenceIdeal.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_DilFfnKernel (hDilFfnKernel := hDilFfnKernel)
    ∧ quiescent_DilFfnKernelIdeal (hDilFfnKernelIdeal := hDilFfnKernelIdeal)
    ∧ quiescent_DilFfnReferenceIdeal (hDilFfnReferenceIdeal := hDilFfnReferenceIdeal)
    ∧ quiescent_Proj1Kernel (hProj1Kernel := hProj1Kernel)
    ∧ quiescent_Proj1KernelIdeal (hProj1KernelIdeal := hProj1KernelIdeal)
    ∧ quiescent_Proj1ReferenceIdeal (hProj1ReferenceIdeal := hProj1ReferenceIdeal)
    ∧ quiescent_Proj4Kernel (hProj4Kernel := hProj4Kernel)
    ∧ quiescent_Proj4KernelIdeal (hProj4KernelIdeal := hProj4KernelIdeal)
    ∧ quiescent_Proj4ReferenceIdeal (hProj4ReferenceIdeal := hProj4ReferenceIdeal)
    ∧ quiescent_Proj16Kernel (hProj16Kernel := hProj16Kernel)
    ∧ quiescent_Proj16KernelIdeal (hProj16KernelIdeal := hProj16KernelIdeal)
    ∧ quiescent_Proj16ReferenceIdeal (hProj16ReferenceIdeal := hProj16ReferenceIdeal)
    ∧ preserves_Kernel_KernelIdeal
    ∧ preserves_FfnKernel_FfnKernelIdeal
    ∧ algebraic_FfnKernelIdeal_FfnReferenceIdeal (hFfnKernelIdeal := hFfnKernelIdeal) (hFfnReferenceIdeal := hFfnReferenceIdeal)
    ∧ preserves_DilFfnKernel_DilFfnKernelIdeal
    ∧ preserves_Proj1Kernel_Proj1KernelIdeal
    ∧ preserves_Proj4Kernel_Proj4KernelIdeal
    ∧ preserves_Proj16Kernel_Proj16KernelIdeal
    ∧ algebraic_DilFfnKernelIdeal_DilFfnReferenceIdeal (hDilFfnKernelIdeal := hDilFfnKernelIdeal) (hDilFfnReferenceIdeal := hDilFfnReferenceIdeal)
    ∧ algebraic_Proj1KernelIdeal_Proj1ReferenceIdeal (hProj1KernelIdeal := hProj1KernelIdeal) (hProj1ReferenceIdeal := hProj1ReferenceIdeal)
-- ==== Kernel.lean ====
abbrev S8x2048 : Shape := ⟨2, ![8, 2048]⟩
abbrev S8x2048x1024 : Shape := ⟨3, ![8, 2048, 1024]⟩
abbrev S8x127x4x64 : Shape := ⟨4, ![8, 127, 4, 64]⟩
abbrev S8x2048x4x64 : Shape := ⟨4, ![8, 2048, 4, 64]⟩
abbrev S8x2048x3x4x4 : Shape := ⟨5, ![8, 2048, 3, 4, 4]⟩
abbrev S8x1024x2048 : Shape := ⟨3, ![8, 1024, 2048]⟩
abbrev S8x127x4x128 : Shape := ⟨4, ![8, 127, 4, 128]⟩
abbrev S8x4x127x128 : Shape := ⟨4, ![8, 4, 127, 128]⟩
abbrev S_ : Shape := ⟨0, ![]⟩
abbrev S8x4x128x128 : Shape := ⟨4, ![8, 4, 128, 128]⟩
abbrev S8x2048x48 : Shape := ⟨3, ![8, 2048, 48]⟩
abbrev S8x48x2048 : Shape := ⟨3, ![8, 48, 2048]⟩
abbrev S8x128x2048 : Shape := ⟨3, ![8, 128, 2048]⟩
abbrev S8 : Shape := ⟨1, ![8]⟩
abbrev S128 : Shape := ⟨1, ![128]⟩
abbrev S8x2048x1 : Shape := ⟨3, ![8, 2048, 1]⟩
abbrev S128x1 : Shape := ⟨2, ![128, 1]⟩
abbrev S1x1x128 : Shape := ⟨3, ![1, 1, 128]⟩
abbrev S8x2048x128 : Shape := ⟨3, ![8, 2048, 128]⟩
abbrev S8x1x2048 : Shape := ⟨3, ![8, 1, 2048]⟩
abbrev S1x8x1 : Shape := ⟨3, ![1, 8, 1]⟩
abbrev S8x8x2048 : Shape := ⟨3, ![8, 8, 2048]⟩
abbrev S8x2048x4x128 : Shape := ⟨4, ![8, 2048, 4, 128]⟩
abbrev S8x4x2048x128 : Shape := ⟨4, ![8, 4, 2048, 128]⟩
abbrev S1x256x256 : Shape := ⟨3, ![1, 256, 256]⟩
abbrev S1x8x256 : Shape := ⟨3, ![1, 8, 256]⟩
abbrev S1x2048x128 : Shape := ⟨3, ![1, 2048, 128]⟩
abbrev S1x1x128x128 : Shape := ⟨4, ![1, 1, 128, 128]⟩
abbrev S1x1x2048x128 : Shape := ⟨4, ![1, 1, 2048, 128]⟩
abbrev S1x128x256 : Shape := ⟨3, ![1, 128, 256]⟩
abbrev S2048x128 : Shape := ⟨2, ![2048, 128]⟩
abbrev S8x128x256 : Shape := ⟨3, ![8, 128, 256]⟩
abbrev S2x256x1024 : Shape := ⟨3, ![2, 256, 1024]⟩
abbrev S72x1024 : Shape := ⟨2, ![72, 1024]⟩
abbrev S128x256 : Shape := ⟨2, ![128, 256]⟩
abbrev S256x128 : Shape := ⟨2, ![256, 128]⟩
abbrev S256x256 : Shape := ⟨2, ![256, 256]⟩
abbrev S8x256 : Shape := ⟨2, ![8, 256]⟩
abbrev S64x256 : Shape := ⟨2, ![64, 256]⟩
abbrev S48x256 : Shape := ⟨2, ![48, 256]⟩
abbrev S128x1024 : Shape := ⟨2, ![128, 1024]⟩
abbrev S128x128 : Shape := ⟨2, ![128, 128]⟩
abbrev S1x1024 : Shape := ⟨2, ![1, 1024]⟩
abbrev S256x1024 : Shape := ⟨2, ![256, 1024]⟩
abbrev S1x256x1024 : Shape := ⟨3, ![1, 256, 1024]⟩
abbrev S256 : Shape := ⟨1, ![256]⟩
abbrev S1x256 : Shape := ⟨2, ![1, 256]⟩
abbrev S32x256 : Shape := ⟨2, ![32, 256]⟩
abbrev S1x72x256 : Shape := ⟨3, ![1, 72, 256]⟩
abbrev S72x256 : Shape := ⟨2, ![72, 256]⟩
abbrev S64x1024 : Shape := ⟨2, ![64, 1024]⟩
abbrev S1x1x256 : Shape := ⟨3, ![1, 1, 256]⟩

abbrev nBuf : Space → Nat
  | .hbm => 139
  | .vmem => 29
  | .smem => 0
  | _ => 0

abbrev hbmTy0_0 (i : Nat) : BufTy := match i % 128 with
  | 0 => ⟨S8x2048, .i32⟩
  | 1 => ⟨S8x2048x1024, .f32⟩
  | 2 => ⟨S8x127x4x64, .f32⟩
  | 3 => ⟨S8x127x4x64, .f32⟩
  | 4 => ⟨S8x2048x4x64, .f32⟩
  | 5 => ⟨S8x2048x4x64, .f32⟩
  | 6 => ⟨S8x2048x4x64, .f32⟩
  | 7 => ⟨S8x2048x4x64, .f32⟩
  | 8 => ⟨S8x2048x3x4x4, .f32⟩
  | 9 => ⟨S8x1024x2048, .f32⟩
  | 10 => ⟨S8x127x4x128, .f32⟩
  | 11 => ⟨S8x4x127x128, .f32⟩
  | 12 => ⟨S_, .i32⟩
  | 13 => ⟨S_, .f32⟩
  | 14 => ⟨S8x4x128x128, .f32⟩
  | 15 => ⟨S8x2048x48, .f32⟩
  | 16 => ⟨S8x48x2048, .f32⟩
  | 17 => ⟨S_, .i32⟩
  | 18 => ⟨S_, .f32⟩
  | 19 => ⟨S8x128x2048, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S8, .f32⟩
  | 34 => ⟨S8x2048, .f32⟩
  | 35 => ⟨S128, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S128, .i32⟩
  | 43 => ⟨S128, .i32⟩
  | 44 => ⟨S_, .i32⟩
  | 45 => ⟨S128, .i32⟩
  | 46 => ⟨S128, .i1⟩
  | 47 => ⟨S_, .i32⟩
  | 48 => ⟨S128, .i32⟩
  | 49 => ⟨S128, .i1⟩
  | 50 => ⟨S_, .i32⟩
  | 51 => ⟨S_, .i1⟩
  | 52 => ⟨S128, .i1⟩
  | 53 => ⟨S128, .i1⟩
  | 54 => ⟨S128, .i1⟩
  | 55 => ⟨S128, .i32⟩
  | 56 => ⟨S128, .i32⟩
  | 57 => ⟨S128, .i32⟩
  | 58 => ⟨S8x2048x1, .f32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S128, .i32⟩
  | 66 => ⟨S128, .i32⟩
  | 67 => ⟨S_, .i32⟩
  | 68 => ⟨S128, .i32⟩
  | 69 => ⟨S128, .i1⟩
  | 70 => ⟨S_, .i32⟩
  | 71 => ⟨S128, .i32⟩
  | 72 => ⟨S128, .i1⟩
  | 73 => ⟨S_, .i32⟩
  | 74 => ⟨S_, .i1⟩
  | 75 => ⟨S128, .i1⟩
  | 76 => ⟨S128, .i1⟩
  | 77 => ⟨S128, .i1⟩
  | 78 => ⟨S128, .i32⟩
  | 79 => ⟨S128, .i32⟩
  | 80 => ⟨S128, .i32⟩
  | 81 => ⟨S_, .i32⟩
  | 82 => ⟨S128, .i32⟩
  | 83 => ⟨S128, .i1⟩
  | 84 => ⟨S_, .i32⟩
  | 85 => ⟨S128, .i32⟩
  | 86 => ⟨S128, .i32⟩
  | 87 => ⟨S128, .i32⟩
  | 88 => ⟨S128x1, .i32⟩
  | 89 => ⟨S128, .f32⟩
  | 90 => ⟨S1x1x128, .f32⟩
  | 91 => ⟨S8x2048x128, .f32⟩
  | 92 => ⟨S8x2048x128, .f32⟩
  | 93 => ⟨S8x2048x128, .f32⟩
  | 94 => ⟨S8x2048x128, .f32⟩
  | 95 => ⟨S8x2048x128, .f32⟩
  | 96 => ⟨S_, .i32⟩
  | 97 => ⟨S128, .i32⟩
  | 98 => ⟨S128, .i1⟩
  | 99 => ⟨S_, .f32⟩
  | 100 => ⟨S_, .f32⟩
  | 101 => ⟨S8x2048x128, .i1⟩
  | 102 => ⟨S8x2048x128, .f32⟩
  | 103 => ⟨S8x2048x128, .f32⟩
  | 104 => ⟨S_, .i32⟩
  | 105 => ⟨S128, .i32⟩
  | 106 => ⟨S128, .i1⟩
  | 107 => ⟨S_, .i32⟩
  | 108 => ⟨S128, .i32⟩
  | 109 => ⟨S128, .i1⟩
  | 110 => ⟨S128, .i1⟩
  | 111 => ⟨S_, .f32⟩
  | 112 => ⟨S_, .f32⟩
  | 113 => ⟨S8x2048x128, .i1⟩
  | 114 => ⟨S8x2048x128, .f32⟩
  | 115 => ⟨S8x2048x128, .f32⟩
  | 116 => ⟨S_, .i32⟩
  | 117 => ⟨S128, .i32⟩
  | 118 => ⟨S128, .i1⟩
  | 119 => ⟨S8x2048x128, .f32⟩
  | 120 => ⟨S_, .f32⟩
  | 121 => ⟨S_, .f32⟩
  | 122 => ⟨S8x2048x128, .i1⟩
  | 123 => ⟨S8x2048x128, .f32⟩
  | 124 => ⟨S8x2048x128, .f32⟩
  | 125 => ⟨S8x1x2048, .f32⟩
  | 126 => ⟨S1x8x1, .f32⟩
  | 127 => ⟨S8x8x2048, .f32⟩
  | _ => ⟨S8x2048, .i32⟩

abbrev hbmTy0_1 (i : Nat) : BufTy := match i % 128 with
  | 0 => ⟨S8x8x2048, .f32⟩
  | 1 => ⟨S8x8x2048, .f32⟩
  | 2 => ⟨S8x8x2048, .f32⟩
  | 3 => ⟨S8x8x2048, .f32⟩
  | 4 => ⟨S8x2048x4x128, .f32⟩
  | 5 => ⟨S8x4x2048x128, .f32⟩
  | 6 => ⟨S8x4x2048x128, .bf16⟩
  | 7 => ⟨S8x2048x4x128, .f32⟩
  | 8 => ⟨S8x4x2048x128, .f32⟩
  | 9 => ⟨S8x4x2048x128, .bf16⟩
  | 10 => ⟨S8x2048x1024, .bf16⟩
  | _ => ⟨S8x2048, .i32⟩

abbrev hbmTy (i : Nat) : BufTy := match i / 128 with
  | 0 => hbmTy0_0 i
  | 1 => hbmTy0_1 i
  | _ => ⟨S8x2048, .i32⟩

abbrev bufTy : (tb : Table) → Fin (tcTables nBuf tb) → BufTy
  | .hbm, ⟨i, _⟩ => hbmTy i
  | .local _ .vmem, ⟨0, _⟩ => ⟨S1x256x256, .f32⟩
  | .local _ .vmem, ⟨1, _⟩ => ⟨S1x256x256, .f32⟩
  | .local _ .vmem, ⟨2, _⟩ => ⟨S1x8x256, .f32⟩
  | .local _ .vmem, ⟨3, _⟩ => ⟨S1x8x256, .f32⟩
  | .local _ .vmem, ⟨4, _⟩ => ⟨S1x8x256, .f32⟩
  | .local _ .vmem, ⟨5, _⟩ => ⟨S1x8x256, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x1x128x128, .f32⟩
  | .local _ .vmem, ⟨13, _⟩ => ⟨S1x1x128x128, .f32⟩
  | .local _ .vmem, ⟨14, _⟩ => ⟨S1x1x2048x128, .bf16⟩
  | .local _ .vmem, ⟨15, _⟩ => ⟨S1x1x2048x128, .bf16⟩
  | .local _ .vmem, ⟨16, _⟩ => ⟨S1x1x2048x128, .bf16⟩
  | .local _ .vmem, ⟨17, _⟩ => ⟨S1x1x2048x128, .bf16⟩
  | .local _ .vmem, ⟨18, _⟩ => ⟨S1x128x256, .f32⟩
  | .local _ .vmem, ⟨19, _⟩ => ⟨S1x128x256, .f32⟩
  | .local _ .vmem, ⟨20, _⟩ => ⟨S1x256x256, .bf16⟩
  | .local _ .vmem, ⟨21, _⟩ => ⟨S1x256x256, .bf16⟩
  | .local _ .vmem, ⟨22, _⟩ => ⟨S2048x128, .bf16⟩
  | .local _ .vmem, ⟨23, _⟩ => ⟨S8x128x256, .bf16⟩
  | .local _ .vmem, ⟨24, _⟩ => ⟨S2048x128, .bf16⟩
  | .local _ .vmem, ⟨25, _⟩ => ⟨S8x128x256, .bf16⟩
  | .local _ .vmem, ⟨26, _⟩ => ⟨S2x256x1024, .f32⟩
  | .local _ .vmem, ⟨27, _⟩ => ⟨S2x256x1024, .bf16⟩
  | .local _ .vmem, ⟨28, _⟩ => ⟨S72x1024, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_call2_v0 : Ref sig .tc := ⟨.hbm, 37, rfl⟩
abbrev main_call2_c : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_c_1 : Ref sig .tc := ⟨.hbm, 44, rfl⟩
abbrev main_call2_v5 : Ref sig .tc := ⟨.hbm, 45, rfl⟩
abbrev main_call2_v6 : Ref sig .tc := ⟨.hbm, 46, rfl⟩
abbrev main_call2_c_2 : Ref sig .tc := ⟨.hbm, 47, rfl⟩
abbrev main_call2_v7 : Ref sig .tc := ⟨.hbm, 48, rfl⟩
abbrev main_call2_v8 : Ref sig .tc := ⟨.hbm, 49, rfl⟩
abbrev main_call2_c_3 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_v19 : Ref sig .tc := ⟨.hbm, 57, rfl⟩
abbrev main_v20 : Ref sig .tc := ⟨.hbm, 58, rfl⟩
abbrev main_c_5 : Ref sig .tc := ⟨.hbm, 59, rfl⟩
abbrev main_call3_v0 : Ref sig .tc := ⟨.hbm, 60, rfl⟩
abbrev main_call3_c : Ref sig .tc := ⟨.hbm, 61, rfl⟩
abbrev main_call3_v1 : Ref sig .tc := ⟨.hbm, 62, rfl⟩
abbrev main_call3_c_0 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_c_1 : Ref sig .tc := ⟨.hbm, 67, rfl⟩
abbrev main_call3_v5 : Ref sig .tc := ⟨.hbm, 68, rfl⟩
abbrev main_call3_v6 : Ref sig .tc := ⟨.hbm, 69, rfl⟩
abbrev main_call3_c_2 : Ref sig .tc := ⟨.hbm, 70, rfl⟩
abbrev main_call3_v7 : Ref sig .tc := ⟨.hbm, 71, rfl⟩
abbrev main_call3_v8 : Ref sig .tc := ⟨.hbm, 72, rfl⟩
abbrev main_call3_c_3 : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_v12 : Ref sig .tc := ⟨.hbm, 77, rfl⟩
abbrev main_call3_v13 : Ref sig .tc := ⟨.hbm, 78, rfl⟩
abbrev main_call3_v14 : Ref sig .tc := ⟨.hbm, 79, rfl⟩
abbrev main_v21 : Ref sig .tc := ⟨.hbm, 80, rfl⟩
abbrev main_c_6 : Ref sig .tc := ⟨.hbm, 81, rfl⟩
abbrev main_v22 : Ref sig .tc := ⟨.hbm, 82, rfl⟩
abbrev main_v23 : Ref sig .tc := ⟨.hbm, 83, rfl⟩
abbrev main_c_7 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_c_8 : Ref sig .tc := ⟨.hbm, 96, rfl⟩
abbrev main_v35 : Ref sig .tc := ⟨.hbm, 97, rfl⟩
abbrev main_v36 : Ref sig .tc := ⟨.hbm, 98, rfl⟩
abbrev main_cst_9 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_v37 : Ref sig .tc := ⟨.hbm, 103, rfl⟩
abbrev main_c_10 : Ref sig .tc := ⟨.hbm, 104, rfl⟩
abbrev main_v38 : Ref sig .tc := ⟨.hbm, 105, rfl⟩
abbrev main_v39 : Ref sig .tc := ⟨.hbm, 106, rfl⟩
abbrev main_c_11 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_12 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v43 : Ref sig .tc := ⟨.hbm, 115, rfl⟩
abbrev main_c_13 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_cst_14 : Ref sig .tc := ⟨.hbm, 120, rfl⟩
abbrev main_call6_v0 : Ref sig .tc := ⟨.hbm, 121, rfl⟩
abbrev main_call6_v1 : Ref sig .tc := ⟨.hbm, 122, rfl⟩
abbrev main_call6_v2 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let c7_i32 : BitVec 32 := 7#32
  let c0_i32_20 : BitVec 32 := 0#32
  let arg2 : BitVec 32 := BitVec.ofNat 32 (i 2).val
  let c1_i32 : BitVec 32 := 1#32
  let v75 : BitVec 32 := Scalar.muli arg2 c1_i32
  let c1_i32_19 : BitVec 32 := 1#32
  let v85 : BitVec 32 := Scalar.addi v75 c1_i32_19
  let c3_i32 : BitVec 32 := 3#32
  let v86 : BitVec 32 := Scalar.subi v85 c3_i32
  let v87 : BitVec 32 := Scalar.maxsi c0_i32_20 v86
  let v88 : BitVec 32 := Scalar.minsi c7_i32 v87
  let c256_i32_21 : BitVec 32 := 256#32
  let v89 : BitVec 32 := Scalar.muli v88 c256_i32_21
  v89
def k0_off1 (i : grid0.Coords) : Fin 2 → Nat :=
  let c7_i32 : BitVec 32 := 7#32
  let c0_i32_20 : BitVec 32 := 0#32
  let arg2 : BitVec 32 := BitVec.ofNat 32 (i 2).val
  let c1_i32 : BitVec 32 := 1#32
  let v75 : BitVec 32 := Scalar.muli arg2 c1_i32
  let c1_i32_19 : BitVec 32 := 1#32
  let v85 : BitVec 32 := Scalar.addi v75 c1_i32_19
  let c3_i32 : BitVec 32 := 3#32
  let v86 : BitVec 32 := Scalar.subi v85 c3_i32
  let v87 : BitVec 32 := Scalar.maxsi c0_i32_20 v86
  let v88 : BitVec 32 := Scalar.minsi c7_i32 v87
  let c256_i32_21 : BitVec 32 := 256#32
  let v89 : BitVec 32 := Scalar.muli v88 c256_i32_21
  let v90 : BitVec 32 := v89
  let v91 : Index := Scalar.indexCast v90
  let c0_22 : Index := 0#32
  ![v91.toNat, 0]
def k0_mult2 (i : grid0.Coords) : BitVec 32 :=
  let c7_i32_30 : BitVec 32 := 7#32
  let c0_i32_29 : BitVec 32 := 0#32
  let arg2 : BitVec 32 := BitVec.ofNat 32 (i 2).val
  let c1_i32 : BitVec 32 := 1#32
  let v75 : BitVec 32 := Scalar.muli arg2 c1_i32
  let c1_i32_19 : BitVec 32 := 1#32
  let v85 : BitVec 32 := Scalar.addi v75 c1_i32_19
  let c3_i32 : BitVec 32 := 3#32
  let v86 : BitVec 32 := Scalar.subi v85 c3_i32
  let c0_i32_27 : BitVec 32 := 0#32
  let v97 : BitVec 32 := Scalar.addi v86 c0_i32_27
  let c1_i32_28 : BitVec 32 := 1#32
  let v98 : BitVec 32 := Scalar.addi v97 c1_i32_28
  let v99 : BitVec 32 := Scalar.maxsi c0_i32_29 v98
  let v100 : BitVec 32 := Scalar.minsi c7_i32_30 v99
  let c256_i32_31 : BitVec 32 := 256#32
  let v101 : BitVec 32 := Scalar.muli v100 c256_i32_31
  v101
def k0_off2 (i : grid0.Coords) (c0_i32_27 : BitVec 32) : Fin 2 → Nat :=
  let c7_i32_30 : BitVec 32 := 7#32
  let c0_i32_29 : BitVec 32 := 0#32
  let arg2 : BitVec 32 := BitVec.ofNat 32 (i 2).val
  let c1_i32 : BitVec 32 := 1#32
  let v75 : BitVec 32 := Scalar.muli arg2 c1_i32
  let c1_i32_19 : BitVec 32 := 1#32
  let v85 : BitVec 32 := Scalar.addi v75 c1_i32_19
  let c3_i32 : BitVec 32 := 3#32
  let v86 : BitVec 32 := Scalar.subi v85 c3_i32
  let v97 : BitVec 32 := Scalar.addi v86 c0_i32_27
  let c1_i32_28 : BitVec 32 := 1#32
  let v98 : BitVec 32 := Scalar.addi v97 c1_i32_28
  let v99 : BitVec 32 := Scalar.maxsi c0_i32_29 v98
  let v100 : BitVec 32 := Scalar.minsi c7_i32_30 v99
  let c256_i32_31 : BitVec 32 := 256#32
  let v101 : BitVec 32 := Scalar.muli v100 c256_i32_31
  let v102 : BitVec 32 := v101
  let v103 : Index := Scalar.indexCast v102
  let c0_32 : Index := 0#32
  ![v103.toNat, 0]
def k0_off3 (i : grid0.Coords) (c0_i32_93 : BitVec 32) : Fin 3 → Nat :=
  let c7_i32_95 : BitVec 32 := 7#32
  let c0_i32_94 : BitVec 32 := 0#32
  let arg2 : BitVec 32 := BitVec.ofNat 32 (i 2).val
  let c1_i32 : BitVec 32 := 1#32
  let v75 : BitVec 32 := Scalar.muli arg2 c1_i32
  let c1_i32_19 : BitVec 32 := 1#32
  let v85 : BitVec 32 := Scalar.addi v75 c1_i32_19
  let c3_i32 : BitVec 32 := 3#32
  let v86 : BitVec 32 := Scalar.subi v85 c3_i32
  let v284 : BitVec 32 := Scalar.addi v86 c0_i32_93
  let v285 : BitVec 32 := Scalar.maxsi c0_i32_94 v284
  let v286 : BitVec 32 := Scalar.minsi c7_i32_95 v285
  let v287 : Index := Scalar.indexCast v286
  let c56 : Index := 56#32
  let c0_96 : Index := 0#32
  ![v287.toNat, 56, 0]
def k0_mult3 (i : grid0.Coords) : BitVec 32 :=
  let c7_i32_108 : BitVec 32 := 7#32
  let c0_i32_107 : BitVec 32 := 0#32
  let arg2 : BitVec 32 := BitVec.ofNat 32 (i 2).val
  let c1_i32 : BitVec 32 := 1#32
  let v75 : BitVec 32 := Scalar.muli arg2 c1_i32
  let c1_i32_19 : BitVec 32 := 1#32
  let v85 : BitVec 32 := Scalar.addi v75 c1_i32_19
  let c3_i32 : BitVec 32 := 3#32
  let v86 : BitVec 32 := Scalar.subi v85 c3_i32
  let c1_i32_105 : BitVec 32 := 1#32
  let v300 : BitVec 32 := Scalar.addi v86 c1_i32_105
  let c1_i32_106 : BitVec 32 := 1#32
  let v301 : BitVec 32 := Scalar.addi v300 c1_i32_106
  let v302 : BitVec 32 := Scalar.maxsi c0_i32_107 v301
  let v303 : BitVec 32 := Scalar.minsi c7_i32_108 v302
  let c256_i32_109 : BitVec 32 := 256#32
  let v304 : BitVec 32 := Scalar.muli v303 c256_i32_109
  v304
def k0_mult4 : BitVec 32 :=
  let c7_i32_308 : BitVec 32 := 7#32
  let c0_i32_307 : BitVec 32 := 0#32
  let c0_i32_306 : BitVec 32 := 0#32
  let v962 : BitVec 32 := Scalar.maxsi c0_i32_307 c0_i32_306
  let v963 : BitVec 32 := Scalar.minsi c7_i32_308 v962
  let c256_i32_309 : BitVec 32 := 256#32
  let v964 : BitVec 32 := Scalar.muli v963 c256_i32_309
  v964
def k0_off4 : Fin 2 → Nat :=
  let c7_i32_308 : BitVec 32 := 7#32
  let c0_i32_307 : BitVec 32 := 0#32
  let c0_i32_306 : BitVec 32 := 0#32
  let v962 : BitVec 32 := Scalar.maxsi c0_i32_307 c0_i32_306
  let v963 : BitVec 32 := Scalar.minsi c7_i32_308 v962
  let c256_i32_309 : BitVec 32 := 256#32
  let v964 : BitVec 32 := Scalar.muli v963 c256_i32_309
  let v965 : BitVec 32 := v964
  let v966 : Index := Scalar.indexCast v965
  let c0_310 : Index := 0#32
  ![v966.toNat, 0]
def k0_cond2 (i : grid0.Coords) : BitVec 1 :=
  let arg2 : BitVec 32 := BitVec.ofNat 32 (i 2).val
  let c1_i32 : BitVec 32 := 1#32
  let v75 : BitVec 32 := Scalar.muli arg2 c1_i32
  let c0_i32_316 : BitVec 32 := 0#32
  let v973 : BitVec 1 := Scalar.cmpi .sgt v75 c0_i32_316
  let v974 : BitVec 32 := Scalar.extui v973
  let c0_i32_317 : BitVec 32 := 0#32
  let v975 : BitVec 1 := Scalar.cmpi .slt v75 c0_i32_317
  let v976 : BitVec 32 := Scalar.extui v975
  let v977 : BitVec 32 := Scalar.subi v974 v976
  let c2_i32_315 : BitVec 32 := 2#32
  let c0_i32_318 : BitVec 32 := 0#32
  let v978 : BitVec 1 := Scalar.cmpi .sgt c2_i32_315 c0_i32_318
  let v979 : BitVec 32 := Scalar.extui v978
  let c0_i32_319 : BitVec 32 := 0#32
  let v980 : BitVec 1 := Scalar.cmpi .slt c2_i32_315 c0_i32_319
  let v981 : BitVec 32 := Scalar.extui v980
  let v982 : BitVec 32 := Scalar.subi v979 v981
  let v983 : BitVec 1 := Scalar.cmpi .ne v977 v982
  let v984 : BitVec 32 := Scalar.remsi v75 c2_i32_315
  let c0_i32_320 : BitVec 32 := 0#32
  let v985 : BitVec 1 := Scalar.cmpi .ne v984 c0_i32_320
  let v986 : BitVec 1 := Scalar.andi v983 v985
  let v972 : BitVec 32 := Scalar.divsi v75 c2_i32_315
  let c1_i32_321 : BitVec 32 := 1#32
  let v987 : BitVec 32 := Scalar.subi v972 c1_i32_321
  let v988 : BitVec 32 := Scalar.select v986 v987 v972
  let c0_i32_322 : BitVec 32 := 0#32
  let v989 : BitVec 32 := Scalar.maxsi v988 c0_i32_322
  let c3_i32_323 : BitVec 32 := 3#32
  let v990 : BitVec 32 := Scalar.minsi v989 c3_i32_323
  let c0_i32_324 : BitVec 32 := 0#32
  let v991 : BitVec 1 := Scalar.cmpi .ne v990 c0_i32_324
  v991

def k0_cond3 (i : grid0.Coords) : BitVec 1 :=
  let arg2 : BitVec 32 := BitVec.ofNat 32 (i 2).val
  let c1_i32 : BitVec 32 := 1#32
  let v75 : BitVec 32 := Scalar.muli arg2 c1_i32
  let c0_i32_316 : BitVec 32 := 0#32
  let v973 : BitVec 1 := Scalar.cmpi .sgt v75 c0_i32_316
  let v974 : BitVec 32 := Scalar.extui v973
  let c0_i32_317 : BitVec 32 := 0#32
  let v975 : BitVec 1 := Scalar.cmpi .slt v75 c0_i32_317
  let v976 : BitVec 32 := Scalar.extui v975
  let v977 : BitVec 32 := Scalar.subi v974 v976
  let c2_i32_315 : BitVec 32 := 2#32
  let c0_i32_318 : BitVec 32 := 0#32
  let v978 : BitVec 1 := Scalar.cmpi .sgt c2_i32_315 c0_i32_318
  let v979 : BitVec 32 := Scalar.extui v978
  let c0_i32_319 : BitVec 32 := 0#32
  let v980 : BitVec 1 := Scalar.cmpi .slt c2_i32_315 c0_i32_319
  let v981 : BitVec 32 := Scalar.extui v980
  let v982 : BitVec 32 := Scalar.subi v979 v981
  let v983 : BitVec 1 := Scalar.cmpi .ne v977 v982
  let v984 : BitVec 32 := Scalar.remsi v75 c2_i32_315
  let c0_i32_320 : BitVec 32 := 0#32
  let v985 : BitVec 1 := Scalar.cmpi .ne v984 c0_i32_320
  let v986 : BitVec 1 := Scalar.andi v983 v985
  let v972 : BitVec 32 := Scalar.divsi v75 c2_i32_315
  let c1_i32_321 : BitVec 32 := 1#32
  let v987 : BitVec 32 := Scalar.subi v972 c1_i32_321
  let v988 : BitVec 32 := Scalar.select v986 v987 v972
  let c0_i32_322 : BitVec 32 := 0#32
  let v989 : BitVec 32 := Scalar.maxsi v988 c0_i32_322
  let c3_i32_323 : BitVec 32 := 3#32
  let v990 : BitVec 32 := Scalar.minsi v989 c3_i32_323
  let c1_i32_508 : BitVec 32 := 1#32
  let v1325 : BitVec 32 := Scalar.subi v990 c1_i32_508
  let c0_i32_509 : BitVec 32 := 0#32
  let v1326 : BitVec 1 := Scalar.cmpi .ne v1325 c0_i32_509
  v1326

def k0_cond4 (i : grid0.Coords) : BitVec 1 :=
  let arg2 : BitVec 32 := BitVec.ofNat 32 (i 2).val
  let c1_i32 : BitVec 32 := 1#32
  let v75 : BitVec 32 := Scalar.muli arg2 c1_i32
  let c0_i32_316 : BitVec 32 := 0#32
  let v973 : BitVec 1 := Scalar.cmpi .sgt v75 c0_i32_316
  let v974 : BitVec 32 := Scalar.extui v973
  let c0_i32_317 : BitVec 32 := 0#32
  let v975 : BitVec 1 := Scalar.cmpi .slt v75 c0_i32_317
  let v976 : BitVec 32 := Scalar.extui v975
  let v977 : BitVec 32 := Scalar.subi v974 v976
  let c2_i32_315 : BitVec 32 := 2#32
  let c0_i32_318 : BitVec 32 := 0#32
  let v978 : BitVec 1 := Scalar.cmpi .sgt c2_i32_315 c0_i32_318
  let v979 : BitVec 32 := Scalar.extui v978
  let c0_i32_319 : BitVec 32 := 0#32
  let v980 : BitVec 1 := Scalar.cmpi .slt c2_i32_315 c0_i32_319
  let v981 : BitVec 32 := Scalar.extui v980
  let v982 : BitVec 32 := Scalar.subi v979 v981
  let v983 : BitVec 1 := Scalar.cmpi .ne v977 v982
  let v984 : BitVec 32 := Scalar.remsi v75 c2_i32_315
  let c0_i32_320 : BitVec 32 := 0#32
  let v985 : BitVec 1 := Scalar.cmpi .ne v984 c0_i32_320
  let v986 : BitVec 1 := Scalar.andi v983 v985
  let v972 : BitVec 32 := Scalar.divsi v75 c2_i32_315
  let c1_i32_321 : BitVec 32 := 1#32
  let v987 : BitVec 32 := Scalar.subi v972 c1_i32_321
  let v988 : BitVec 32 := Scalar.select v986 v987 v972
  let c0_i32_322 : BitVec 32 := 0#32
  let v989 : BitVec 32 := Scalar.maxsi v988 c0_i32_322
  let c3_i32_323 : BitVec 32 := 3#32
  let v990 : BitVec 32 := Scalar.minsi v989 c3_i32_323
  let c1_i32_508 : BitVec 32 := 1#32
  let v1325 : BitVec 32 := Scalar.subi v990 c1_i32_508
  let c1_i32_510 : BitVec 32 := 1#32
  let v1328 : BitVec 32 := Scalar.subi v1325 c1_i32_510
  let c0_i32_511 : BitVec 32 := 0#32
  let v1329 : BitVec 1 := Scalar.cmpi .ne v1328 c0_i32_511
  v1329

def k0_mult5 : BitVec 32 :=
  let c7_i32_514 : BitVec 32 := 7#32
  let c0_i32_513 : BitVec 32 := 0#32
  let c1_i32_512 : BitVec 32 := 1#32
  let v1331 : BitVec 32 := Scalar.maxsi c0_i32_513 c1_i32_512
  let v1332 : BitVec 32 := Scalar.minsi c7_i32_514 v1331
  let c256_i32_515 : BitVec 32 := 256#32
  let v1333 : BitVec 32 := Scalar.muli v1332 c256_i32_515
  v1333
def k0_off5 (c1_i32_512 : BitVec 32) : Fin 2 → Nat :=
  let c7_i32_514 : BitVec 32 := 7#32
  let c0_i32_513 : BitVec 32 := 0#32
  let v1331 : BitVec 32 := Scalar.maxsi c0_i32_513 c1_i32_512
  let v1332 : BitVec 32 := Scalar.minsi c7_i32_514 v1331
  let c256_i32_515 : BitVec 32 := 256#32
  let v1333 : BitVec 32 := Scalar.muli v1332 c256_i32_515
  let v1334 : BitVec 32 := v1333
  let v1335 : Index := Scalar.indexCast v1334
  let c0_516 : Index := 0#32
  ![v1335.toNat, 0]
def k0_off6 (c_m1_i32 : BitVec 32) : Fin 3 → Nat :=
  let c7_i32_522 : BitVec 32 := 7#32
  let c0_i32_521 : BitVec 32 := 0#32
  let v1341 : BitVec 32 := Scalar.maxsi c0_i32_521 c_m1_i32
  let v1342 : BitVec 32 := Scalar.minsi c7_i32_522 v1341
  let v1343 : Index := Scalar.indexCast v1342
  let c56_523 : Index := 56#32
  let c0_524 : Index := 0#32
  ![v1343.toNat, 56, 0]
def k0_off6_at (r : Fin 6) : BitVec 32 :=
  if r.val < 3 then
    if r.val < 1 then
      4294967295#32
    else
      if r.val < 2 then
        0#32
      else
        1#32
  else
    if r.val < 4 then
      2#32
    else
      if r.val < 5 then
        3#32
      else
        4#32
def k0_mult6 : BitVec 32 :=
  let c7_i32_563 : BitVec 32 := 7#32
  let c0_i32_562 : BitVec 32 := 0#32
  let c2_i32_561 : BitVec 32 := 2#32
  let v1411 : BitVec 32 := Scalar.maxsi c0_i32_562 c2_i32_561
  let v1412 : BitVec 32 := Scalar.minsi c7_i32_563 v1411
  let c256_i32_564 : BitVec 32 := 256#32
  let v1413 : BitVec 32 := Scalar.muli v1412 c256_i32_564
  v1413
def k0_mult7 : BitVec 32 :=
  let c7_i32_613 : BitVec 32 := 7#32
  let c0_i32_612 : BitVec 32 := 0#32
  let c3_i32_611 : BitVec 32 := 3#32
  let v1491 : BitVec 32 := Scalar.maxsi c0_i32_612 c3_i32_611
  let v1492 : BitVec 32 := Scalar.minsi c7_i32_613 v1491
  let c256_i32_614 : BitVec 32 := 256#32
  let v1493 : BitVec 32 := Scalar.muli v1492 c256_i32_614
  v1493
def k0_mult8 : BitVec 32 :=
  let c7_i32_663 : BitVec 32 := 7#32
  let c0_i32_662 : BitVec 32 := 0#32
  let c4_i32_661 : BitVec 32 := 4#32
  let v1571 : BitVec 32 := Scalar.maxsi c0_i32_662 c4_i32_661
  let v1572 : BitVec 32 := Scalar.minsi c7_i32_663 v1571
  let c256_i32_664 : BitVec 32 := 256#32
  let v1573 : BitVec 32 := Scalar.muli v1572 c256_i32_664
  v1573
def k0_mult9 : BitVec 32 :=
  let c7_i32_713 : BitVec 32 := 7#32
  let c0_i32_712 : BitVec 32 := 0#32
  let c5_i32_711 : BitVec 32 := 5#32
  let v1651 : BitVec 32 := Scalar.maxsi c0_i32_712 c5_i32_711
  let v1652 : BitVec 32 := Scalar.minsi c7_i32_713 v1651
  let c256_i32_714 : BitVec 32 := 256#32
  let v1653 : BitVec 32 := Scalar.muli v1652 c256_i32_714
  v1653
def k0_mult10 : BitVec 32 :=
  let c7_i32_763 : BitVec 32 := 7#32
  let c0_i32_762 : BitVec 32 := 0#32
  let c6_i32_761 : BitVec 32 := 6#32
  let v1731 : BitVec 32 := Scalar.maxsi c0_i32_762 c6_i32_761
  let v1732 : BitVec 32 := Scalar.minsi c7_i32_763 v1731
  let c256_i32_764 : BitVec 32 := 256#32
  let v1733 : BitVec 32 := Scalar.muli v1732 c256_i32_764
  v1733
def k0_mult11 : BitVec 32 :=
  let c7_i32_514 : BitVec 32 := 7#32
  let c0_i32_513 : BitVec 32 := 0#32
  let c1_i32_512 : BitVec 32 := 1#32
  let v1331 : BitVec 32 := Scalar.maxsi c0_i32_513 c1_i32_512
  let v1332 : BitVec 32 := Scalar.minsi c7_i32_514 v1331
  let c256_i32_515 : BitVec 32 := 256#32
  let v1333 : BitVec 32 := Scalar.muli v1332 c256_i32_515
  v1333
def k0_off7 (c1_i32_512 : BitVec 32) : Fin 2 → Nat :=
  let c7_i32_514 : BitVec 32 := 7#32
  let c0_i32_513 : BitVec 32 := 0#32
  let v1331 : BitVec 32 := Scalar.maxsi c0_i32_513 c1_i32_512
  let v1332 : BitVec 32 := Scalar.minsi c7_i32_514 v1331
  let c256_i32_515 : BitVec 32 := 256#32
  let v1333 : BitVec 32 := Scalar.muli v1332 c256_i32_515
  let v1334 : BitVec 32 := v1333
  let v1335 : Index := Scalar.indexCast v1334
  let c0_516 : Index := 0#32
  ![v1335.toNat, 0]
def k0_off8 (c_m1_i32 : BitVec 32) : Fin 3 → Nat :=
  let c7_i32_522 : BitVec 32 := 7#32
  let c0_i32_521 : BitVec 32 := 0#32
  let v1341 : BitVec 32 := Scalar.maxsi c0_i32_521 c_m1_i32
  let v1342 : BitVec 32 := Scalar.minsi c7_i32_522 v1341
  let v1343 : Index := Scalar.indexCast v1342
  let c56_523 : Index := 56#32
  let c0_524 : Index := 0#32
  ![v1343.toNat, 56, 0]
def k0_off8_at (r : Fin 4) : BitVec 32 :=
  if r.val < 2 then
    if r.val < 1 then
      4294967295#32
    else
      0#32
  else
    if r.val < 3 then
      1#32
    else
      2#32
def k0_mult12 : BitVec 32 :=
  let c7_i32_563 : BitVec 32 := 7#32
  let c0_i32_562 : BitVec 32 := 0#32
  let c2_i32_561 : BitVec 32 := 2#32
  let v1411 : BitVec 32 := Scalar.maxsi c0_i32_562 c2_i32_561
  let v1412 : BitVec 32 := Scalar.minsi c7_i32_563 v1411
  let c256_i32_564 : BitVec 32 := 256#32
  let v1413 : BitVec 32 := Scalar.muli v1412 c256_i32_564
  v1413
def k0_mult13 : BitVec 32 :=
  let c7_i32_613 : BitVec 32 := 7#32
  let c0_i32_612 : BitVec 32 := 0#32
  let c3_i32_611 : BitVec 32 := 3#32
  let v1491 : BitVec 32 := Scalar.maxsi c0_i32_612 c3_i32_611
  let v1492 : BitVec 32 := Scalar.minsi c7_i32_613 v1491
  let c256_i32_614 : BitVec 32 := 256#32
  let v1493 : BitVec 32 := Scalar.muli v1492 c256_i32_614
  v1493
def k0_mult14 : BitVec 32 :=
  let c7_i32_663 : BitVec 32 := 7#32
  let c0_i32_662 : BitVec 32 := 0#32
  let c4_i32_661 : BitVec 32 := 4#32
  let v1571 : BitVec 32 := Scalar.maxsi c0_i32_662 c4_i32_661
  let v1572 : BitVec 32 := Scalar.minsi c7_i32_663 v1571
  let c256_i32_664 : BitVec 32 := 256#32
  let v1573 : BitVec 32 := Scalar.muli v1572 c256_i32_664
  v1573
def k0_mult15 : BitVec 32 :=
  let c7_i32_512 : BitVec 32 := 7#32
  let c0_i32_511 : BitVec 32 := 0#32
  let c1_i32_510 : BitVec 32 := 1#32
  let v1328 : BitVec 32 := Scalar.maxsi c0_i32_511 c1_i32_510
  let v1329 : BitVec 32 := Scalar.minsi c7_i32_512 v1328
  let c256_i32_513 : BitVec 32 := 256#32
  let v1330 : BitVec 32 := Scalar.muli v1329 c256_i32_513
  v1330
def k0_off9 (c1_i32_510 : BitVec 32) : Fin 2 → Nat :=
  let c7_i32_512 : BitVec 32 := 7#32
  let c0_i32_511 : BitVec 32 := 0#32
  let v1328 : BitVec 32 := Scalar.maxsi c0_i32_511 c1_i32_510
  let v1329 : BitVec 32 := Scalar.minsi c7_i32_512 v1328
  let c256_i32_513 : BitVec 32 := 256#32
  let v1330 : BitVec 32 := Scalar.muli v1329 c256_i32_513
  let v1331 : BitVec 32 := v1330
  let v1332 : Index := Scalar.indexCast v1331
  let c0_514 : Index := 0#32
  ![v1332.toNat, 0]
def k0_off10 (c_m1_i32 : BitVec 32) : Fin 3 → Nat :=
  let c7_i32_520 : BitVec 32 := 7#32
  let c0_i32_519 : BitVec 32 := 0#32
  let v1338 : BitVec 32 := Scalar.maxsi c0_i32_519 c_m1_i32
  let v1339 : BitVec 32 := Scalar.minsi c7_i32_520 v1338
  let v1340 : Index := Scalar.indexCast v1339
  let c56_521 : Index := 56#32
  let c0_522 : Index := 0#32
  ![v1340.toNat, 56, 0]
def k0_mult16 : BitVec 32 :=
  let c7_i32_561 : BitVec 32 := 7#32
  let c0_i32_560 : BitVec 32 := 0#32
  let c2_i32_559 : BitVec 32 := 2#32
  let v1408 : BitVec 32 := Scalar.maxsi c0_i32_560 c2_i32_559
  let v1409 : BitVec 32 := Scalar.minsi c7_i32_561 v1408
  let c256_i32_562 : BitVec 32 := 256#32
  let v1410 : BitVec 32 := Scalar.muli v1409 c256_i32_562
  v1410
def k0_mult17 (i : grid0.Coords) : BitVec 32 :=
  let c7_i32_335 : BitVec 32 := 7#32
  let c0_i32_334 : BitVec 32 := 0#32
  let c2_i32_332 : BitVec 32 := 2#32
  let arg2 : BitVec 32 := BitVec.ofNat 32 (i 2).val
  let c1_i32 : BitVec 32 := 1#32
  let v75 : BitVec 32 := Scalar.muli arg2 c1_i32
  let c0_i32_326 : BitVec 32 := 0#32
  let v994 : BitVec 1 := Scalar.cmpi .sgt v75 c0_i32_326
  let v995 : BitVec 32 := Scalar.extui v994
  let c0_i32_327 : BitVec 32 := 0#32
  let v996 : BitVec 1 := Scalar.cmpi .slt v75 c0_i32_327
  let v997 : BitVec 32 := Scalar.extui v996
  let v998 : BitVec 32 := Scalar.subi v995 v997
  let c2_i32_325 : BitVec 32 := 2#32
  let c0_i32_328 : BitVec 32 := 0#32
  let v999 : BitVec 1 := Scalar.cmpi .sgt c2_i32_325 c0_i32_328
  let v1000 : BitVec 32 := Scalar.extui v999
  let c0_i32_329 : BitVec 32 := 0#32
  let v1001 : BitVec 1 := Scalar.cmpi .slt c2_i32_325 c0_i32_329
  let v1002 : BitVec 32 := Scalar.extui v1001
  let v1003 : BitVec 32 := Scalar.subi v1000 v1002
  let v1004 : BitVec 1 := Scalar.cmpi .ne v998 v1003
  let v1005 : BitVec 32 := Scalar.remsi v75 c2_i32_325
  let c0_i32_330 : BitVec 32 := 0#32
  let v1006 : BitVec 1 := Scalar.cmpi .ne v1005 c0_i32_330
  let v1007 : BitVec 1 := Scalar.andi v1004 v1006
  let v993 : BitVec 32 := Scalar.divsi v75 c2_i32_325
  let c1_i32_331 : BitVec 32 := 1#32
  let v1008 : BitVec 32 := Scalar.subi v993 c1_i32_331
  let v1009 : BitVec 32 := Scalar.select v1007 v1008 v993
  let v1010 : BitVec 32 := Scalar.muli c2_i32_332 v1009
  let c1_i32_333 : BitVec 32 := 1#32
  let v1011 : BitVec 32 := Scalar.addi v1010 c1_i32_333
  let v1012 : BitVec 32 := Scalar.maxsi c0_i32_334 v1011
  let v1013 : BitVec 32 := Scalar.minsi c7_i32_335 v1012
  let c256_i32_336 : BitVec 32 := 256#32
  let v1014 : BitVec 32 := Scalar.muli v1013 c256_i32_336
  v1014
def k0_off11 (i : grid0.Coords) : Fin 2 → Nat :=
  let c7_i32_335 : BitVec 32 := 7#32
  let c0_i32_334 : BitVec 32 := 0#32
  let c2_i32_332 : BitVec 32 := 2#32
  let arg2 : BitVec 32 := BitVec.ofNat 32 (i 2).val
  let c1_i32 : BitVec 32 := 1#32
  let v75 : BitVec 32 := Scalar.muli arg2 c1_i32
  let c0_i32_326 : BitVec 32 := 0#32
  let v994 : BitVec 1 := Scalar.cmpi .sgt v75 c0_i32_326
  let v995 : BitVec 32 := Scalar.extui v994
  let c0_i32_327 : BitVec 32 := 0#32
  let v996 : BitVec 1 := Scalar.cmpi .slt v75 c0_i32_327
  let v997 : BitVec 32 := Scalar.extui v996
  let v998 : BitVec 32 := Scalar.subi v995 v997
  let c2_i32_325 : BitVec 32 := 2#32
  let c0_i32_328 : BitVec 32 := 0#32
  let v999 : BitVec 1 := Scalar.cmpi .sgt c2_i32_325 c0_i32_328
  let v1000 : BitVec 32 := Scalar.extui v999
  let c0_i32_329 : BitVec 32 := 0#32
  let v1001 : BitVec 1 := Scalar.cmpi .slt c2_i32_325 c0_i32_329
  let v1002 : BitVec 32 := Scalar.extui v1001
  let v1003 : BitVec 32 := Scalar.subi v1000 v1002
  let v1004 : BitVec 1 := Scalar.cmpi .ne v998 v1003
  let v1005 : BitVec 32 := Scalar.remsi v75 c2_i32_325
  let c0_i32_330 : BitVec 32 := 0#32
  let v1006 : BitVec 1 := Scalar.cmpi .ne v1005 c0_i32_330
  let v1007 : BitVec 1 := Scalar.andi v1004 v1006
  let v993 : BitVec 32 := Scalar.divsi v75 c2_i32_325
  let c1_i32_331 : BitVec 32 := 1#32
  let v1008 : BitVec 32 := Scalar.subi v993 c1_i32_331
  let v1009 : BitVec 32 := Scalar.select v1007 v1008 v993
  let v1010 : BitVec 32 := Scalar.muli c2_i32_332 v1009
  let c1_i32_333 : BitVec 32 := 1#32
  let v1011 : BitVec 32 := Scalar.addi v1010 c1_i32_333
  let v1012 : BitVec 32 := Scalar.maxsi c0_i32_334 v1011
  let v1013 : BitVec 32 := Scalar.minsi c7_i32_335 v1012
  let c256_i32_336 : BitVec 32 := 256#32
  let v1014 : BitVec 32 := Scalar.muli v1013 c256_i32_336
  let v1015 : BitVec 32 := v1014
  let v1016 : Index := Scalar.indexCast v1015
  let c0_337 : Index := 0#32
  ![v1016.toNat, 0]
def k0_off12 (i : grid0.Coords) : Fin 3 → Nat :=
  let c7_i32_344 : BitVec 32 := 7#32
  let c0_i32_343 : BitVec 32 := 0#32
  let c2_i32_332 : BitVec 32 := 2#32
  let arg2 : BitVec 32 := BitVec.ofNat 32 (i 2).val
  let c1_i32 : BitVec 32 := 1#32
  let v75 : BitVec 32 := Scalar.muli arg2 c1_i32
  let c0_i32_326 : BitVec 32 := 0#32
  let v994 : BitVec 1 := Scalar.cmpi .sgt v75 c0_i32_326
  let v995 : BitVec 32 := Scalar.extui v994
  let c0_i32_327 : BitVec 32 := 0#32
  let v996 : BitVec 1 := Scalar.cmpi .slt v75 c0_i32_327
  let v997 : BitVec 32 := Scalar.extui v996
  let v998 : BitVec 32 := Scalar.subi v995 v997
  let c2_i32_325 : BitVec 32 := 2#32
  let c0_i32_328 : BitVec 32 := 0#32
  let v999 : BitVec 1 := Scalar.cmpi .sgt c2_i32_325 c0_i32_328
  let v1000 : BitVec 32 := Scalar.extui v999
  let c0_i32_329 : BitVec 32 := 0#32
  let v1001 : BitVec 1 := Scalar.cmpi .slt c2_i32_325 c0_i32_329
  let v1002 : BitVec 32 := Scalar.extui v1001
  let v1003 : BitVec 32 := Scalar.subi v1000 v1002
  let v1004 : BitVec 1 := Scalar.cmpi .ne v998 v1003
  let v1005 : BitVec 32 := Scalar.remsi v75 c2_i32_325
  let c0_i32_330 : BitVec 32 := 0#32
  let v1006 : BitVec 1 := Scalar.cmpi .ne v1005 c0_i32_330
  let v1007 : BitVec 1 := Scalar.andi v1004 v1006
  let v993 : BitVec 32 := Scalar.divsi v75 c2_i32_325
  let c1_i32_331 : BitVec 32 := 1#32
  let v1008 : BitVec 32 := Scalar.subi v993 c1_i32_331
  let v1009 : BitVec 32 := Scalar.select v1007 v1008 v993
  let v1010 : BitVec 32 := Scalar.muli c2_i32_332 v1009
  let c1_i32_342 : BitVec 32 := 1#32
  let v1022 : BitVec 32 := Scalar.subi v1010 c1_i32_342
  let v1023 : BitVec 32 := Scalar.maxsi c0_i32_343 v1022
  let v1024 : BitVec 32 := Scalar.minsi c7_i32_344 v1023
  let v1025 : Index := Scalar.indexCast v1024
  let c56_345 : Index := 56#32
  let c0_346 : Index := 0#32
  ![v1025.toNat, 56, 0]
def k0_off13 (i : grid0.Coords) : Fin 3 → Nat :=
  let c7_i32_387 : BitVec 32 := 7#32
  let c0_i32_386 : BitVec 32 := 0#32
  let c2_i32_332 : BitVec 32 := 2#32
  let arg2 : BitVec 32 := BitVec.ofNat 32 (i 2).val
  let c1_i32 : BitVec 32 := 1#32
  let v75 : BitVec 32 := Scalar.muli arg2 c1_i32
  let c0_i32_326 : BitVec 32 := 0#32
  let v994 : BitVec 1 := Scalar.cmpi .sgt v75 c0_i32_326
  let v995 : BitVec 32 := Scalar.extui v994
  let c0_i32_327 : BitVec 32 := 0#32
  let v996 : BitVec 1 := Scalar.cmpi .slt v75 c0_i32_327
  let v997 : BitVec 32 := Scalar.extui v996
  let v998 : BitVec 32 := Scalar.subi v995 v997
  let c2_i32_325 : BitVec 32 := 2#32
  let c0_i32_328 : BitVec 32 := 0#32
  let v999 : BitVec 1 := Scalar.cmpi .sgt c2_i32_325 c0_i32_328
  let v1000 : BitVec 32 := Scalar.extui v999
  let c0_i32_329 : BitVec 32 := 0#32
  let v1001 : BitVec 1 := Scalar.cmpi .slt c2_i32_325 c0_i32_329
  let v1002 : BitVec 32 := Scalar.extui v1001
  let v1003 : BitVec 32 := Scalar.subi v1000 v1002
  let v1004 : BitVec 1 := Scalar.cmpi .ne v998 v1003
  let v1005 : BitVec 32 := Scalar.remsi v75 c2_i32_325
  let c0_i32_330 : BitVec 32 := 0#32
  let v1006 : BitVec 1 := Scalar.cmpi .ne v1005 c0_i32_330
  let v1007 : BitVec 1 := Scalar.andi v1004 v1006
  let v993 : BitVec 32 := Scalar.divsi v75 c2_i32_325
  let c1_i32_331 : BitVec 32 := 1#32
  let v1008 : BitVec 32 := Scalar.subi v993 c1_i32_331
  let v1009 : BitVec 32 := Scalar.select v1007 v1008 v993
  let v1010 : BitVec 32 := Scalar.muli c2_i32_332 v1009
  let v1104 : BitVec 32 := Scalar.maxsi c0_i32_386 v1010
  let v1105 : BitVec 32 := Scalar.minsi c7_i32_387 v1104
  let v1106 : Index := Scalar.indexCast v1105
  let c56_388 : Index := 56#32
  let c0_389 : Index := 0#32
  ![v1106.toNat, 56, 0]
def k0_off14 (i : grid0.Coords) : Fin 3 → Nat :=
  let c7_i32_432 : BitVec 32 := 7#32
  let c0_i32_431 : BitVec 32 := 0#32
  let c2_i32_332 : BitVec 32 := 2#32
  let arg2 : BitVec 32 := BitVec.ofNat 32 (i 2).val
  let c1_i32 : BitVec 32 := 1#32
  let v75 : BitVec 32 := Scalar.muli arg2 c1_i32
  let c0_i32_326 : BitVec 32 := 0#32
  let v994 : BitVec 1 := Scalar.cmpi .sgt v75 c0_i32_326
  let v995 : BitVec 32 := Scalar.extui v994
  let c0_i32_327 : BitVec 32 := 0#32
  let v996 : BitVec 1 := Scalar.cmpi .slt v75 c0_i32_327
  let v997 : BitVec 32 := Scalar.extui v996
  let v998 : BitVec 32 := Scalar.subi v995 v997
  let c2_i32_325 : BitVec 32 := 2#32
  let c0_i32_328 : BitVec 32 := 0#32
  let v999 : BitVec 1 := Scalar.cmpi .sgt c2_i32_325 c0_i32_328
  let v1000 : BitVec 32 := Scalar.extui v999
  let c0_i32_329 : BitVec 32 := 0#32
  let v1001 : BitVec 1 := Scalar.cmpi .slt c2_i32_325 c0_i32_329
  let v1002 : BitVec 32 := Scalar.extui v1001
  let v1003 : BitVec 32 := Scalar.subi v1000 v1002
  let v1004 : BitVec 1 := Scalar.cmpi .ne v998 v1003
  let v1005 : BitVec 32 := Scalar.remsi v75 c2_i32_325
  let c0_i32_330 : BitVec 32 := 0#32
  let v1006 : BitVec 1 := Scalar.cmpi .ne v1005 c0_i32_330
  let v1007 : BitVec 1 := Scalar.andi v1004 v1006
  let v993 : BitVec 32 := Scalar.divsi v75 c2_i32_325
  let c1_i32_331 : BitVec 32 := 1#32
  let v1008 : BitVec 32 := Scalar.subi v993 c1_i32_331
  let v1009 : BitVec 32 := Scalar.select v1007 v1008 v993
  let v1010 : BitVec 32 := Scalar.muli c2_i32_332 v1009
  let c1_i32_430 : BitVec 32 := 1#32
  let v1186 : BitVec 32 := Scalar.addi v1010 c1_i32_430
  let v1187 : BitVec 32 := Scalar.maxsi c0_i32_431 v1186
  let v1188 : BitVec 32 := Scalar.minsi c7_i32_432 v1187
  let v1189 : Index := Scalar.indexCast v1188
  let c56_433 : Index := 56#32
  let c0_434 : Index := 0#32
  ![v1189.toNat, 56, 0]
def k0_off15 (i : grid0.Coords) (c0_i32_446 : BitVec 32) (c0_i32_447 : BitVec 32) : Fin 3 → Nat :=
  let c0_448 : Index := 0#32
  let arg1 : BitVec 32 := BitVec.ofNat 32 (i 1).val
  let c4_i32_445 : BitVec 32 := 4#32
  let v1211 : BitVec 32 := Scalar.muli arg1 c4_i32_445
  let v1212 : BitVec 32 := Scalar.addi c0_i32_446 v1211
  let v1213 : BitVec 32 := Scalar.addi v1212 c0_i32_447
  let v1214 : Index := Scalar.indexCast v1213
  let c0_449 : Index := 0#32
  ![0, v1214.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "mask" => some ⊥
  | "qscale" => some (((1 / 8) * (Real.log 2)⁻¹ : ℝ) : EReal)
  | _ => none
-- ==== ReferenceIdeal.lean ====
abbrev S8x2048 : Shape := ⟨2, ![8, 2048]⟩
abbrev S8x2048x1024 : Shape := ⟨3, ![8, 2048, 1024]⟩
abbrev S8x127x4x64 : Shape := ⟨4, ![8, 127, 4, 64]⟩
abbrev S8x2048x4x64 : Shape := ⟨4, ![8, 2048, 4, 64]⟩
abbrev S8x2048x3x4x4 : Shape := ⟨5, ![8, 2048, 3, 4, 4]⟩
abbrev S8 : Shape := ⟨1, ![8]⟩
abbrev S_ : Shape := ⟨0, ![]⟩
abbrev S8x2048x1 : Shape := ⟨3, ![8, 2048, 1]⟩
abbrev S1x1x8 : Shape := ⟨3, ![1, 1, 8]⟩
abbrev S8x2048x8 : Shape := ⟨3, ![8, 2048, 8]⟩
abbrev S8x2048x1x8 : Shape := ⟨4, ![8, 2048, 1, 8]⟩
abbrev S8x2048x16x64 : Shape := ⟨4, ![8, 2048, 16, 64]⟩
abbrev S8x2048x4x4x64 : Shape := ⟨5, ![8, 2048, 4, 4, 64]⟩
abbrev S8x2048x16x8 : Shape := ⟨4, ![8, 2048, 16, 8]⟩
abbrev S8x2048x16x48 : Shape := ⟨4, ![8, 2048, 16, 48]⟩
abbrev S8x2048x4x8 : Shape := ⟨4, ![8, 2048, 4, 8]⟩
abbrev S8x2048x4x48 : Shape := ⟨4, ![8, 2048, 4, 48]⟩
abbrev S2048 : Shape := ⟨1, ![2048]⟩
abbrev S127 : Shape := ⟨1, ![127]⟩
abbrev S1x127 : Shape := ⟨2, ![1, 127]⟩
abbrev S2048x1 : Shape := ⟨2, ![2048, 1]⟩
abbrev S2048x127 : Shape := ⟨2, ![2048, 127]⟩
abbrev S8x4x127x2048x4 : Shape := ⟨5, ![8, 4, 127, 2048, 4]⟩
abbrev S8x4x4x2048x127 : Shape := ⟨5, ![8, 4, 4, 2048, 127]⟩
abbrev S8x4x4x2048 : Shape := ⟨4, ![8, 4, 4, 2048]⟩
abbrev S8x4x4x2048x1 : Shape := ⟨5, ![8, 4, 4, 2048, 1]⟩
abbrev S8x4x64x4x2048 : Shape := ⟨5, ![8, 4, 64, 4, 2048]⟩
abbrev S32 : Shape := ⟨1, ![32]⟩
abbrev S127x1 : Shape := ⟨2, ![127, 1]⟩
abbrev S1x32 : Shape := ⟨2, ![1, 32]⟩
abbrev S127x32 : Shape := ⟨2, ![127, 32]⟩
abbrev S8x4x2048x127 : Shape := ⟨4, ![8, 4, 2048, 127]⟩
abbrev S8x4x2048x32 : Shape := ⟨4, ![8, 4, 2048, 32]⟩
abbrev S2048x32 : Shape := ⟨2, ![2048, 32]⟩
abbrev S8x4x2048x8 : Shape := ⟨4, ![8, 4, 2048, 8]⟩
abbrev S8x4x2048x8x1 : Shape := ⟨5, ![8, 4, 2048, 8, 1]⟩
abbrev S1x1x1x1x32 : Shape := ⟨5, ![1, 1, 1, 1, 32]⟩
abbrev S8x4x2048x8x32 : Shape := ⟨5, ![8, 4, 2048, 8, 32]⟩
abbrev S1x2048 : Shape := ⟨2, ![1, 2048]⟩
abbrev S2048x2048 : Shape := ⟨2, ![2048, 2048]⟩
abbrev S8x4x2048x32x64 : Shape := ⟨5, ![8, 4, 2048, 32, 64]⟩
abbrev S8x4x2048x2048 : Shape := ⟨4, ![8, 4, 2048, 2048]⟩
abbrev S1x1x2048x2048 : Shape := ⟨4, ![1, 1, 2048, 2048]⟩
abbrev S8x4x2048x2048x4 : Shape := ⟨5, ![8, 4, 2048, 2048, 4]⟩
abbrev S8x4x4x2048x2048 : Shape := ⟨5, ![8, 4, 4, 2048, 2048]⟩
abbrev S8x4x1x2048x2048 : Shape := ⟨5, ![8, 4, 1, 2048, 2048]⟩
abbrev S8x2048x1x4x4x64 : Shape := ⟨6, ![8, 2048, 1, 4, 4, 64]⟩
abbrev S8x2048x3x4x4x64 : Shape := ⟨6, ![8, 2048, 3, 4, 4, 64]⟩
abbrev S8x2048x3x4x4x1 : Shape := ⟨6, ![8, 2048, 3, 4, 4, 1]⟩

abbrev nBuf : Space → Nat
  | .hbm => 275
  | .vmem => 0
  | .smem => 0
  | _ => 0

abbrev hbmTy0_0 (i : Nat) : BufTy := match i % 128 with
  | 0 => ⟨S8x2048, .i32⟩
  | 1 => ⟨S8x2048x1024, .f32⟩
  | 2 => ⟨S8x127x4x64, .f32⟩
  | 3 => ⟨S8x127x4x64, .f32⟩
  | 4 => ⟨S8x2048x4x64, .f32⟩
  | 5 => ⟨S8x2048x4x64, .f32⟩
  | 6 => ⟨S8x2048x4x64, .f32⟩
  | 7 => ⟨S8x2048x4x64, .f32⟩
  | 8 => ⟨S8x2048x3x4x4, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S8x2048, .f32⟩
  | 24 => ⟨S8x2048x1, .f32⟩
  | 25 => ⟨S1x1x8, .f32⟩
  | 26 => ⟨S8x2048x8, .f32⟩
  | 27 => ⟨S8x2048x8, .f32⟩
  | 28 => ⟨S8x2048x8, .f32⟩
  | 29 => ⟨S8x2048x8, .f32⟩
  | 30 => ⟨S8x2048x1x8, .f32⟩
  | 31 => ⟨S8x2048x8, .f32⟩
  | 32 => ⟨S8x2048x1x8, .f32⟩
  | 33 => ⟨S8x2048x16x64, .f32⟩
  | 34 => ⟨S8x2048x4x4x64, .f32⟩
  | 35 => ⟨S8x2048x16x8, .f32⟩
  | 36 => ⟨S8x2048x16x8, .f32⟩
  | 37 => ⟨S8x2048x16x8, .f32⟩
  | 38 => ⟨S8x2048x16x8, .f32⟩
  | 39 => ⟨S8x2048x16x8, .f32⟩
  | 40 => ⟨S8x2048x16x8, .f32⟩
  | 41 => ⟨S8x2048x16x8, .f32⟩
  | 42 => ⟨S8x2048x16x8, .f32⟩
  | 43 => ⟨S8x2048x16x8, .f32⟩
  | 44 => ⟨S8x2048x16x8, .f32⟩
  | 45 => ⟨S8x2048x16x8, .f32⟩
  | 46 => ⟨S8x2048x16x8, .f32⟩
  | 47 => ⟨S8x2048x16x48, .f32⟩
  | 48 => ⟨S8x2048x16x64, .f32⟩
  | 49 => ⟨S8x2048x4x4x64, .f32⟩
  | 50 => ⟨S8x2048x4x8, .f32⟩
  | 51 => ⟨S8x2048x4x8, .f32⟩
  | 52 => ⟨S8x2048x4x8, .f32⟩
  | 53 => ⟨S8x2048x4x8, .f32⟩
  | 54 => ⟨S8x2048x4x8, .f32⟩
  | 55 => ⟨S8x2048x4x8, .f32⟩
  | 56 => ⟨S8x2048x4x8, .f32⟩
  | 57 => ⟨S8x2048x4x8, .f32⟩
  | 58 => ⟨S8x2048x4x8, .f32⟩
  | 59 => ⟨S8x2048x4x8, .f32⟩
  | 60 => ⟨S8x2048x4x8, .f32⟩
  | 61 => ⟨S8x2048x4x8, .f32⟩
  | 62 => ⟨S8x2048x4x48, .f32⟩
  | 63 => ⟨S8x2048x4x64, .f32⟩
  | 64 => ⟨S8x2048x4x8, .f32⟩
  | 65 => ⟨S8x2048x4x8, .f32⟩
  | 66 => ⟨S8x2048x4x8, .f32⟩
  | 67 => ⟨S8x2048x4x8, .f32⟩
  | 68 => ⟨S8x2048x4x8, .f32⟩
  | 69 => ⟨S8x2048x4x8, .f32⟩
  | 70 => ⟨S8x2048x4x8, .f32⟩
  | 71 => ⟨S8x2048x4x8, .f32⟩
  | 72 => ⟨S8x2048x4x8, .f32⟩
  | 73 => ⟨S8x2048x4x8, .f32⟩
  | 74 => ⟨S8x2048x4x8, .f32⟩
  | 75 => ⟨S8x2048x4x8, .f32⟩
  | 76 => ⟨S8x2048x4x48, .f32⟩
  | 77 => ⟨S8x2048x4x64, .f32⟩
  | 78 => ⟨S2048, .i32⟩
  | 79 => ⟨S127, .i32⟩
  | 80 => ⟨S_, .i32⟩
  | 81 => ⟨S127, .i32⟩
  | 82 => ⟨S127, .i32⟩
  | 83 => ⟨S_, .i32⟩
  | 84 => ⟨S127, .i32⟩
  | 85 => ⟨S127, .i32⟩
  | 86 => ⟨S_, .i32⟩
  | 87 => ⟨S127, .i32⟩
  | 88 => ⟨S127, .i32⟩
  | 89 => ⟨S1x127, .i32⟩
  | 90 => ⟨S2048x1, .i32⟩
  | 91 => ⟨S2048x127, .i32⟩
  | 92 => ⟨S2048x127, .i32⟩
  | 93 => ⟨S2048x127, .i1⟩
  | 94 => ⟨S8x4x127x2048x4, .f32⟩
  | 95 => ⟨S8x4x4x2048x127, .f32⟩
  | 96 => ⟨S_, .f32⟩
  | 97 => ⟨S8x4x4x2048x127, .f32⟩
  | 98 => ⟨S8x4x4x2048x127, .f32⟩
  | 99 => ⟨S8x4x4x2048x127, .i1⟩
  | 100 => ⟨S_, .f32⟩
  | 101 => ⟨S8x4x4x2048x127, .f32⟩
  | 102 => ⟨S8x4x4x2048x127, .f32⟩
  | 103 => ⟨S_, .f32⟩
  | 104 => ⟨S8x4x4x2048, .f32⟩
  | 105 => ⟨S_, .f32⟩
  | 106 => ⟨S8x4x4x2048, .f32⟩
  | 107 => ⟨S8x4x4x2048, .f32⟩
  | 108 => ⟨S8x4x4x2048x1, .f32⟩
  | 109 => ⟨S8x4x4x2048x127, .f32⟩
  | 110 => ⟨S8x4x4x2048x127, .f32⟩
  | 111 => ⟨S8x4x4x2048x127, .f32⟩
  | 112 => ⟨S_, .f32⟩
  | 113 => ⟨S8x4x4x2048, .f32⟩
  | 114 => ⟨S8x4x4x2048x1, .f32⟩
  | 115 => ⟨S8x4x4x2048x127, .f32⟩
  | 116 => ⟨S8x4x4x2048x127, .f32⟩
  | 117 => ⟨S8x4x4x2048x127, .i1⟩
  | 118 => ⟨S_, .f32⟩
  | 119 => ⟨S8x4x4x2048x127, .f32⟩
  | 120 => ⟨S8x4x4x2048x127, .f32⟩
  | 121 => ⟨S8x4x64x4x2048, .f32⟩
  | 122 => ⟨S8x2048x4x4x64, .f32⟩
  | 123 => ⟨S32, .i32⟩
  | 124 => ⟨S_, .i32⟩
  | 125 => ⟨S32, .i32⟩
  | 126 => ⟨S32, .i32⟩
  | 127 => ⟨S127x1, .i32⟩
  | _ => ⟨S8x2048, .i32⟩

abbrev hbmTy0_1 (i : Nat) : BufTy := match i % 128 with
  | 0 => ⟨S1x32, .i32⟩
  | 1 => ⟨S_, .i32⟩
  | 2 => ⟨S1x32, .i32⟩
  | 3 => ⟨S1x32, .i32⟩
  | 4 => ⟨S127x32, .i32⟩
  | 5 => ⟨S127x32, .i32⟩
  | 6 => ⟨S127x32, .i1⟩
  | 7 => ⟨S127x1, .i32⟩
  | 8 => ⟨S_, .i32⟩
  | 9 => ⟨S127x1, .i32⟩
  | 10 => ⟨S127x1, .i32⟩
  | 11 => ⟨S1x32, .i32⟩
  | 12 => ⟨S127x32, .i32⟩
  | 13 => ⟨S127x32, .i32⟩
  | 14 => ⟨S127x32, .i1⟩
  | 15 => ⟨S127x32, .i1⟩
  | 16 => ⟨S127x32, .f32⟩
  | 17 => ⟨S_, .f32⟩
  | 18 => ⟨S8x4x2048x127, .f32⟩
  | 19 => ⟨S8x4x2048x32, .f32⟩
  | 20 => ⟨S32, .i32⟩
  | 21 => ⟨S1x32, .i32⟩
  | 22 => ⟨S_, .i32⟩
  | 23 => ⟨S2048, .i32⟩
  | 24 => ⟨S2048, .i32⟩
  | 25 => ⟨S2048x1, .i32⟩
  | 26 => ⟨S_, .i32⟩
  | 27 => ⟨S1x32, .i32⟩
  | 28 => ⟨S1x32, .i1⟩
  | 29 => ⟨S2048x32, .i32⟩
  | 30 => ⟨S2048x32, .i32⟩
  | 31 => ⟨S2048x32, .i1⟩
  | 32 => ⟨S2048x32, .i1⟩
  | 33 => ⟨S2048x32, .i1⟩
  | 34 => ⟨S_, .i32⟩
  | 35 => ⟨S2048x1, .i32⟩
  | 36 => ⟨S2048x1, .i32⟩
  | 37 => ⟨S2048x32, .i32⟩
  | 38 => ⟨S2048x32, .i32⟩
  | 39 => ⟨S2048x32, .i1⟩
  | 40 => ⟨S2048x32, .i1⟩
  | 41 => ⟨S2048x32, .i1⟩
  | 42 => ⟨S2048x32, .i32⟩
  | 43 => ⟨S2048x32, .i32⟩
  | 44 => ⟨S2048x32, .i1⟩
  | 45 => ⟨S8x4x2048x32, .i1⟩
  | 46 => ⟨S_, .f32⟩
  | 47 => ⟨S8x4x2048x32, .f32⟩
  | 48 => ⟨S8x4x2048x32, .f32⟩
  | 49 => ⟨S8x4x2048x32, .i1⟩
  | 50 => ⟨S_, .f32⟩
  | 51 => ⟨S8x4x2048x32, .f32⟩
  | 52 => ⟨S8x4x2048x32, .f32⟩
  | 53 => ⟨S8x4x2048x8, .f32⟩
  | 54 => ⟨S8x4x2048x8, .i32⟩
  | 55 => ⟨S8x4x2048x8x1, .i32⟩
  | 56 => ⟨S32, .i32⟩
  | 57 => ⟨S1x1x1x1x32, .i32⟩
  | 58 => ⟨S8x4x2048x8x32, .i32⟩
  | 59 => ⟨S8x4x2048x8x32, .i32⟩
  | 60 => ⟨S8x4x2048x8x32, .i1⟩
  | 61 => ⟨S_, .i1⟩
  | 62 => ⟨S8x4x2048x32, .i1⟩
  | 63 => ⟨S1x2048, .i32⟩
  | 64 => ⟨S2048x1, .i32⟩
  | 65 => ⟨S2048x2048, .i32⟩
  | 66 => ⟨S2048x2048, .i32⟩
  | 67 => ⟨S2048x2048, .i1⟩
  | 68 => ⟨S8x4x2048x32x64, .i1⟩
  | 69 => ⟨S8x4x2048x2048, .i1⟩
  | 70 => ⟨S1x1x2048x2048, .i1⟩
  | 71 => ⟨S8x4x2048x2048, .i1⟩
  | 72 => ⟨S8x4x2048x2048, .i1⟩
  | 73 => ⟨S8x4x2048x2048x4, .f32⟩
  | 74 => ⟨S8x4x4x2048x2048, .f32⟩
  | 75 => ⟨S_, .f32⟩
  | 76 => ⟨S8x4x4x2048x2048, .f32⟩
  | 77 => ⟨S8x4x4x2048x2048, .f32⟩
  | 78 => ⟨S8x4x1x2048x2048, .i1⟩
  | 79 => ⟨S8x4x4x2048x2048, .i1⟩
  | 80 => ⟨S_, .f32⟩
  | 81 => ⟨S8x4x4x2048x2048, .f32⟩
  | 82 => ⟨S8x4x4x2048x2048, .f32⟩
  | 83 => ⟨S_, .f32⟩
  | 84 => ⟨S8x4x4x2048, .f32⟩
  | 85 => ⟨S_, .f32⟩
  | 86 => ⟨S8x4x4x2048, .f32⟩
  | 87 => ⟨S8x4x4x2048, .f32⟩
  | 88 => ⟨S8x4x4x2048x1, .f32⟩
  | 89 => ⟨S8x4x4x2048x2048, .f32⟩
  | 90 => ⟨S8x4x4x2048x2048, .f32⟩
  | 91 => ⟨S8x4x4x2048x2048, .f32⟩
  | 92 => ⟨S_, .f32⟩
  | 93 => ⟨S8x4x4x2048, .f32⟩
  | 94 => ⟨S8x4x4x2048x1, .f32⟩
  | 95 => ⟨S8x4x4x2048x2048, .f32⟩
  | 96 => ⟨S8x4x4x2048x2048, .f32⟩
  | 97 => ⟨S8x4x64x4x2048, .f32⟩
  | 98 => ⟨S8x2048x4x4x64, .f32⟩
  | 99 => ⟨S2048x1, .i32⟩
  | 100 => ⟨S1x2048, .i32⟩
  | 101 => ⟨S2048x2048, .i32⟩
  | 102 => ⟨S2048x2048, .i32⟩
  | 103 => ⟨S2048x2048, .i32⟩
  | 104 => ⟨S_, .i32⟩
  | 105 => ⟨S2048x2048, .i32⟩
  | 106 => ⟨S2048x2048, .i1⟩
  | 107 => ⟨S_, .i32⟩
  | 108 => ⟨S2048x2048, .i32⟩
  | 109 => ⟨S2048x2048, .i1⟩
  | 110 => ⟨S2048x2048, .i1⟩
  | 111 => ⟨S8x4x2048x2048x4, .f32⟩
  | 112 => ⟨S8x4x4x2048x2048, .f32⟩
  | 113 => ⟨S_, .f32⟩
  | 114 => ⟨S8x4x4x2048x2048, .f32⟩
  | 115 => ⟨S8x4x4x2048x2048, .f32⟩
  | 116 => ⟨S8x4x4x2048x2048, .i1⟩
  | 117 => ⟨S_, .f32⟩
  | 118 => ⟨S8x4x4x2048x2048, .f32⟩
  | 119 => ⟨S8x4x4x2048x2048, .f32⟩
  | 120 => ⟨S_, .f32⟩
  | 121 => ⟨S8x4x4x2048, .f32⟩
  | 122 => ⟨S_, .f32⟩
  | 123 => ⟨S8x4x4x2048, .f32⟩
  | 124 => ⟨S8x4x4x2048, .f32⟩
  | 125 => ⟨S8x4x4x2048x1, .f32⟩
  | 126 => ⟨S8x4x4x2048x2048, .f32⟩
  | 127 => ⟨S8x4x4x2048x2048, .f32⟩
  | _ => ⟨S8x2048, .i32⟩

abbrev hbmTy0_2 (i : Nat) : BufTy := match i % 128 with
  | 0 => ⟨S8x4x4x2048x2048, .f32⟩
  | 1 => ⟨S_, .f32⟩
  | 2 => ⟨S8x4x4x2048, .f32⟩
  | 3 => ⟨S8x4x4x2048x1, .f32⟩
  | 4 => ⟨S8x4x4x2048x2048, .f32⟩
  | 5 => ⟨S8x4x4x2048x2048, .f32⟩
  | 6 => ⟨S8x4x64x4x2048, .f32⟩
  | 7 => ⟨S8x2048x4x4x64, .f32⟩
  | 8 => ⟨S8x2048x1x4x4x64, .f32⟩
  | 9 => ⟨S8x2048x1x4x4x64, .f32⟩
  | 10 => ⟨S8x2048x1x4x4x64, .f32⟩
  | 11 => ⟨S8x2048x3x4x4x64, .f32⟩
  | 12 => ⟨S8x2048x3x4x4x1, .f32⟩
  | 13 => ⟨S8x2048x3x4x4x64, .f32⟩
  | 14 => ⟨S8x2048x3x4x4x64, .f32⟩
  | 15 => ⟨S_, .f32⟩
  | 16 => ⟨S8x2048x4x4x64, .f32⟩
  | 17 => ⟨S8x2048x1024, .f32⟩
  | 18 => ⟨S8x2048x1024, .bf16⟩
  | _ => ⟨S8x2048, .i32⟩

abbrev hbmTy (i : Nat) : BufTy := match i / 128 with
  | 0 => hbmTy0_0 i
  | 1 => hbmTy0_1 i
  | 2 => hbmTy0_2 i
  | _ => ⟨S8x2048, .i32⟩

abbrev bufTy : (tb : Table) → Fin (tcTables nBuf tb) → BufTy
  | .hbm, ⟨i, _⟩ => hbmTy i
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_c : Ref sig .tc := ⟨.hbm, 80, rfl⟩
abbrev main_v67 : Ref sig .tc := ⟨.hbm, 81, rfl⟩
abbrev main_v68 : Ref sig .tc := ⟨.hbm, 82, rfl⟩
abbrev main_c_3 : Ref sig .tc := ⟨.hbm, 83, rfl⟩
abbrev main_v69 : Ref sig .tc := ⟨.hbm, 84, rfl⟩
abbrev main_v70 : Ref sig .tc := ⟨.hbm, 85, rfl⟩
abbrev main_c_4 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_5 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_6 : Ref sig .tc := ⟨.hbm, 100, rfl⟩
abbrev main_v83 : Ref sig .tc := ⟨.hbm, 101, rfl⟩
abbrev main_v84 : Ref sig .tc := ⟨.hbm, 102, rfl⟩
abbrev main_cst_7 : Ref sig .tc := ⟨.hbm, 103, rfl⟩
abbrev main_v85 : Ref sig .tc := ⟨.hbm, 104, rfl⟩
abbrev main_cst_8 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_9 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_10 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_c_11 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_c_12 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_c_13 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_cst_14 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_c_15 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_c_16 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_c_17 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_18 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_cst_19 : Ref sig .tc := ⟨.hbm, 178, rfl⟩
abbrev main_v148 : Ref sig .tc := ⟨.hbm, 179, rfl⟩
abbrev main_v149 : Ref sig .tc := ⟨.hbm, 180, rfl⟩
abbrev main_values : Ref sig .tc := ⟨.hbm, 181, rfl⟩
abbrev main_indices : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_c_20 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_cst_21 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_cst_22 : Ref sig .tc := ⟨.hbm, 208, rfl⟩
abbrev main_v173 : Ref sig .tc := ⟨.hbm, 209, rfl⟩
abbrev main_v174 : Ref sig .tc := ⟨.hbm, 210, rfl⟩
abbrev main_cst_23 : Ref sig .tc := ⟨.hbm, 211, rfl⟩
abbrev main_v175 : Ref sig .tc := ⟨.hbm, 212, rfl⟩
abbrev main_cst_24 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_cst_25 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_c_26 : Ref sig .tc := ⟨.hbm, 232, rfl⟩
abbrev main_v193 : Ref sig .tc := ⟨.hbm, 233, rfl⟩
abbrev main_v194 : Ref sig .tc := ⟨.hbm, 234, rfl⟩
abbrev main_c_27 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_cst_28 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_cst_29 : Ref sig .tc := ⟨.hbm, 245, rfl⟩
abbrev main_v203 : Ref sig .tc := ⟨.hbm, 246, rfl⟩
abbrev main_v204 : Ref sig .tc := ⟨.hbm, 247, rfl⟩
abbrev main_cst_30 : Ref sig .tc := ⟨.hbm, 248, rfl⟩
abbrev main_v205 : Ref sig .tc := ⟨.hbm, 249, rfl⟩
abbrev main_cst_31 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_cst_32 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_cst_33 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩

abbrev nD : Nat := 1
abbrev τ : Topo := Topo.v7x

variable {F : FTy → Type} [FloatOps F]
-- ==== FfnKernel.lean ====
abbrev S8x2048x1024 : Shape := ⟨3, ![8, 2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 16
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S8x2048x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S8x2048x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S8x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnReferenceIdeal.lean ====
abbrev S8x2048x1024 : Shape := ⟨3, ![8, 2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩

abbrev nBuf : Space → Nat
  | .hbm => 73
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S8x2048x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x1024, .f32⟩
  | .hbm, ⟨38, _⟩ => ⟨S8x2048x1024, .f32⟩
  | .hbm, ⟨39, _⟩ => ⟨S1x1x1024, .f32⟩
  | .hbm, ⟨40, _⟩ => ⟨S8x2048x1024, .f32⟩
  | .hbm, ⟨41, _⟩ => ⟨S8x2048x1024, .f32⟩
  | .hbm, ⟨42, _⟩ => ⟨S8x2048x5632, .f32⟩
  | .hbm, ⟨43, _⟩ => ⟨S8x2048x2816, .f32⟩
  | .hbm, ⟨44, _⟩ => ⟨S8x2048x2816, .f32⟩
  | .hbm, ⟨45, _⟩ => ⟨S8x2048x2816, .f32⟩
  | .hbm, ⟨46, _⟩ => ⟨S_, .f32⟩
  | .hbm, ⟨47, _⟩ => ⟨S8x2048x2816, .f32⟩
  | .hbm, ⟨48, _⟩ => ⟨S8x2048x2816, .f32⟩
  | .hbm, ⟨49, _⟩ => ⟨S_, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S8x2048x2816, .f32⟩
  | .hbm, ⟨54, _⟩ => ⟨S8x2048x2816, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1, .f32⟩
  | .hbm, ⟨67, _⟩ => ⟨S8x2048x1024, .f32⟩
  | .hbm, ⟨68, _⟩ => ⟨S8x2048x1024, .f32⟩
  | .hbm, ⟨69, _⟩ => ⟨S1x1x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]
-- ==== DilFfnKernel.lean ====
abbrev S8x2048x16x64 : Shape := ⟨4, ![8, 2048, 16, 64]⟩
abbrev S32x512x16x64 : Shape := ⟨4, ![32, 512, 16, 64]⟩
abbrev S128x128x16x64 : Shape := ⟨4, ![128, 128, 16, 64]⟩
abbrev S8x2048x16 : Shape := ⟨3, ![8, 2048, 16]⟩
abbrev S32x512x16 : Shape := ⟨3, ![32, 512, 16]⟩
abbrev S128x128x16 : Shape := ⟨3, ![128, 128, 16]⟩
abbrev S1024x1024 : Shape := ⟨2, ![1024, 1024]⟩
abbrev S1024 : Shape := ⟨1, ![1024]⟩
abbrev S8x2048x1024 : Shape := ⟨3, ![8, 2048, 1024]⟩
abbrev S1024x5632 : Shape := ⟨2, ![1024, 5632]⟩
abbrev S2816x1024 : Shape := ⟨2, ![2816, 1024]⟩
abbrev S8x1x2048x1024 : Shape := ⟨4, ![8, 1, 2048, 1024]⟩
abbrev S8x4x512x1024 : Shape := ⟨4, ![8, 4, 512, 1024]⟩
abbrev S8x16x128x1024 : Shape := ⟨4, ![8, 16, 128, 1024]⟩
abbrev S_ : Shape := ⟨0, ![]⟩
abbrev S8x2048x128 : Shape := ⟨3, ![8, 2048, 128]⟩
abbrev S8x1x2048x128 : Shape := ⟨4, ![8, 1, 2048, 128]⟩
abbrev S32x512x128 : Shape := ⟨3, ![32, 512, 128]⟩
abbrev S8x4x512x128 : Shape := ⟨4, ![8, 4, 512, 128]⟩
abbrev S128x128x128 : Shape := ⟨3, ![128, 128, 128]⟩
abbrev S8x16x128x128 : Shape := ⟨4, ![8, 16, 128, 128]⟩
abbrev S1x1024 : Shape := ⟨2, ![1, 1024]⟩
abbrev S1x1x512x1024 : Shape := ⟨4, ![1, 1, 512, 1024]⟩
abbrev S1x4x128x1024 : Shape := ⟨4, ![1, 4, 128, 1024]⟩
abbrev S1x16x32x1024 : Shape := ⟨4, ![1, 16, 32, 1024]⟩
abbrev S1x1x512x128 : Shape := ⟨4, ![1, 1, 512, 128]⟩
abbrev S1x4x128x128 : Shape := ⟨4, ![1, 4, 128, 128]⟩
abbrev S1x16x32x128 : Shape := ⟨4, ![1, 16, 32, 128]⟩
abbrev S1x512x1024 : Shape := ⟨3, ![1, 512, 1024]⟩
abbrev S8x512x128 : Shape := ⟨3, ![8, 512, 128]⟩
abbrev S1x512x128 : Shape := ⟨3, ![1, 512, 128]⟩
abbrev S512x128 : Shape := ⟨2, ![512, 128]⟩
abbrev S1x1x128x128 : Shape := ⟨4, ![1, 1, 128, 128]⟩
abbrev S128x128 : Shape := ⟨2, ![128, 128]⟩
abbrev S1x128x128 : Shape := ⟨3, ![1, 128, 128]⟩
abbrev S1x1x32x128 : Shape := ⟨4, ![1, 1, 32, 128]⟩
abbrev S32x128 : Shape := ⟨2, ![32, 128]⟩
abbrev S1x32x128 : Shape := ⟨3, ![1, 32, 128]⟩
abbrev S128x1024 : Shape := ⟨2, ![128, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 38
  | .vmem => 28
  | .smem => 0
  | _ => 0

abbrev bufTy : (tb : Table) → Fin (tcTables nBuf tb) → BufTy
  | .hbm, ⟨0, _⟩ => ⟨S8x2048x16x64, .f32⟩
  | .hbm, ⟨1, _⟩ => ⟨S32x512x16x64, .f32⟩
  | .hbm, ⟨2, _⟩ => ⟨S128x128x16x64, .f32⟩
  | .hbm, ⟨3, _⟩ => ⟨S8x2048x16, .f32⟩
  | .hbm, ⟨4, _⟩ => ⟨S32x512x16, .f32⟩
  | .hbm, ⟨5, _⟩ => ⟨S128x128x16, .f32⟩
  | .hbm, ⟨6, _⟩ => ⟨S1024x1024, .f32⟩
  | .hbm, ⟨7, _⟩ => ⟨S1024, .f32⟩
  | .hbm, ⟨8, _⟩ => ⟨S8x2048x1024, .f32⟩
  | .hbm, ⟨9, _⟩ => ⟨S1024, .f32⟩
  | .hbm, ⟨10, _⟩ => ⟨S1024x5632, .f32⟩
  | .hbm, ⟨11, _⟩ => ⟨S2816x1024, .f32⟩
  | .hbm, ⟨12, _⟩ => ⟨S1024, .f32⟩
  | .hbm, ⟨13, _⟩ => ⟨S8x1x2048x1024, .f32⟩
  | .hbm, ⟨14, _⟩ => ⟨S8x1x2048x1024, .bf16⟩
  | .hbm, ⟨15, _⟩ => ⟨S8x4x512x1024, .f32⟩
  | .hbm, ⟨16, _⟩ => ⟨S8x4x512x1024, .bf16⟩
  | .hbm, ⟨17, _⟩ => ⟨S8x16x128x1024, .f32⟩
  | .hbm, ⟨18, _⟩ => ⟨S8x16x128x1024, .bf16⟩
  | .hbm, ⟨19, _⟩ => ⟨S_, .i32⟩
  | .hbm, ⟨20, _⟩ => ⟨S_, .f32⟩
  | .hbm, ⟨21, _⟩ => ⟨S8x2048x128, .f32⟩
  | .hbm, ⟨22, _⟩ => ⟨S8x1x2048x128, .f32⟩
  | .hbm, ⟨23, _⟩ => ⟨S_, .i32⟩
  | .hbm, ⟨24, _⟩ => ⟨S_, .f32⟩
  | .hbm, ⟨25, _⟩ => ⟨S32x512x128, .f32⟩
  | .hbm, ⟨26, _⟩ => ⟨S8x4x512x128, .f32⟩
  | .hbm, ⟨27, _⟩ => ⟨S_, .i32⟩
  | .hbm, ⟨28, _⟩ => ⟨S_, .f32⟩
  | .hbm, ⟨29, _⟩ => ⟨S128x128x128, .f32⟩
  | .hbm, ⟨30, _⟩ => ⟨S8x16x128x128, .f32⟩
  | .hbm, ⟨31, _⟩ => ⟨S1024x1024, .bf16⟩
  | .hbm, ⟨32, _⟩ => ⟨S1x1024, .f32⟩
  | .hbm, ⟨33, _⟩ => ⟨S1x1024, .f32⟩
  | .hbm, ⟨34, _⟩ => ⟨S1024x5632, .bf16⟩
  | .hbm, ⟨35, _⟩ => ⟨S2816x1024, .bf16⟩
  | .hbm, ⟨36, _⟩ => ⟨S1x1024, .f32⟩
  | .hbm, ⟨37, _⟩ => ⟨S8x2048x1024, .f32⟩
  | .local _ .vmem, ⟨0, _⟩ => ⟨S1x1x512x1024, .bf16⟩
  | .local _ .vmem, ⟨1, _⟩ => ⟨S1x1x512x1024, .bf16⟩
  | .local _ .vmem, ⟨2, _⟩ => ⟨S1x4x128x1024, .bf16⟩
  | .local _ .vmem, ⟨3, _⟩ => ⟨S1x4x128x1024, .bf16⟩
  | .local _ .vmem, ⟨4, _⟩ => ⟨S1x16x32x1024, .bf16⟩
  | .local _ .vmem, ⟨5, _⟩ => ⟨S1x16x32x1024, .bf16⟩
  | .local _ .vmem, ⟨6, _⟩ => ⟨S1x1x512x128, .f32⟩
  | .local _ .vmem, ⟨7, _⟩ => ⟨S1x1x512x128, .f32⟩
  | .local _ .vmem, ⟨8, _⟩ => ⟨S1x4x128x128, .f32⟩
  | .local _ .vmem, ⟨9, _⟩ => ⟨S1x4x128x128, .f32⟩
  | .local _ .vmem, ⟨10, _⟩ => ⟨S1x16x32x128, .f32⟩
  | .local _ .vmem, ⟨11, _⟩ => ⟨S1x16x32x128, .f32⟩
  | .local _ .vmem, ⟨12, _⟩ => ⟨S1024x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x1024, .f32⟩
  | .local _ .vmem, ⟨17, _⟩ => ⟨S1024x5632, .bf16⟩
  | .local _ .vmem, ⟨18, _⟩ => ⟨S2816x1024, .bf16⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | .local _ .vmem, ⟨22, _⟩ => ⟨S8x512x128, .f32⟩
  | .local _ .vmem, ⟨23, _⟩ => ⟨S8x512x128, .f32⟩
  | .local _ .vmem, ⟨24, _⟩ => ⟨S8x512x128, .f32⟩
  | .local _ .vmem, ⟨25, _⟩ => ⟨S1x512x128, .f32⟩
  | .local _ .vmem, ⟨26, _⟩ => ⟨S1x512x128, .f32⟩
  | .local _ .vmem, ⟨27, _⟩ => ⟨S1x512x128, .f32⟩
  | _, _ => ⟨S8x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_call1_v0 : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_call2_v0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== DilFfnReferenceIdeal.lean ====
abbrev S8x2048x16x64 : Shape := ⟨4, ![8, 2048, 16, 64]⟩
abbrev S32x512x16x64 : Shape := ⟨4, ![32, 512, 16, 64]⟩
abbrev S128x128x16x64 : Shape := ⟨4, ![128, 128, 16, 64]⟩
abbrev S8x2048x16 : Shape := ⟨3, ![8, 2048, 16]⟩
abbrev S32x512x16 : Shape := ⟨3, ![32, 512, 16]⟩
abbrev S128x128x16 : Shape := ⟨3, ![128, 128, 16]⟩
abbrev S1024x1024 : Shape := ⟨2, ![1024, 1024]⟩
abbrev S1024 : Shape := ⟨1, ![1024]⟩
abbrev S8x2048x1024 : Shape := ⟨3, ![8, 2048, 1024]⟩
abbrev S1024x5632 : Shape := ⟨2, ![1024, 5632]⟩
abbrev S2816x1024 : Shape := ⟨2, ![2816, 1024]⟩
abbrev S8x1x2048x16x64 : Shape := ⟨5, ![8, 1, 2048, 16, 64]⟩
abbrev S8x2048x1x16x64 : Shape := ⟨5, ![8, 2048, 1, 16, 64]⟩
abbrev S8x4x512x16x64 : Shape := ⟨5, ![8, 4, 512, 16, 64]⟩
abbrev S8x512x4x16x64 : Shape := ⟨5, ![8, 512, 4, 16, 64]⟩
abbrev S8x16x128x16x64 : Shape := ⟨5, ![8, 16, 128, 16, 64]⟩
abbrev S8x128x16x16x64 : Shape := ⟨5, ![8, 128, 16, 16, 64]⟩
abbrev S8x1x2048x16 : Shape := ⟨4, ![8, 1, 2048, 16]⟩
abbrev S8x2048x1x16 : Shape := ⟨4, ![8, 2048, 1, 16]⟩
abbrev S8x4x512x16 : Shape := ⟨4, ![8, 4, 512, 16]⟩
abbrev S8x512x4x16 : Shape := ⟨4, ![8, 512, 4, 16]⟩
abbrev S8x16x128x16 : Shape := ⟨4, ![8, 16, 128, 16]⟩
abbrev S8x128x16x16 : Shape := ⟨4, ![8, 128, 16, 16]⟩
abbrev S8x2048x16x1 : Shape := ⟨4, ![8, 2048, 16, 1]⟩
abbrev S8x2048x16x3 : Shape := ⟨4, ![8, 2048, 16, 3]⟩
abbrev S_ : Shape := ⟨0, ![]⟩
abbrev S8x2048x16x1x64 : Shape := ⟨5, ![8, 2048, 16, 1, 64]⟩
abbrev S8x2048x16x3x64 : Shape := ⟨5, ![8, 2048, 16, 3, 64]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩

abbrev nBuf : Space → Nat
  | .hbm => 120
  | .vmem => 0
  | .smem => 0
  | _ => 0

abbrev bufTy : (tb : Table) → Fin (tcTables nBuf tb) → BufTy
  | .hbm, ⟨0, _⟩ => ⟨S8x2048x16x64, .f32⟩
  | .hbm, ⟨1, _⟩ => ⟨S32x512x16x64, .f32⟩
  | .hbm, ⟨2, _⟩ => ⟨S128x128x16x64, .f32⟩
  | .hbm, ⟨3, _⟩ => ⟨S8x2048x16, .f32⟩
  | .hbm, ⟨4, _⟩ => ⟨S32x512x16, .f32⟩
  | .hbm, ⟨5, _⟩ => ⟨S128x128x16, .f32⟩
  | .hbm, ⟨6, _⟩ => ⟨S1024x1024, .f32⟩
  | .hbm, ⟨7, _⟩ => ⟨S1024, .f32⟩
  | .hbm, ⟨8, _⟩ => ⟨S8x2048x1024, .f32⟩
  | .hbm, ⟨9, _⟩ => ⟨S1024, .f32⟩
  | .hbm, ⟨10, _⟩ => ⟨S1024x5632, .f32⟩
  | .hbm, ⟨11, _⟩ => ⟨S2816x1024, .f32⟩
  | .hbm, ⟨12, _⟩ => ⟨S1024, .f32⟩
  | .hbm, ⟨13, _⟩ => ⟨S8x1x2048x16x64, .f32⟩
  | .hbm, ⟨14, _⟩ => ⟨S8x2048x1x16x64, .f32⟩
  | .hbm, ⟨15, _⟩ => ⟨S8x2048x16x64, .f32⟩
  | .hbm, ⟨16, _⟩ => ⟨S8x4x512x16x64, .f32⟩
  | .hbm, ⟨17, _⟩ => ⟨S8x512x4x16x64, .f32⟩
  | .hbm, ⟨18, _⟩ => ⟨S8x2048x16x64, .f32⟩
  | .hbm, ⟨19, _⟩ => ⟨S8x16x128x16x64, .f32⟩
  | .hbm, ⟨20, _⟩ => ⟨S8x128x16x16x64, .f32⟩
  | .hbm, ⟨21, _⟩ => ⟨S8x2048x16x64, .f32⟩
  | .hbm, ⟨22, _⟩ => ⟨S8x1x2048x16, .f32⟩
  | .hbm, ⟨23, _⟩ => ⟨S8x2048x1x16, .f32⟩
  | .hbm, ⟨24, _⟩ => ⟨S8x2048x16, .f32⟩
  | .hbm, ⟨25, _⟩ => ⟨S8x4x512x16, .f32⟩
  | .hbm, ⟨26, _⟩ => ⟨S8x512x4x16, .f32⟩
  | .hbm, ⟨27, _⟩ => ⟨S8x2048x16, .f32⟩
  | .hbm, ⟨28, _⟩ => ⟨S8x16x128x16, .f32⟩
  | .hbm, ⟨29, _⟩ => ⟨S8x128x16x16, .f32⟩
  | .hbm, ⟨30, _⟩ => ⟨S8x2048x16, .f32⟩
  | .hbm, ⟨31, _⟩ => ⟨S8x2048x16x1, .f32⟩
  | .hbm, ⟨32, _⟩ => ⟨S8x2048x16x1, .f32⟩
  | .hbm, ⟨33, _⟩ => ⟨S8x2048x16x1, .f32⟩
  | .hbm, ⟨34, _⟩ => ⟨S8x2048x16x3, .f32⟩
  | .hbm, ⟨35, _⟩ => ⟨S_, .f32⟩
  | .hbm, ⟨36, _⟩ => ⟨S8x2048x16, .f32⟩
  | .hbm, ⟨37, _⟩ => ⟨S_, .f32⟩
  | .hbm, ⟨38, _⟩ => ⟨S8x2048x16, .f32⟩
  | .hbm, ⟨39, _⟩ => ⟨S8x2048x16, .f32⟩
  | .hbm, ⟨40, _⟩ => ⟨S8x2048x16x1, .f32⟩
  | .hbm, ⟨41, _⟩ => ⟨S8x2048x16x3, .f32⟩
  | .hbm, ⟨42, _⟩ => ⟨S8x2048x16x3, .f32⟩
  | .hbm, ⟨43, _⟩ => ⟨S8x2048x16x3, .f32⟩
  | .hbm, ⟨44, _⟩ => ⟨S_, .f32⟩
  | .hbm, ⟨45, _⟩ => ⟨S8x2048x16, .f32⟩
  | .hbm, ⟨46, _⟩ => ⟨S8x2048x16x1, .f32⟩
  | .hbm, ⟨47, _⟩ => ⟨S8x2048x16x3, .f32⟩
  | .hbm, ⟨48, _⟩ => ⟨S8x2048x16x3, .f32⟩
  | .hbm, ⟨49, _⟩ => ⟨S8x2048x16x1x64, .f32⟩
  | .hbm, ⟨50, _⟩ => ⟨S8x2048x16x1x64, .f32⟩
  | .hbm, ⟨51, _⟩ => ⟨S8x2048x16x1x64, .f32⟩
  | .hbm, ⟨52, _⟩ => ⟨S8x2048x16x3x64, .f32⟩
  | .hbm, ⟨53, _⟩ => ⟨S8x2048x16x64, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1, .f32⟩
  | .hbm, ⟨67, _⟩ => ⟨S8x2048x1024, .f32⟩
  | .hbm, ⟨68, _⟩ => ⟨S8x2048x1024, .f32⟩
  | .hbm, ⟨69, _⟩ => ⟨S1x1x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S_, .f32⟩
  | .hbm, ⟨75, _⟩ => ⟨S8x2048, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S_, .f32⟩
  | .hbm, ⟨81, _⟩ => ⟨S8x2048x1, .f32⟩
  | .hbm, ⟨82, _⟩ => ⟨S8x2048x1, .f32⟩
  | .hbm, ⟨83, _⟩ => ⟨S8x2048x1, .f32⟩
  | .hbm, ⟨84, _⟩ => ⟨S8x2048x1024, .f32⟩
  | .hbm, ⟨85, _⟩ => ⟨S8x2048x1024, .f32⟩
  | .hbm, ⟨86, _⟩ => ⟨S1x1x1024, .f32⟩
  | .hbm, ⟨87, _⟩ => ⟨S8x2048x1024, .f32⟩
  | .hbm, ⟨88, _⟩ => ⟨S8x2048x1024, .f32⟩
  | .hbm, ⟨89, _⟩ => ⟨S8x2048x5632, .f32⟩
  | .hbm, ⟨90, _⟩ => ⟨S8x2048x2816, .f32⟩
  | .hbm, ⟨91, _⟩ => ⟨S8x2048x2816, .f32⟩
  | .hbm, ⟨92, _⟩ => ⟨S8x2048x2816, .f32⟩
  | .hbm, ⟨93, _⟩ => ⟨S_, .f32⟩
  | .hbm, ⟨94, _⟩ => ⟨S8x2048x2816, .f32⟩
  | .hbm, ⟨95, _⟩ => ⟨S8x2048x2816, .f32⟩
  | .hbm, ⟨96, _⟩ => ⟨S_, .f32⟩
  | .hbm, ⟨97, _⟩ => ⟨S8x2048x2816, .f32⟩
  | .hbm, ⟨98, _⟩ => ⟨S8x2048x2816, .f32⟩
  | .hbm, ⟨99, _⟩ => ⟨S8x2048x2816, .f32⟩
  | .hbm, ⟨100, _⟩ => ⟨S8x2048x2816, .f32⟩
  | .hbm, ⟨101, _⟩ => ⟨S8x2048x2816, .f32⟩
  | .hbm, ⟨102, _⟩ => ⟨S8x2048x1024, .f32⟩
  | .hbm, ⟨103, _⟩ => ⟨S8x2048x1024, .f32⟩
  | .hbm, ⟨104, _⟩ => ⟨S_, .f32⟩
  | .hbm, ⟨105, _⟩ => ⟨S8x2048, .f32⟩
  | .hbm, ⟨106, _⟩ => ⟨S8x2048x1, .f32⟩
  | .hbm, ⟨107, _⟩ => ⟨S_, .f32⟩
  | .hbm, ⟨108, _⟩ => ⟨S8x2048x1, .f32⟩
  | .hbm, ⟨109, _⟩ => ⟨S8x2048x1, .f32⟩
  | .hbm, ⟨110, _⟩ => ⟨S_, .f32⟩
  | .hbm, ⟨111, _⟩ => ⟨S8x2048x1, .f32⟩
  | .hbm, ⟨112, _⟩ => ⟨S8x2048x1, .f32⟩
  | .hbm, ⟨113, _⟩ => ⟨S8x2048x1, .f32⟩
  | .hbm, ⟨114, _⟩ => ⟨S8x2048x1024, .f32⟩
  | .hbm, ⟨115, _⟩ => ⟨S8x2048x1024, .f32⟩
  | .hbm, ⟨116, _⟩ => ⟨S1x1x1024, .f32⟩
  | .hbm, ⟨117, _⟩ => ⟨S8x2048x1024, .f32⟩
  | .hbm, ⟨118, _⟩ => ⟨S8x2048x1024, .f32⟩
  | .hbm, ⟨119, _⟩ => ⟨S8x2048x1024, .f32⟩
  | _, _ => ⟨S8x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_1 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_cst_4 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_5 : Ref sig .tc := ⟨.hbm, 74, rfl⟩
abbrev main_v55 : Ref sig .tc := ⟨.hbm, 75, rfl⟩
abbrev main_v56 : Ref sig .tc := ⟨.hbm, 76, rfl⟩
abbrev main_cst_6 : Ref sig .tc := ⟨.hbm, 77, rfl⟩
abbrev main_v57 : Ref sig .tc := ⟨.hbm, 78, rfl⟩
abbrev main_v58 : Ref sig .tc := ⟨.hbm, 79, rfl⟩
abbrev main_cst_7 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call0_v0 : Ref sig .tc := ⟨.hbm, 91, rfl⟩
abbrev main_call0_v1 : Ref sig .tc := ⟨.hbm, 92, rfl⟩
abbrev main_call0_cst : Ref sig .tc := ⟨.hbm, 93, rfl⟩
abbrev main_call0_v2 : Ref sig .tc := ⟨.hbm, 94, rfl⟩
abbrev main_call0_v3 : Ref sig .tc := ⟨.hbm, 95, rfl⟩
abbrev main_call0_cst_0 : Ref sig .tc := ⟨.hbm, 96, rfl⟩
abbrev main_call0_v4 : Ref sig .tc := ⟨.hbm, 97, rfl⟩
abbrev main_call0_v5 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_8 : Ref sig .tc := ⟨.hbm, 104, rfl⟩
abbrev main_v74 : Ref sig .tc := ⟨.hbm, 105, rfl⟩
abbrev main_v75 : Ref sig .tc := ⟨.hbm, 106, rfl⟩
abbrev main_cst_9 : Ref sig .tc := ⟨.hbm, 107, rfl⟩
abbrev main_v76 : Ref sig .tc := ⟨.hbm, 108, rfl⟩
abbrev main_v77 : Ref sig .tc := ⟨.hbm, 109, rfl⟩
abbrev main_cst_10 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]
-- ==== Proj1Kernel.lean ====
abbrev S8x2048x1024 : Shape := ⟨3, ![8, 2048, 1024]⟩
abbrev S8x2048x1x8 : Shape := ⟨4, ![8, 2048, 1, 8]⟩
abbrev S1024 : Shape := ⟨1, ![1024]⟩
abbrev S1024x3072 : Shape := ⟨2, ![1024, 3072]⟩
abbrev S8x2048x8 : Shape := ⟨3, ![8, 2048, 8]⟩
abbrev S_ : Shape := ⟨0, ![]⟩
abbrev S8x2048x48 : Shape := ⟨3, ![8, 2048, 48]⟩
abbrev S8x2048x128 : Shape := ⟨3, ![8, 2048, 128]⟩
abbrev S1x1024 : Shape := ⟨2, ![1, 1024]⟩
abbrev S8x1x2048x1024 : Shape := ⟨4, ![8, 1, 2048, 1024]⟩
abbrev S1x512x1024 : Shape := ⟨3, ![1, 512, 1024]⟩
abbrev S1x512x128 : Shape := ⟨3, ![1, 512, 128]⟩
abbrev S1x1x512x1024 : Shape := ⟨4, ![1, 1, 512, 1024]⟩
abbrev S8x512x128 : Shape := ⟨3, ![8, 512, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩

abbrev nBuf : Space → Nat
  | .hbm => 24
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1x8, .f32⟩
  | .hbm, ⟨2, _⟩ => ⟨S8x2048x1x8, .f32⟩
  | .hbm, ⟨3, _⟩ => ⟨S1024, .f32⟩
  | .hbm, ⟨4, _⟩ => ⟨S1024x3072, .f32⟩
  | .hbm, ⟨5, _⟩ => ⟨S8x2048x8, .f32⟩
  | .hbm, ⟨6, _⟩ => ⟨S8x2048x8, .f32⟩
  | .hbm, ⟨7, _⟩ => ⟨S_, .f32⟩
  | .hbm, ⟨8, _⟩ => ⟨S8x2048x8, .f32⟩
  | .hbm, ⟨9, _⟩ => ⟨S_, .f32⟩
  | .hbm, ⟨10, _⟩ => ⟨S8x2048x48, .f32⟩
  | .hbm, ⟨11, _⟩ => ⟨S8x2048x128, .f32⟩
  | .hbm, ⟨12, _⟩ => ⟨S_, .f32⟩
  | .hbm, ⟨13, _⟩ => ⟨S8x2048x48, .f32⟩
  | .hbm, ⟨14, _⟩ => ⟨S8x2048x128, .f32⟩
  | .hbm, ⟨15, _⟩ => ⟨S8x2048x8, .f32⟩
  | .hbm, ⟨16, _⟩ => ⟨S_, .f32⟩
  | .hbm, ⟨17, _⟩ => ⟨S8x2048x48, .f32⟩
  | .hbm, ⟨18, _⟩ => ⟨S8x2048x128, .f32⟩
  | .hbm, ⟨19, _⟩ => ⟨S1x1024, .f32⟩
  | .hbm, ⟨20, _⟩ => ⟨S1024x3072, .bf16⟩
  | .hbm, ⟨21, _⟩ => ⟨S8x1x2048x1024, .bf16⟩
  | .hbm, ⟨22, _⟩ => ⟨S8x1x2048x1024, .bf16⟩
  | .hbm, ⟨23, _⟩ => ⟨S8x1x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x1024, .f32⟩
  | .local _ .vmem, ⟨9, _⟩ => ⟨S1024x3072, .bf16⟩
  | .local _ .vmem, ⟨10, _⟩ => ⟨S1x1x512x1024, .bf16⟩
  | .local _ .vmem, ⟨11, _⟩ => ⟨S1x1x512x1024, .bf16⟩
  | .local _ .vmem, ⟨12, _⟩ => ⟨S1x1x512x1024, .bf16⟩
  | .local _ .vmem, ⟨13, _⟩ => ⟨S1x1x512x1024, .bf16⟩
  | .local _ .vmem, ⟨14, _⟩ => ⟨S1x1x512x1024, .bf16⟩
  | .local _ .vmem, ⟨15, _⟩ => ⟨S1x1x512x1024, .bf16⟩
  | .local _ .vmem, ⟨16, _⟩ => ⟨S8x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proj1KernelIdeal.lean ====
abbrev S8x2048x1024 : Shape := ⟨3, ![8, 2048, 1024]⟩
abbrev S8x2048x1x8 : Shape := ⟨4, ![8, 2048, 1, 8]⟩
abbrev S1024 : Shape := ⟨1, ![1024]⟩
abbrev S1024x3072 : Shape := ⟨2, ![1024, 3072]⟩
abbrev S8x2048x8 : Shape := ⟨3, ![8, 2048, 8]⟩
abbrev S_ : Shape := ⟨0, ![]⟩
abbrev S8x2048x48 : Shape := ⟨3, ![8, 2048, 48]⟩
abbrev S8x2048x128 : Shape := ⟨3, ![8, 2048, 128]⟩
abbrev S1x1024 : Shape := ⟨2, ![1, 1024]⟩
abbrev S8x1x2048x1024 : Shape := ⟨4, ![8, 1, 2048, 1024]⟩
abbrev S1x512x1024 : Shape := ⟨3, ![1, 512, 1024]⟩
abbrev S1x512x128 : Shape := ⟨3, ![1, 512, 128]⟩
abbrev S1x1x512x1024 : Shape := ⟨4, ![1, 1, 512, 1024]⟩
abbrev S8x512x128 : Shape := ⟨3, ![8, 512, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩

abbrev nBuf : Space → Nat
  | .hbm => 24
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1x8, .f32⟩
  | .hbm, ⟨2, _⟩ => ⟨S8x2048x1x8, .f32⟩
  | .hbm, ⟨3, _⟩ => ⟨S1024, .f32⟩
  | .hbm, ⟨4, _⟩ => ⟨S1024x3072, .f32⟩
  | .hbm, ⟨5, _⟩ => ⟨S8x2048x8, .f32⟩
  | .hbm, ⟨6, _⟩ => ⟨S8x2048x8, .f32⟩
  | .hbm, ⟨7, _⟩ => ⟨S_, .f32⟩
  | .hbm, ⟨8, _⟩ => ⟨S8x2048x8, .f32⟩
  | .hbm, ⟨9, _⟩ => ⟨S_, .f32⟩
  | .hbm, ⟨10, _⟩ => ⟨S8x2048x48, .f32⟩
  | .hbm, ⟨11, _⟩ => ⟨S8x2048x128, .f32⟩
  | .hbm, ⟨12, _⟩ => ⟨S_, .f32⟩
  | .hbm, ⟨13, _⟩ => ⟨S8x2048x48, .f32⟩
  | .hbm, ⟨14, _⟩ => ⟨S8x2048x128, .f32⟩
  | .hbm, ⟨15, _⟩ => ⟨S8x2048x8, .f32⟩
  | .hbm, ⟨16, _⟩ => ⟨S_, .f32⟩
  | .hbm, ⟨17, _⟩ => ⟨S8x2048x48, .f32⟩
  | .hbm, ⟨18, _⟩ => ⟨S8x2048x128, .f32⟩
  | .hbm, ⟨19, _⟩ => ⟨S1x1024, .f32⟩
  | .hbm, ⟨20, _⟩ => ⟨S1024x3072, .bf16⟩
  | .hbm, ⟨21, _⟩ => ⟨S8x1x2048x1024, .bf16⟩
  | .hbm, ⟨22, _⟩ => ⟨S8x1x2048x1024, .bf16⟩
  | .hbm, ⟨23, _⟩ => ⟨S8x1x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x1024, .f32⟩
  | .local _ .vmem, ⟨9, _⟩ => ⟨S1024x3072, .bf16⟩
  | .local _ .vmem, ⟨10, _⟩ => ⟨S1x1x512x1024, .bf16⟩
  | .local _ .vmem, ⟨11, _⟩ => ⟨S1x1x512x1024, .bf16⟩
  | .local _ .vmem, ⟨12, _⟩ => ⟨S1x1x512x1024, .bf16⟩
  | .local _ .vmem, ⟨13, _⟩ => ⟨S1x1x512x1024, .bf16⟩
  | .local _ .vmem, ⟨14, _⟩ => ⟨S1x1x512x1024, .bf16⟩
  | .local _ .vmem, ⟨15, _⟩ => ⟨S1x1x512x1024, .bf16⟩
  | .local _ .vmem, ⟨16, _⟩ => ⟨S8x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proj1ReferenceIdeal.lean ====
abbrev S8x2048x1024 : Shape := ⟨3, ![8, 2048, 1024]⟩
abbrev S8x2048x1x8 : Shape := ⟨4, ![8, 2048, 1, 8]⟩
abbrev S1024 : Shape := ⟨1, ![1024]⟩
abbrev S1024x3072 : Shape := ⟨2, ![1024, 3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2048x3x16x64 : Shape := ⟨5, ![8, 2048, 3, 16, 64]⟩
abbrev S8x2048x1x16x64 : Shape := ⟨5, ![8, 2048, 1, 16, 64]⟩
abbrev S8x2048x16x64 : Shape := ⟨4, ![8, 2048, 16, 64]⟩
abbrev S8x2048x16x8 : Shape := ⟨4, ![8, 2048, 16, 8]⟩
abbrev S8x2048x16x48 : Shape := ⟨4, ![8, 2048, 16, 48]⟩
abbrev S8x1x2048x16x64 : Shape := ⟨5, ![8, 1, 2048, 16, 64]⟩
abbrev S8x1x2048x1024 : Shape := ⟨4, ![8, 1, 2048, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1x8, .f32⟩
  | .hbm, ⟨2, _⟩ => ⟨S8x2048x1x8, .f32⟩
  | .hbm, ⟨3, _⟩ => ⟨S1024, .f32⟩
  | .hbm, ⟨4, _⟩ => ⟨S1024x3072, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x3072, .f32⟩
  | .hbm, ⟨22, _⟩ => ⟨S8x2048x3x16x64, .f32⟩
  | .hbm, ⟨23, _⟩ => ⟨S8x2048x1x16x64, .f32⟩
  | .hbm, ⟨24, _⟩ => ⟨S8x2048x16x64, .f32⟩
  | .hbm, ⟨25, _⟩ => ⟨S8x2048x16x8, .f32⟩
  | .hbm, ⟨26, _⟩ => ⟨S8x2048x16x8, .f32⟩
  | .hbm, ⟨27, _⟩ => ⟨S8x2048x16x8, .f32⟩
  | .hbm, ⟨28, _⟩ => ⟨S8x2048x16x8, .f32⟩
  | .hbm, ⟨29, _⟩ => ⟨S8x2048x16x8, .f32⟩
  | .hbm, ⟨30, _⟩ => ⟨S8x2048x16x8, .f32⟩
  | .hbm, ⟨31, _⟩ => ⟨S8x2048x16x8, .f32⟩
  | .hbm, ⟨32, _⟩ => ⟨S8x2048x16x8, .f32⟩
  | .hbm, ⟨33, _⟩ => ⟨S8x2048x16x8, .f32⟩
  | .hbm, ⟨34, _⟩ => ⟨S8x2048x16x8, .f32⟩
  | .hbm, ⟨35, _⟩ => ⟨S8x2048x16x8, .f32⟩
  | .hbm, ⟨36, _⟩ => ⟨S8x2048x16x8, .f32⟩
  | .hbm, ⟨37, _⟩ => ⟨S8x2048x16x48, .f32⟩
  | .hbm, ⟨38, _⟩ => ⟨S8x2048x16x64, .f32⟩
  | .hbm, ⟨39, _⟩ => ⟨S_, .f32⟩
  | .hbm, ⟨40, _⟩ => ⟨S8x2048x16x64, .f32⟩
  | .hbm, ⟨41, _⟩ => ⟨S8x2048x16x64, .f32⟩
  | .hbm, ⟨42, _⟩ => ⟨S8x2048x1x16x64, .f32⟩
  | .hbm, ⟨43, _⟩ => ⟨S8x2048x16x64, .f32⟩
  | .hbm, ⟨44, _⟩ => ⟨S8x2048x16x8, .f32⟩
  | .hbm, ⟨45, _⟩ => ⟨S8x2048x16x8, .f32⟩
  | .hbm, ⟨46, _⟩ => ⟨S8x2048x16x8, .f32⟩
  | .hbm, ⟨47, _⟩ => ⟨S8x2048x16x8, .f32⟩
  | .hbm, ⟨48, _⟩ => ⟨S8x2048x16x8, .f32⟩
  | .hbm, ⟨49, _⟩ => ⟨S8x2048x16x8, .f32⟩
  | .hbm, ⟨50, _⟩ => ⟨S8x2048x16x8, .f32⟩
  | .hbm, ⟨51, _⟩ => ⟨S8x2048x16x8, .f32⟩
  | .hbm, ⟨52, _⟩ => ⟨S8x2048x16x8, .f32⟩
  | .hbm, ⟨53, _⟩ => ⟨S8x2048x16x8, .f32⟩
  | .hbm, ⟨54, _⟩ => ⟨S8x2048x16x8, .f32⟩
  | .hbm, ⟨55, _⟩ => ⟨S8x2048x16x8, .f32⟩
  | .hbm, ⟨56, _⟩ => ⟨S8x2048x16x48, .f32⟩
  | .hbm, ⟨57, _⟩ => ⟨S8x2048x16x64, .f32⟩
  | .hbm, ⟨58, _⟩ => ⟨S8x2048x1x16x64, .f32⟩
  | .hbm, ⟨59, _⟩ => ⟨S8x2048x16x64, .f32⟩
  | .hbm, ⟨60, _⟩ => ⟨S8x2048x1x16x64, .f32⟩
  | .hbm, ⟨61, _⟩ => ⟨S8x1x2048x16x64, .f32⟩
  | .hbm, ⟨62, _⟩ => ⟨S8x2048x16x64, .f32⟩
  | .hbm, ⟨63, _⟩ => ⟨S8x1x2048x1024, .f32⟩
  | .hbm, ⟨64, _⟩ => ⟨S8x1x2048x1024, .bf16⟩
  | .hbm, ⟨65, _⟩ => ⟨S8x2048x1x16x64, .f32⟩
  | .hbm, ⟨66, _⟩ => ⟨S8x1x2048x16x64, .f32⟩
  | .hbm, ⟨67, _⟩ => ⟨S8x2048x16x64, .f32⟩
  | .hbm, ⟨68, _⟩ => ⟨S8x1x2048x1024, .f32⟩
  | .hbm, ⟨69, _⟩ => ⟨S8x1x2048x1024, .bf16⟩
  | .hbm, ⟨70, _⟩ => ⟨S8x2048x1x16x64, .f32⟩
  | .hbm, ⟨71, _⟩ => ⟨S8x1x2048x16x64, .f32⟩
  | .hbm, ⟨72, _⟩ => ⟨S8x2048x16x64, .f32⟩
  | .hbm, ⟨73, _⟩ => ⟨S8x1x2048x1024, .f32⟩
  | .hbm, ⟨74, _⟩ => ⟨S8x1x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩

abbrev nD : Nat := 1
abbrev τ : Topo := Topo.v7x

variable {F : FTy → Type} [FloatOps F]
-- ==== Proj4Kernel.lean ====
abbrev S8x2048x1024 : Shape := ⟨3, ![8, 2048, 1024]⟩
abbrev S8x2048x1x8 : Shape := ⟨4, ![8, 2048, 1, 8]⟩
abbrev S1024 : Shape := ⟨1, ![1024]⟩
abbrev S1024x3072 : Shape := ⟨2, ![1024, 3072]⟩
abbrev S8x2048x8 : Shape := ⟨3, ![8, 2048, 8]⟩
abbrev S_ : Shape := ⟨0, ![]⟩
abbrev S8x2048x48 : Shape := ⟨3, ![8, 2048, 48]⟩
abbrev S8x2048x128 : Shape := ⟨3, ![8, 2048, 128]⟩
abbrev S1x1024 : Shape := ⟨2, ![1, 1024]⟩
abbrev S8x4x512x1024 : Shape := ⟨4, ![8, 4, 512, 1024]⟩
abbrev S1x512x1024 : Shape := ⟨3, ![1, 512, 1024]⟩
abbrev S1x512x128 : Shape := ⟨3, ![1, 512, 128]⟩
abbrev S1x4x128x1024 : Shape := ⟨4, ![1, 4, 128, 1024]⟩
abbrev S8x512x128 : Shape := ⟨3, ![8, 512, 128]⟩
abbrev S512x128 : Shape := ⟨2, ![512, 128]⟩
abbrev S128x128 : Shape := ⟨2, ![128, 128]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S128x1024 : Shape := ⟨2, ![128, 1024]⟩
abbrev S1x1x128x1024 : Shape := ⟨4, ![1, 1, 128, 1024]⟩

abbrev nBuf : Space → Nat
  | .hbm => 24
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1x8, .f32⟩
  | .hbm, ⟨2, _⟩ => ⟨S8x2048x1x8, .f32⟩
  | .hbm, ⟨3, _⟩ => ⟨S1024, .f32⟩
  | .hbm, ⟨4, _⟩ => ⟨S1024x3072, .f32⟩
  | .hbm, ⟨5, _⟩ => ⟨S8x2048x8, .f32⟩
  | .hbm, ⟨6, _⟩ => ⟨S8x2048x8, .f32⟩
  | .hbm, ⟨7, _⟩ => ⟨S_, .f32⟩
  | .hbm, ⟨8, _⟩ => ⟨S8x2048x8, .f32⟩
  | .hbm, ⟨9, _⟩ => ⟨S_, .f32⟩
  | .hbm, ⟨10, _⟩ => ⟨S8x2048x48, .f32⟩
  | .hbm, ⟨11, _⟩ => ⟨S8x2048x128, .f32⟩
  | .hbm, ⟨12, _⟩ => ⟨S_, .f32⟩
  | .hbm, ⟨13, _⟩ => ⟨S8x2048x48, .f32⟩
  | .hbm, ⟨14, _⟩ => ⟨S8x2048x128, .f32⟩
  | .hbm, ⟨15, _⟩ => ⟨S8x2048x8, .f32⟩
  | .hbm, ⟨16, _⟩ => ⟨S_, .f32⟩
  | .hbm, ⟨17, _⟩ => ⟨S8x2048x48, .f32⟩
  | .hbm, ⟨18, _⟩ => ⟨S8x2048x128, .f32⟩
  | .hbm, ⟨19, _⟩ => ⟨S1x1024, .f32⟩
  | .hbm, ⟨20, _⟩ => ⟨S1024x3072, .bf16⟩
  | .hbm, ⟨21, _⟩ => ⟨S8x4x512x1024, .bf16⟩
  | .hbm, ⟨22, _⟩ => ⟨S8x4x512x1024, .bf16⟩
  | .hbm, ⟨23, _⟩ => ⟨S8x4x512x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x1024, .f32⟩
  | .local _ .vmem, ⟨9, _⟩ => ⟨S1024x3072, .bf16⟩
  | .local _ .vmem, ⟨10, _⟩ => ⟨S1x4x128x1024, .bf16⟩
  | .local _ .vmem, ⟨11, _⟩ => ⟨S1x4x128x1024, .bf16⟩
  | .local _ .vmem, ⟨12, _⟩ => ⟨S1x4x128x1024, .bf16⟩
  | .local _ .vmem, ⟨13, _⟩ => ⟨S1x4x128x1024, .bf16⟩
  | .local _ .vmem, ⟨14, _⟩ => ⟨S1x4x128x1024, .bf16⟩
  | .local _ .vmem, ⟨15, _⟩ => ⟨S1x4x128x1024, .bf16⟩
  | .local _ .vmem, ⟨16, _⟩ => ⟨S8x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proj4KernelIdeal.lean ====
abbrev S8x2048x1024 : Shape := ⟨3, ![8, 2048, 1024]⟩
abbrev S8x2048x1x8 : Shape := ⟨4, ![8, 2048, 1, 8]⟩
abbrev S1024 : Shape := ⟨1, ![1024]⟩
abbrev S1024x3072 : Shape := ⟨2, ![1024, 3072]⟩
abbrev S8x2048x8 : Shape := ⟨3, ![8, 2048, 8]⟩
abbrev S_ : Shape := ⟨0, ![]⟩
abbrev S8x2048x48 : Shape := ⟨3, ![8, 2048, 48]⟩
abbrev S8x2048x128 : Shape := ⟨3, ![8, 2048, 128]⟩
abbrev S1x1024 : Shape := ⟨2, ![1, 1024]⟩
abbrev S8x4x512x1024 : Shape := ⟨4, ![8, 4, 512, 1024]⟩
abbrev S1x512x1024 : Shape := ⟨3, ![1, 512, 1024]⟩
abbrev S1x512x128 : Shape := ⟨3, ![1, 512, 128]⟩
abbrev S1x4x128x1024 : Shape := ⟨4, ![1, 4, 128, 1024]⟩
abbrev S8x512x128 : Shape := ⟨3, ![8, 512, 128]⟩
abbrev S512x128 : Shape := ⟨2, ![512, 128]⟩
abbrev S128x128 : Shape := ⟨2, ![128, 128]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S128x1024 : Shape := ⟨2, ![128, 1024]⟩
abbrev S1x1x128x1024 : Shape := ⟨4, ![1, 1, 128, 1024]⟩

abbrev nBuf : Space → Nat
  | .hbm => 24
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1x8, .f32⟩
  | .hbm, ⟨2, _⟩ => ⟨S8x2048x1x8, .f32⟩
  | .hbm, ⟨3, _⟩ => ⟨S1024, .f32⟩
  | .hbm, ⟨4, _⟩ => ⟨S1024x3072, .f32⟩
  | .hbm, ⟨5, _⟩ => ⟨S8x2048x8, .f32⟩
  | .hbm, ⟨6, _⟩ => ⟨S8x2048x8, .f32⟩
  | .hbm, ⟨7, _⟩ => ⟨S_, .f32⟩
  | .hbm, ⟨8, _⟩ => ⟨S8x2048x8, .f32⟩
  | .hbm, ⟨9, _⟩ => ⟨S_, .f32⟩
  | .hbm, ⟨10, _⟩ => ⟨S8x2048x48, .f32⟩
  | .hbm, ⟨11, _⟩ => ⟨S8x2048x128, .f32⟩
  | .hbm, ⟨12, _⟩ => ⟨S_, .f32⟩
  | .hbm, ⟨13, _⟩ => ⟨S8x2048x48, .f32⟩
  | .hbm, ⟨14, _⟩ => ⟨S8x2048x128, .f32⟩
  | .hbm, ⟨15, _⟩ => ⟨S8x2048x8, .f32⟩
  | .hbm, ⟨16, _⟩ => ⟨S_, .f32⟩
  | .hbm, ⟨17, _⟩ => ⟨S8x2048x48, .f32⟩
  | .hbm, ⟨18, _⟩ => ⟨S8x2048x128, .f32⟩
  | .hbm, ⟨19, _⟩ => ⟨S1x1024, .f32⟩
  | .hbm, ⟨20, _⟩ => ⟨S1024x3072, .bf16⟩
  | .hbm, ⟨21, _⟩ => ⟨S8x4x512x1024, .bf16⟩
  | .hbm, ⟨22, _⟩ => ⟨S8x4x512x1024, .bf16⟩
  | .hbm, ⟨23, _⟩ => ⟨S8x4x512x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x1024, .f32⟩
  | .local _ .vmem, ⟨9, _⟩ => ⟨S1024x3072, .bf16⟩
  | .local _ .vmem, ⟨10, _⟩ => ⟨S1x4x128x1024, .bf16⟩
  | .local _ .vmem, ⟨11, _⟩ => ⟨S1x4x128x1024, .bf16⟩
  | .local _ .vmem, ⟨12, _⟩ => ⟨S1x4x128x1024, .bf16⟩
  | .local _ .vmem, ⟨13, _⟩ => ⟨S1x4x128x1024, .bf16⟩
  | .local _ .vmem, ⟨14, _⟩ => ⟨S1x4x128x1024, .bf16⟩
  | .local _ .vmem, ⟨15, _⟩ => ⟨S1x4x128x1024, .bf16⟩
  | .local _ .vmem, ⟨16, _⟩ => ⟨S8x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proj4ReferenceIdeal.lean ====
abbrev S8x2048x1024 : Shape := ⟨3, ![8, 2048, 1024]⟩
abbrev S8x2048x1x8 : Shape := ⟨4, ![8, 2048, 1, 8]⟩
abbrev S1024 : Shape := ⟨1, ![1024]⟩
abbrev S1024x3072 : Shape := ⟨2, ![1024, 3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2048x3x16x64 : Shape := ⟨5, ![8, 2048, 3, 16, 64]⟩
abbrev S8x2048x1x16x64 : Shape := ⟨5, ![8, 2048, 1, 16, 64]⟩
abbrev S8x2048x16x64 : Shape := ⟨4, ![8, 2048, 16, 64]⟩
abbrev S8x2048x16x8 : Shape := ⟨4, ![8, 2048, 16, 8]⟩
abbrev S8x2048x16x48 : Shape := ⟨4, ![8, 2048, 16, 48]⟩
abbrev S8x512x4x16x64 : Shape := ⟨5, ![8, 512, 4, 16, 64]⟩
abbrev S8x4x512x16x64 : Shape := ⟨5, ![8, 4, 512, 16, 64]⟩
abbrev S32x512x16x64 : Shape := ⟨4, ![32, 512, 16, 64]⟩
abbrev S8x4x512x1024 : Shape := ⟨4, ![8, 4, 512, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1x8, .f32⟩
  | .hbm, ⟨2, _⟩ => ⟨S8x2048x1x8, .f32⟩
  | .hbm, ⟨3, _⟩ => ⟨S1024, .f32⟩
  | .hbm, ⟨4, _⟩ => ⟨S1024x3072, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x3072, .f32⟩
  | .hbm, ⟨22, _⟩ => ⟨S8x2048x3x16x64, .f32⟩
  | .hbm, ⟨23, _⟩ => ⟨S8x2048x1x16x64, .f32⟩
  | .hbm, ⟨24, _⟩ => ⟨S8x2048x16x64, .f32⟩
  | .hbm, ⟨25, _⟩ => ⟨S8x2048x16x8, .f32⟩
  | .hbm, ⟨26, _⟩ => ⟨S8x2048x16x8, .f32⟩
  | .hbm, ⟨27, _⟩ => ⟨S8x2048x16x8, .f32⟩
  | .hbm, ⟨28, _⟩ => ⟨S8x2048x16x8, .f32⟩
  | .hbm, ⟨29, _⟩ => ⟨S8x2048x16x8, .f32⟩
  | .hbm, ⟨30, _⟩ => ⟨S8x2048x16x8, .f32⟩
  | .hbm, ⟨31, _⟩ => ⟨S8x2048x16x8, .f32⟩
  | .hbm, ⟨32, _⟩ => ⟨S8x2048x16x8, .f32⟩
  | .hbm, ⟨33, _⟩ => ⟨S8x2048x16x8, .f32⟩
  | .hbm, ⟨34, _⟩ => ⟨S8x2048x16x8, .f32⟩
  | .hbm, ⟨35, _⟩ => ⟨S8x2048x16x8, .f32⟩
  | .hbm, ⟨36, _⟩ => ⟨S8x2048x16x8, .f32⟩
  | .hbm, ⟨37, _⟩ => ⟨S8x2048x16x48, .f32⟩
  | .hbm, ⟨38, _⟩ => ⟨S8x2048x16x64, .f32⟩
  | .hbm, ⟨39, _⟩ => ⟨S_, .f32⟩
  | .hbm, ⟨40, _⟩ => ⟨S8x2048x16x64, .f32⟩
  | .hbm, ⟨41, _⟩ => ⟨S8x2048x16x64, .f32⟩
  | .hbm, ⟨42, _⟩ => ⟨S8x2048x1x16x64, .f32⟩
  | .hbm, ⟨43, _⟩ => ⟨S8x2048x16x64, .f32⟩
  | .hbm, ⟨44, _⟩ => ⟨S8x2048x16x8, .f32⟩
  | .hbm, ⟨45, _⟩ => ⟨S8x2048x16x8, .f32⟩
  | .hbm, ⟨46, _⟩ => ⟨S8x2048x16x8, .f32⟩
  | .hbm, ⟨47, _⟩ => ⟨S8x2048x16x8, .f32⟩
  | .hbm, ⟨48, _⟩ => ⟨S8x2048x16x8, .f32⟩
  | .hbm, ⟨49, _⟩ => ⟨S8x2048x16x8, .f32⟩
  | .hbm, ⟨50, _⟩ => ⟨S8x2048x16x8, .f32⟩
  | .hbm, ⟨51, _⟩ => ⟨S8x2048x16x8, .f32⟩
  | .hbm, ⟨52, _⟩ => ⟨S8x2048x16x8, .f32⟩
  | .hbm, ⟨53, _⟩ => ⟨S8x2048x16x8, .f32⟩
  | .hbm, ⟨54, _⟩ => ⟨S8x2048x16x8, .f32⟩
  | .hbm, ⟨55, _⟩ => ⟨S8x2048x16x8, .f32⟩
  | .hbm, ⟨56, _⟩ => ⟨S8x2048x16x48, .f32⟩
  | .hbm, ⟨57, _⟩ => ⟨S8x2048x16x64, .f32⟩
  | .hbm, ⟨58, _⟩ => ⟨S8x2048x1x16x64, .f32⟩
  | .hbm, ⟨59, _⟩ => ⟨S8x2048x16x64, .f32⟩
  | .hbm, ⟨60, _⟩ => ⟨S8x512x4x16x64, .f32⟩
  | .hbm, ⟨61, _⟩ => ⟨S8x4x512x16x64, .f32⟩
  | .hbm, ⟨62, _⟩ => ⟨S32x512x16x64, .f32⟩
  | .hbm, ⟨63, _⟩ => ⟨S8x4x512x1024, .f32⟩
  | .hbm, ⟨64, _⟩ => ⟨S8x4x512x1024, .bf16⟩
  | .hbm, ⟨65, _⟩ => ⟨S8x512x4x16x64, .f32⟩
  | .hbm, ⟨66, _⟩ => ⟨S8x4x512x16x64, .f32⟩
  | .hbm, ⟨67, _⟩ => ⟨S32x512x16x64, .f32⟩
  | .hbm, ⟨68, _⟩ => ⟨S8x4x512x1024, .f32⟩
  | .hbm, ⟨69, _⟩ => ⟨S8x4x512x1024, .bf16⟩
  | .hbm, ⟨70, _⟩ => ⟨S8x512x4x16x64, .f32⟩
  | .hbm, ⟨71, _⟩ => ⟨S8x4x512x16x64, .f32⟩
  | .hbm, ⟨72, _⟩ => ⟨S32x512x16x64, .f32⟩
  | .hbm, ⟨73, _⟩ => ⟨S8x4x512x1024, .f32⟩
  | .hbm, ⟨74, _⟩ => ⟨S8x4x512x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩

abbrev nD : Nat := 1
abbrev τ : Topo := Topo.v7x

variable {F : FTy → Type} [FloatOps F]
-- ==== Proj16Kernel.lean ====
abbrev S8x2048x1024 : Shape := ⟨3, ![8, 2048, 1024]⟩
abbrev S8x2048x1x8 : Shape := ⟨4, ![8, 2048, 1, 8]⟩
abbrev S1024 : Shape := ⟨1, ![1024]⟩
abbrev S1024x3072 : Shape := ⟨2, ![1024, 3072]⟩
abbrev S8x2048x8 : Shape := ⟨3, ![8, 2048, 8]⟩
abbrev S_ : Shape := ⟨0, ![]⟩
abbrev S8x2048x48 : Shape := ⟨3, ![8, 2048, 48]⟩
abbrev S8x2048x128 : Shape := ⟨3, ![8, 2048, 128]⟩
abbrev S1x1024 : Shape := ⟨2, ![1, 1024]⟩
abbrev S8x16x128x1024 : Shape := ⟨4, ![8, 16, 128, 1024]⟩
abbrev S1x512x1024 : Shape := ⟨3, ![1, 512, 1024]⟩
abbrev S1x512x128 : Shape := ⟨3, ![1, 512, 128]⟩
abbrev S1x16x32x1024 : Shape := ⟨4, ![1, 16, 32, 1024]⟩
abbrev S8x512x128 : Shape := ⟨3, ![8, 512, 128]⟩
abbrev S512x128 : Shape := ⟨2, ![512, 128]⟩
abbrev S32x128 : Shape := ⟨2, ![32, 128]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S32x1024 : Shape := ⟨2, ![32, 1024]⟩
abbrev S1x1x32x1024 : Shape := ⟨4, ![1, 1, 32, 1024]⟩

abbrev nBuf : Space → Nat
  | .hbm => 24
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1x8, .f32⟩
  | .hbm, ⟨2, _⟩ => ⟨S8x2048x1x8, .f32⟩
  | .hbm, ⟨3, _⟩ => ⟨S1024, .f32⟩
  | .hbm, ⟨4, _⟩ => ⟨S1024x3072, .f32⟩
  | .hbm, ⟨5, _⟩ => ⟨S8x2048x8, .f32⟩
  | .hbm, ⟨6, _⟩ => ⟨S8x2048x8, .f32⟩
  | .hbm, ⟨7, _⟩ => ⟨S_, .f32⟩
  | .hbm, ⟨8, _⟩ => ⟨S8x2048x8, .f32⟩
  | .hbm, ⟨9, _⟩ => ⟨S_, .f32⟩
  | .hbm, ⟨10, _⟩ => ⟨S8x2048x48, .f32⟩
  | .hbm, ⟨11, _⟩ => ⟨S8x2048x128, .f32⟩
  | .hbm, ⟨12, _⟩ => ⟨S_, .f32⟩
  | .hbm, ⟨13, _⟩ => ⟨S8x2048x48, .f32⟩
  | .hbm, ⟨14, _⟩ => ⟨S8x2048x128, .f32⟩
  | .hbm, ⟨15, _⟩ => ⟨S8x2048x8, .f32⟩
  | .hbm, ⟨16, _⟩ => ⟨S_, .f32⟩
  | .hbm, ⟨17, _⟩ => ⟨S8x2048x48, .f32⟩
  | .hbm, ⟨18, _⟩ => ⟨S8x2048x128, .f32⟩
  | .hbm, ⟨19, _⟩ => ⟨S1x1024, .f32⟩
  | .hbm, ⟨20, _⟩ => ⟨S1024x3072, .bf16⟩
  | .hbm, ⟨21, _⟩ => ⟨S8x16x128x1024, .bf16⟩
  | .hbm, ⟨22, _⟩ => ⟨S8x16x128x1024, .bf16⟩
  | .hbm, ⟨23, _⟩ => ⟨S8x16x128x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x1024, .f32⟩
  | .local _ .vmem, ⟨9, _⟩ => ⟨S1024x3072, .bf16⟩
  | .local _ .vmem, ⟨10, _⟩ => ⟨S1x16x32x1024, .bf16⟩
  | .local _ .vmem, ⟨11, _⟩ => ⟨S1x16x32x1024, .bf16⟩
  | .local _ .vmem, ⟨12, _⟩ => ⟨S1x16x32x1024, .bf16⟩
  | .local _ .vmem, ⟨13, _⟩ => ⟨S1x16x32x1024, .bf16⟩
  | .local _ .vmem, ⟨14, _⟩ => ⟨S1x16x32x1024, .bf16⟩
  | .local _ .vmem, ⟨15, _⟩ => ⟨S1x16x32x1024, .bf16⟩
  | .local _ .vmem, ⟨16, _⟩ => ⟨S8x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x32x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proj16ReferenceIdeal.lean ====
abbrev S8x2048x1024 : Shape := ⟨3, ![8, 2048, 1024]⟩
abbrev S8x2048x1x8 : Shape := ⟨4, ![8, 2048, 1, 8]⟩
abbrev S1024 : Shape := ⟨1, ![1024]⟩
abbrev S1024x3072 : Shape := ⟨2, ![1024, 3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2048x3x16x64 : Shape := ⟨5, ![8, 2048, 3, 16, 64]⟩
abbrev S8x2048x1x16x64 : Shape := ⟨5, ![8, 2048, 1, 16, 64]⟩
abbrev S8x2048x16x64 : Shape := ⟨4, ![8, 2048, 16, 64]⟩
abbrev S8x2048x16x8 : Shape := ⟨4, ![8, 2048, 16, 8]⟩
abbrev S8x2048x16x48 : Shape := ⟨4, ![8, 2048, 16, 48]⟩
abbrev S8x128x16x16x64 : Shape := ⟨5, ![8, 128, 16, 16, 64]⟩
abbrev S8x16x128x16x64 : Shape := ⟨5, ![8, 16, 128, 16, 64]⟩
abbrev S128x128x16x64 : Shape := ⟨4, ![128, 128, 16, 64]⟩
abbrev S8x16x128x1024 : Shape := ⟨4, ![8, 16, 128, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1x8, .f32⟩
  | .hbm, ⟨2, _⟩ => ⟨S8x2048x1x8, .f32⟩
  | .hbm, ⟨3, _⟩ => ⟨S1024, .f32⟩
  | .hbm, ⟨4, _⟩ => ⟨S1024x3072, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x3072, .f32⟩
  | .hbm, ⟨22, _⟩ => ⟨S8x2048x3x16x64, .f32⟩
  | .hbm, ⟨23, _⟩ => ⟨S8x2048x1x16x64, .f32⟩
  | .hbm, ⟨24, _⟩ => ⟨S8x2048x16x64, .f32⟩
  | .hbm, ⟨25, _⟩ => ⟨S8x2048x16x8, .f32⟩
  | .hbm, ⟨26, _⟩ => ⟨S8x2048x16x8, .f32⟩
  | .hbm, ⟨27, _⟩ => ⟨S8x2048x16x8, .f32⟩
  | .hbm, ⟨28, _⟩ => ⟨S8x2048x16x8, .f32⟩
  | .hbm, ⟨29, _⟩ => ⟨S8x2048x16x8, .f32⟩
  | .hbm, ⟨30, _⟩ => ⟨S8x2048x16x8, .f32⟩
  | .hbm, ⟨31, _⟩ => ⟨S8x2048x16x8, .f32⟩
  | .hbm, ⟨32, _⟩ => ⟨S8x2048x16x8, .f32⟩
  | .hbm, ⟨33, _⟩ => ⟨S8x2048x16x8, .f32⟩
  | .hbm, ⟨34, _⟩ => ⟨S8x2048x16x8, .f32⟩
  | .hbm, ⟨35, _⟩ => ⟨S8x2048x16x8, .f32⟩
  | .hbm, ⟨36, _⟩ => ⟨S8x2048x16x8, .f32⟩
  | .hbm, ⟨37, _⟩ => ⟨S8x2048x16x48, .f32⟩
  | .hbm, ⟨38, _⟩ => ⟨S8x2048x16x64, .f32⟩
  | .hbm, ⟨39, _⟩ => ⟨S_, .f32⟩
  | .hbm, ⟨40, _⟩ => ⟨S8x2048x16x64, .f32⟩
  | .hbm, ⟨41, _⟩ => ⟨S8x2048x16x64, .f32⟩
  | .hbm, ⟨42, _⟩ => ⟨S8x2048x1x16x64, .f32⟩
  | .hbm, ⟨43, _⟩ => ⟨S8x2048x16x64, .f32⟩
  | .hbm, ⟨44, _⟩ => ⟨S8x2048x16x8, .f32⟩
  | .hbm, ⟨45, _⟩ => ⟨S8x2048x16x8, .f32⟩
  | .hbm, ⟨46, _⟩ => ⟨S8x2048x16x8, .f32⟩
  | .hbm, ⟨47, _⟩ => ⟨S8x2048x16x8, .f32⟩
  | .hbm, ⟨48, _⟩ => ⟨S8x2048x16x8, .f32⟩
  | .hbm, ⟨49, _⟩ => ⟨S8x2048x16x8, .f32⟩
  | .hbm, ⟨50, _⟩ => ⟨S8x2048x16x8, .f32⟩
  | .hbm, ⟨51, _⟩ => ⟨S8x2048x16x8, .f32⟩
  | .hbm, ⟨52, _⟩ => ⟨S8x2048x16x8, .f32⟩
  | .hbm, ⟨53, _⟩ => ⟨S8x2048x16x8, .f32⟩
  | .hbm, ⟨54, _⟩ => ⟨S8x2048x16x8, .f32⟩
  | .hbm, ⟨55, _⟩ => ⟨S8x2048x16x8, .f32⟩
  | .hbm, ⟨56, _⟩ => ⟨S8x2048x16x48, .f32⟩
  | .hbm, ⟨57, _⟩ => ⟨S8x2048x16x64, .f32⟩
  | .hbm, ⟨58, _⟩ => ⟨S8x2048x1x16x64, .f32⟩
  | .hbm, ⟨59, _⟩ => ⟨S8x2048x16x64, .f32⟩
  | .hbm, ⟨60, _⟩ => ⟨S8x128x16x16x64, .f32⟩
  | .hbm, ⟨61, _⟩ => ⟨S8x16x128x16x64, .f32⟩
  | .hbm, ⟨62, _⟩ => ⟨S128x128x16x64, .f32⟩
  | .hbm, ⟨63, _⟩ => ⟨S8x16x128x1024, .f32⟩
  | .hbm, ⟨64, _⟩ => ⟨S8x16x128x1024, .bf16⟩
  | .hbm, ⟨65, _⟩ => ⟨S8x128x16x16x64, .f32⟩
  | .hbm, ⟨66, _⟩ => ⟨S8x16x128x16x64, .f32⟩
  | .hbm, ⟨67, _⟩ => ⟨S128x128x16x64, .f32⟩
  | .hbm, ⟨68, _⟩ => ⟨S8x16x128x1024, .f32⟩
  | .hbm, ⟨69, _⟩ => ⟨S8x16x128x1024, .bf16⟩
  | .hbm, ⟨70, _⟩ => ⟨S8x128x16x16x64, .f32⟩
  | .hbm, ⟨71, _⟩ => ⟨S8x16x128x16x64, .f32⟩
  | .hbm, ⟨72, _⟩ => ⟨S128x128x16x64, .f32⟩
  | .hbm, ⟨73, _⟩ => ⟨S8x16x128x1024, .f32⟩
  | .hbm, ⟨74, _⟩ => ⟨S8x16x128x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩

abbrev nD : Nat := 1
abbrev τ : Topo := Topo.v7x

variable {F : FTy → Type} [FloatOps F]
-- ==== Proof.Body.lean ====
/-
  The body of the attention call, run once at symbolic operands: from its ten input blocks, its result block and its
  seven scratch buffers it reaches its end, the inputs as they were and the other buffers at some contents.  The four
  branches of the switch on the diagonal chunk are followed one by one.
-/
module

public import proofs.«01_k».proof.Proof.Gen.KernelIdeal.Frame
public import proofs.«01_k».proof.Proof.Gen.KernelIdeal.Skeleton

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A memref's buffer on core `c`: its contents' type, and the buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev sc0 : Memref sig .tc .vmem S2048x128 .bf16 := Memref.whole cc0_scratch0
abbrev sc1 : Memref sig .tc .vmem S8x128x256 .bf16 := Memref.whole cc0_scratch1
abbrev sc2 : Memref sig .tc .vmem S2048x128 .bf16 := Memref.whole cc0_scratch2
abbrev sc3 : Memref sig .tc .vmem S8x128x256 .bf16 := Memref.whole cc0_scratch3
abbrev sc4 : Memref sig .tc .vmem S2x256x1024 .f32 := Memref.whole cc0_scratch4
abbrev sc5 : Memref sig .tc .vmem S2x256x1024 .bf16 := Memref.whole cc0_scratch5
abbrev sc6 : Memref sig .tc .vmem S72x1024 .f32 := Memref.whole cc0_scratch6

set_option maxHeartbeats 4000000 in
theorem bodyRun (c : Dev nD) (i : grid0.Coords) (arg3 : Memref sig .tc .vmem S1x256x256 .f32) (harg3 : arg3.IsWhole) (arg4 : Memref sig .tc .vmem S1x8x256 .f32) (harg4 : arg4.IsWhole) (arg5 : Memref sig .tc .vmem S1x8x256 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x1x128x128 .f32) (harg9 : arg9.IsWhole) (arg10 : Memref sig .tc .vmem S1x1x2048x128 .bf16) (harg10 : arg10.IsWhole) (arg11 : Memref sig .tc .vmem S1x1x2048x128 .bf16) (harg11 : arg11.IsWhole) (arg12 : Memref sig .tc .vmem S1x128x256 .f32) (harg12 : arg12.IsWhole) (arg13 : Memref sig .tc .vmem S1x256x256 .bf16) (harg13 : arg13.IsWhole)
    (x3 : Vec F S1x256x256 .f32) (x4 : Vec F S1x8x256 .f32) (x5 : Vec F S1x8x256 .f32) (x6 : Vec F S1x2048x128 .f32) (x7 : Vec F S1x2048x128 .f32) (x8 : Vec F S1x2048x128 .f32) (x9 : Vec F S1x1x128x128 .f32) (x10 : Vec F S1x1x2048x128 .bf16) (x11 : Vec F S1x1x2048x128 .bf16) (x12 : Vec F S1x128x256 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d)
      ∗ (∃ f, pt c sc0 f) ∗ (∃ f, pt c sc1 f) ∗ (∃ f, pt c sc2 f) ∗ (∃ f, pt c sc3 f) ∗ (∃ f, pt c sc4 f) ∗ (∃ f, pt c sc5 f) ∗ (∃ f, pt c sc6 f)
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d)
      ∗ (∃ f, pt c sc0 f) ∗ (∃ f, pt c sc1 f) ∗ (∃ f, pt c sc2 f) ∗ (∃ f, pt c sc3 f) ∗ (∃ f, pt c sc4 f) ∗ (∃ f, pt c sc5 f) ∗ (∃ f, pt c sc6 f)) -∗ K ⟨⟩))
    ⊢ wp frame (wpE (defs₀ (F := F)) Variants.none c none) Set.univ (cc0_nsa_attention (F := F) i arg3 harg3 arg4 harg4 arg5 harg5 arg6 harg6 arg7 harg7 arg8 harg8 arg9 harg9 arg10 harg10 arg11 harg11 arg12 harg12 arg13 harg13 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)) K := by
  simp only [cc0_nsa_attention_eq_skeleton]; unfold cc0_nsa_attention_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%d13, %f13, -, H13⟩, ⟨%g0, S0⟩, ⟨%g1, S1⟩, ⟨%g2, S2⟩, ⟨%g3, S3⟩, ⟨%g4, S4⟩, ⟨%g5, S5⟩, ⟨%g6, S6⟩, Hk⟩
  by_cases h2 : k0_cond2 i = 1#1
  · by_cases h3 : k0_cond3 i = 1#1
    · by_cases h4 : k0_cond4 i = 1#1
      all_goals (sl_exec_parts; sl_step)
      · (iapply Hk; isplitl [H3]; (iexists _; (isplitr; swap; iexact H3); (ipureintro; exact e3)); isplitl [H4]; (iexists _; (isplitr; swap; iexact H4); (ipureintro; exact e4)); isplitl [H5]; (iexists _; (isplitr; swap; iexact H5); (ipureintro; exact e5)); isplitl [H6]; (iexists _; (isplitr; swap; iexact H6); (ipureintro; exact e6)); isplitl [H7]; (iexists _; (isplitr; swap; iexact H7); (ipureintro; exact e7)); isplitl [H8]; (iexists _; (isplitr; swap; iexact H8); (ipureintro; exact e8)); isplitl [H9]; (iexists _; (isplitr; swap; iexact H9); (ipureintro; exact e9)); isplitl [H10]; (iexists _; (isplitr; swap; iexact H10); (ipureintro; exact e10)); isplitl [H11]; (iexists _; (isplitr; swap; iexact H11); (ipureintro; exact e11)); isplitl [H12]; (iexists _; (isplitr; swap; iexact H12); (ipureintro; exact e12)); isplitl [H13]; (iexists _, _; (isplitr; swap; iexact H13); (ipureintro; rfl)); isplitl [S0]; (iexists _; iexact S0); isplitl [S1]; (iexists _; iexact S1); isplitl [S2]; (iexists _; iexact S2); isplitl [S3]; (iexists _; iexact S3); isplitl [S4]; (iexists _; iexact S4); isplitl [S5]; (iexists _; iexact S5); (iexists _; iexact S6))
      · (iapply Hk; isplitl [H3]; (iexists _; (isplitr; swap; iexact H3); (ipureintro; exact e3)); isplitl [H4]; (iexists _; (isplitr; swap; iexact H4); (ipureintro; exact e4)); isplitl [H5]; (iexists _; (isplitr; swap; iexact H5); (ipureintro; exact e5)); isplitl [H6]; (iexists _; (isplitr; swap; iexact H6); (ipureintro; exact e6)); isplitl [H7]; (iexists _; (isplitr; swap; iexact H7); (ipureintro; exact e7)); isplitl [H8]; (iexists _; (isplitr; swap; iexact H8); (ipureintro; exact e8)); isplitl [H9]; (iexists _; (isplitr; swap; iexact H9); (ipureintro; exact e9)); isplitl [H10]; (iexists _; (isplitr; swap; iexact H10); (ipureintro; exact e10)); isplitl [H11]; (iexists _; (isplitr; swap; iexact H11); (ipureintro; exact e11)); isplitl [H12]; (iexists _; (isplitr; swap; iexact H12); (ipureintro; exact e12)); isplitl [H13]; (iexists _, _; (isplitr; swap; iexact H13); (ipureintro; rfl)); isplitl [S0]; (iexists _; iexact S0); isplitl [S1]; (iexists _; iexact S1); isplitl [S2]; (iexists _; iexact S2); isplitl [S3]; (iexists _; iexact S3); isplitl [S4]; (iexists _; iexact S4); isplitl [S5]; (iexists _; iexact S5); (iexists _; iexact S6))
    · sl_exec_parts; sl_step; (iapply Hk; isplitl [H3]; (iexists _; (isplitr; swap; iexact H3); (ipureintro; exact e3)); isplitl [H4]; (iexists _; (isplitr; swap; iexact H4); (ipureintro; exact e4)); isplitl [H5]; (iexists _; (isplitr; swap; iexact H5); (ipureintro; exact e5)); isplitl [H6]; (iexists _; (isplitr; swap; iexact H6); (ipureintro; exact e6)); isplitl [H7]; (iexists _; (isplitr; swap; iexact H7); (ipureintro; exact e7)); isplitl [H8]; (iexists _; (isplitr; swap; iexact H8); (ipureintro; exact e8)); isplitl [H9]; (iexists _; (isplitr; swap; iexact H9); (ipureintro; exact e9)); isplitl [H10]; (iexists _; (isplitr; swap; iexact H10); (ipureintro; exact e10)); isplitl [H11]; (iexists _; (isplitr; swap; iexact H11); (ipureintro; exact e11)); isplitl [H12]; (iexists _; (isplitr; swap; iexact H12); (ipureintro; exact e12)); isplitl [H13]; (iexists _, _; (isplitr; swap; iexact H13); (ipureintro; rfl)); isplitl [S0]; (iexists _; iexact S0); isplitl [S1]; (iexists _; iexact S1); isplitl [S2]; (iexists _; iexact S2); isplitl [S3]; (iexists _; iexact S3); isplitl [S4]; (iexists _; iexact S4); isplitl [S5]; (iexists _; iexact S5); (iexists _; iexact S6))
  · sl_exec_parts; sl_step; (iapply Hk; isplitl [H3]; (iexists _; (isplitr; swap; iexact H3); (ipureintro; exact e3)); isplitl [H4]; (iexists _; (isplitr; swap; iexact H4); (ipureintro; exact e4)); isplitl [H5]; (iexists _; (isplitr; swap; iexact H5); (ipureintro; exact e5)); isplitl [H6]; (iexists _; (isplitr; swap; iexact H6); (ipureintro; exact e6)); isplitl [H7]; (iexists _; (isplitr; swap; iexact H7); (ipureintro; exact e7)); isplitl [H8]; (iexists _; (isplitr; swap; iexact H8); (ipureintro; exact e8)); isplitl [H9]; (iexists _; (isplitr; swap; iexact H9); (ipureintro; exact e9)); isplitl [H10]; (iexists _; (isplitr; swap; iexact H10); (ipureintro; exact e10)); isplitl [H11]; (iexists _; (isplitr; swap; iexact H11); (ipureintro; exact e11)); isplitl [H12]; (iexists _; (isplitr; swap; iexact H12); (ipureintro; exact e12)); isplitl [H13]; (iexists _, _; (isplitr; swap; iexact H13); (ipureintro; rfl)); isplitl [S0]; (iexists _; iexact S0); isplitl [S1]; (iexists _; iexact S1); isplitl [S2]; (iexists _; iexact S2); isplitl [S3]; (iexists _; iexact S3); isplitl [S4]; (iexists _; iexact S4); isplitl [S5]; (iexists _; iexact S5); (iexists _; iexact S6))

end Cert.KernelIdeal.Hand

end
-- ==== Proof.Frame.lean ====
/-
  The frame of the attention call: every grid point runs the body of Body.lean on the windows' current blocks, the
  arguments bypass the region, so they are left as they were, and no semaphore stays raised.
-/
module

public import proofs.«01_k».proof.Proof.Body
public import Idealize.ShloMosaic.Lib.Pipeline.FrameBody

@[expose] public section

set_option maxRecDepth 32768

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data of the call on core `c`: the arrays as the region finds them, every input's buffer left as it was
    handed over, the result's buffer left at anything. -/
def rdat (c : Dev nD) : RDat τ (Elt F) Unit ℕ (UR sig nD τ) ℕ cfg0 c where
  A w := V m c (Pipeline.arrRef spec0 w)
  after w _ Y X := w ≠ 10 → X = Y
  Φ _ := Pipeline.ΦA spec0 c
  q _ := fullShare
  owed _ := 0

theorem sound_body (c : Dev nD) (t : Fin cfg0.N) (Y : (w : Fin cfg0.W) → (cfg0.win w).block.Idx → Elt F (cfg0.win w).elt) :
    iprop((rdat m c).Φ t.castSucc ∗ (rdat m c).owesAt () t.castSucc
      ∗ bigSep Finset.univ fun w => owns (c : Thread nD τ) ((cfg0.win w).stage (cfg0.slots t w)) fullShare (Y w))
    ⊢ wp frame (wpE (defs₀ (F := F)) Variants.none c none) Set.univ (bodyAt0 t) fun _ =>
      iprop((rdat m c).Φ t.succ ∗ (rdat m c).owesAt () t.succ
        ∗ bigSep Finset.univ fun w => iprop(∃ X, ⌜(rdat m c).after w t (Y w) X⌝
          ∗ owns (c : Thread nD τ) ((cfg0.win w).stage (cfg0.slots t w)) fullShare X)) := by
  rw [bigSep_W0, bigSep_W0]
  rw [show (rdat m c).Φ t.succ = Pipeline.ΦA spec0 c from rfl, show (rdat m c).Φ t.castSucc = Pipeline.ΦA spec0 c from rfl]
  unfold Pipeline.ΦA
  rw [scopedRest0_eq]
  unfold RDat.owesAt Pipeline.owesWithin
  rw [show (rdat m c).owed t.castSucc = 0 from rfl, show (rdat m c).owed t.succ = 0 from rfl]
  unfold bodyAt0
  iintro ⟨⟨⟨S0, S1, S2, S3, S4, S5, S6⟩, Hg⟩, ⟨%W, -, HW⟩, H0, H1, H2, H3, H4, H5, H6, H7, H8, H9, H10⟩
  iapply (bodyRun (F := F) c)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, H9, ⟨%d, H10⟩, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [HW]
  · iexists W; isplitr; · ipureintro; exact fun _ _ => Or.inl trivial
    iexact HW
  isplitl [H0]; · iexists _; isplitr; (swap; iexact H0); (ipureintro; exact fun _ => rfl)
  isplitl [H1]; · iexists _; isplitr; (swap; iexact H1); (ipureintro; exact fun _ => rfl)
  isplitl [H2]; · iexists _; isplitr; (swap; iexact H2); (ipureintro; exact fun _ => rfl)
  isplitl [H3]; · iexists _; isplitr; (swap; iexact H3); (ipureintro; exact fun _ => rfl)
  isplitl [H4]; · iexists _; isplitr; (swap; iexact H4); (ipureintro; exact fun _ => rfl)
  isplitl [H5]; · iexists _; isplitr; (swap; iexact H5); (ipureintro; exact fun _ => rfl)
  isplitl [H6]; · iexists _; isplitr; (swap; iexact H6); (ipureintro; exact fun _ => rfl)
  isplitl [H7]; · iexists _; isplitr; (swap; iexact H7); (ipureintro; exact fun _ => rfl)
  isplitl [H8]; · iexists _; isplitr; (swap; iexact H8); (ipureintro; exact fun _ => rfl)
  isplitl [H9]; · iexists _; isplitr; (swap; iexact H9); (ipureintro; exact fun _ => rfl)
  iexists d; isplitr; swap; · iexact H10
  ipureintro; exact fun h => absurd rfl h

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y _ => by
  rw [defs₀_row]
  exact triple_restated (sound_body m c t Y) rfl .rfl fun _ => .rfl

set_option backward.isDefEq.respectTransparency.types false in
theorem run_main : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := fun c => body_obligation m c) (hshare := fun c => (rdat m c).share_full fun _ => rfl)
    (howed := fun _ _ => rfl) (V := V m) (hmain := hmain m Variants.none) (hA := fun _ _ => rfl)
    (hΦ := fun _ _ => rfl) (hQ' := fun _ h => h)

/-- The frame at any float values: the nine arguments end as they began, and every semaphore is down. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main m ρ)

end Cert.KernelIdeal.Hand

end
-- ==== Proof.Ffn.lean ====
module
public import proofs.«01_k».proof.Proof.Gen.FfnKernel.Frame
public import proofs.«01_k».proof.Proof.Gen.FfnKernelIdeal.Frame
public import proofs.«01_k».proof.Proof.Gen.FfnReferenceIdeal.Run
public import proofs.«01_k».proof.Proof.Gen.FfnReferenceIdeal.Read
-- ==== Proof.FfnSpec.lean ====
module
public import Idealize.ShloMosaic.PureOps.Ideal.Laws
public import Idealize.ShloMosaic.Lib.Pointwise

/-! # The output projection, the two residual connections and the SwiGLU feed-forward, row by row

Functions of one row of the activations (1024 entries) and of the weights, over the extended reals. Both programs are
read as these: the kernel, which runs over the 2816 hidden units in eleven tiles of 256, and the reference. -/

@[expose] public section

noncomputable section

namespace Cert.Ffn

open Idealize.ShloMosaic

/-- A row of the model's width. -/
abbrev Row := Fin 1024 → EReal

/-- RMS normalisation of a row, with gain `g`. -/
def rms (x g : Row) : Row := fun d =>
  x d * Ideal.rsqrt (Ideal.div (∑ k, x k * x k) (Ideal.ofBits FTy.f32 1149239296#32) + Ideal.ofBits FTy.f32 897988541#32) * g d

theorem rms_congr {x y : Row} (h : ∀ e, x e = y e) (g : Row) (d : Fin 1024) : rms x g d = rms y g d := by
  rw [funext h]

/-- The mixer's output `o`, projected, normalised and added to the residual `h`. -/
def mixed (o : Row) (wo : Fin 1024 → Row) (g h : Row) : Row := fun d =>
  h d + rms (fun e => ∑ k, o k * wo k e) g d

/-- One hidden unit: `silu (a · wg) * (a · wu)`. -/
def unit (a wg wu : Row) : EReal :=
  (∑ k, a k * wg k) * Ideal.div 1 (1 + Ideal.exp (0 - ∑ k, a k * wg k)) * ∑ k, a k * wu k

/-- The hidden units of one tile of 256, contracted with the tile's rows of the down projection. -/
def tile (a : Row) (wg wu : Fin 1024 → Fin 256 → EReal) (wd : Fin 256 → Row) : Row := fun d =>
  ∑ x, unit a (fun k => wg k x) (fun k => wu k x) * wd x d

/-- The feed-forward of a row: gates in the first half of the columns of `wgu`, values in the second. -/
def swiglu (a : Row) (wgu : Fin 1024 → Fin 5632 → EReal) (wd : Fin 2816 → Row) : Row := fun d =>
  ∑ f : Fin 2816, unit a (fun k => wgu k ⟨f.val, by omega⟩) (fun k => wgu k ⟨2816 + f.val, by omega⟩) * wd f d

/-- The feed-forward block with its residual. -/
def ffn (h gpre : Row) (wgu : Fin 1024 → Fin 5632 → EReal) (wd : Fin 2816 → Row) (gpost : Row) : Row := fun d =>
  h d + rms (swiglu (rms h gpre) wgu wd) gpost d

/-- Tile `j` of the feed-forward. -/
def part (a : Row) (wgu : Fin 1024 → Fin 5632 → EReal) (wd : Fin 2816 → Row) (j : Fin 11) : Row :=
  tile a (fun k x => wgu k ⟨256 * j.val + x.val, by omega⟩) (fun k x => wgu k ⟨2816 + (256 * j.val + x.val), by omega⟩)
    (fun x => wd ⟨256 * j.val + x.val, by omega⟩)

/-- The feed-forward is the sum of its eleven tiles. -/
theorem swiglu_eq (a : Row) (wgu : Fin 1024 → Fin 5632 → EReal) (wd : Fin 2816 → Row) (d : Fin 1024) :
    swiglu a wgu wd d = ∑ j, part a wgu wd j d := by
  unfold swiglu part tile
  rw [Fin.sum_univ_tiles 11 256 rfl]
  refine Finset.sum_congr rfl fun j _ => ?_
  refine Finset.sum_congr rfl fun x _ => ?_
  have e : j.val * 256 + x.val = 256 * j.val + x.val := by omega
  simp only [e]

theorem tile_eq_part (a : Row) (wgu : Fin 1024 → Fin 5632 → EReal) (wd : Fin 2816 → Row) (j : Fin 11) (d : Fin 1024)
    (g u : Fin 1024 → Fin 256 → EReal) (w : Fin 256 → Row)
    (hg : ∀ k x, g k x = wgu k ⟨256 * j.val + x.val, by omega⟩)
    (hu : ∀ k x, u k x = wgu k ⟨2816 + (256 * j.val + x.val), by omega⟩)
    (hw : ∀ x e, w x e = wd ⟨256 * j.val + x.val, by omega⟩ e) : tile a g u w d = part a wgu wd j d := by
  have eg := funext fun k => funext (hg k)
  have eu := funext fun k => funext (hu k)
  have ew := funext fun k => funext (hw k)
  rw [eg, eu, ew]; rfl

/-- The feed-forward, as eleven tiles added from the left. -/
theorem swiglu_eq_add (a : Row) (wgu : Fin 1024 → Fin 5632 → EReal) (wd : Fin 2816 → Row) (d : Fin 1024) :
    swiglu a wgu wd d = part a wgu wd 0 d + part a wgu wd 1 d + part a wgu wd 2 d + part a wgu wd 3 d
      + part a wgu wd 4 d + part a wgu wd 5 d + part a wgu wd 6 d + part a wgu wd 7 d + part a wgu wd 8 d
      + part a wgu wd 9 d + part a wgu wd 10 d := by
  rw [swiglu_eq]
  simp only [Fin.sum_univ_castSucc, Fin.sum_univ_zero, zero_add]
  rfl

end Cert.Ffn
end
-- ==== Proof.ProjSpec.lean ====
module
public import proofs.«01_k».proof.Proof.FfnSpec

/-! # The dilated projection, row by row

A row of the residual is normalised, projected to 3072 columns (queries, keys, values, 1024 each), and the first sixteen
entries of each head of 64 are rotated, in queries and keys. -/

@[expose] public section

noncomputable section

namespace Cert.Proj

open Idealize.ShloMosaic Cert.Ffn

/-- The 1024 columns of `w` from `o` on, applied to a row. -/
def lin (o : Fin 3) (a : Row) (w : Fin 1024 → Fin 3072 → EReal) : Row := fun d =>
  ∑ k, a k * w k ⟨1024 * o.val + d.val, by omega⟩

/-- The partial rotation of a row of sixteen heads. -/
def rope (y : Row) (cos sin : Fin 8 → EReal) : Row := fun d =>
  if d.val % 64 < 8 then
    y d * cos ⟨d.val % 8, Nat.mod_lt _ (by norm_num)⟩
      - y ⟨(d.val + 8) % 1024, Nat.mod_lt _ (by norm_num)⟩ * sin ⟨d.val % 8, Nat.mod_lt _ (by norm_num)⟩
  else if d.val % 64 < 16 then
    y d * cos ⟨d.val % 8, Nat.mod_lt _ (by norm_num)⟩
      + y ⟨d.val - 8, by omega⟩ * sin ⟨d.val % 8, Nat.mod_lt _ (by norm_num)⟩
  else y d

/-- The table the kernel multiplies a lane's entry by. -/
def tabC (cos : Fin 8 → EReal) (l : Fin 128) : EReal :=
  if l.val % 64 < 16 then cos ⟨l.val % 8, Nat.mod_lt _ (by norm_num)⟩ else 1
/-- The table for the entry eight lanes before. -/
def tabB (sin : Fin 8 → EReal) (l : Fin 128) : EReal :=
  if l.val % 64 < 8 then 0 else if l.val % 64 < 16 then sin ⟨l.val % 8, Nat.mod_lt _ (by norm_num)⟩ else 0
/-- The table for the entry eight lanes after. -/
def tabA (sin : Fin 8 → EReal) (l : Fin 128) : EReal :=
  if l.val % 64 < 8 then - sin ⟨l.val % 8, Nat.mod_lt _ (by norm_num)⟩ else 0

/-- The rotation as the kernel does it, in lane tiles of 128 with three tables. -/
def lanes (y : Row) (c b a : Fin 128 → EReal) : Row := fun d =>
  y d * c ⟨d.val % 128, Nat.mod_lt _ (by norm_num)⟩
    + y ⟨128 * (d.val / 128) + (d.val % 128 + 120) % 128, by omega⟩ * b ⟨d.val % 128, Nat.mod_lt _ (by norm_num)⟩
    + y ⟨128 * (d.val / 128) + (d.val % 128 + 8) % 128, by omega⟩ * a ⟨d.val % 128, Nat.mod_lt _ (by norm_num)⟩

theorem lanes_eq_rope (y : Row) (cos sin : Fin 8 → EReal) (d : Fin 1024) :
    lanes y (tabC cos) (tabB sin) (tabA sin) d = rope y cos sin d := by
  have hd := d.isLt
  have e64 : d.val % 128 % 64 = d.val % 64 := by omega
  have e8 : d.val % 128 % 8 = d.val % 8 := by omega
  unfold lanes rope tabC tabB tabA
  simp only [e64, e8]
  by_cases h1 : d.val % 64 < 8
  · have h2 : d.val % 64 < 16 := by omega
    have e : 128 * (d.val / 128) + (d.val % 128 + 8) % 128 = (d.val + 8) % 1024 := by omega
    simp only [if_pos h1, if_pos h2, mul_zero, add_zero, e, mul_neg]
    exact (sub_eq_add_neg _ _).symm
  · by_cases h2 : d.val % 64 < 16
    · have e : 128 * (d.val / 128) + (d.val % 128 + 120) % 128 = d.val - 8 := by omega
      simp only [if_neg h1, if_pos h2, mul_zero, add_zero, e]
    · simp only [if_neg h1, if_neg h2, mul_zero, add_zero, mul_one]

/-- The rotation of a row given head by head. -/
theorem rope_head (y : Row) (cos sin : Fin 8 → EReal) (h : Fin 16) (e : Fin 64) :
    (if h1 : e.val < 8 then
        y ⟨64 * h.val + e.val, by omega⟩ * cos ⟨e.val, h1⟩ - y ⟨64 * h.val + (8 + e.val), by omega⟩ * sin ⟨e.val, h1⟩
      else if h2 : e.val - 8 < 8 then
        y ⟨64 * h.val + (8 + (e.val - 8)), by omega⟩ * cos ⟨e.val - 8, h2⟩
          + y ⟨64 * h.val + (e.val - 8), by omega⟩ * sin ⟨e.val - 8, h2⟩
      else y ⟨64 * h.val + (16 + (e.val - 8 - 8)), by omega⟩)
      = rope y cos sin ⟨64 * h.val + e.val, by omega⟩ := by
  unfold rope
  have e64 : (64 * h.val + e.val) % 64 = e.val := by omega
  simp only [e64]
  by_cases h1 : e.val < 8
  · have a : (64 * h.val + e.val) % 8 = e.val := by omega
    have b : (64 * h.val + e.val + 8) % 1024 = 64 * h.val + (8 + e.val) := by omega
    simp only [dif_pos h1, if_pos h1, a, b]
  · by_cases h2 : e.val < 16
    · have h3 : e.val - 8 < 8 := by omega
      have a : (64 * h.val + e.val) % 8 = e.val - 8 := by omega
      have b : 64 * h.val + (8 + (e.val - 8)) = 64 * h.val + e.val := by omega
      have c : 64 * h.val + (e.val - 8) = 64 * h.val + e.val - 8 := by omega
      simp only [dif_neg h1, if_neg h1, dif_pos h3, if_pos h2, a, b, c]
    · have h3 : ¬ e.val - 8 < 8 := by omega
      have b : 64 * h.val + (16 + (e.val - 8 - 8)) = 64 * h.val + e.val := by omega
      simp only [dif_neg h1, if_neg h1, dif_neg h3, if_neg h2, b]

/-- Equal tables give equal rotations. -/
theorem lanes_congr {y y' : Row} {c c' b b' a a' : Fin 128 → EReal} (hy : ∀ d, y d = y' d) (hc : ∀ l, c l = c' l)
    (hb : ∀ l, b l = b' l) (ha : ∀ l, a l = a' l) (d : Fin 1024) : lanes y c b a d = lanes y' c' b' a' d := by
  rw [funext hy, funext hc, funext hb, funext ha]

end Cert.Proj
end
-- ==== Proof.Proj1ReferenceValue.lean ====
module
public import proofs.«01_k».proof.Proof.Gen.Proj1ReferenceIdeal.Read
public import proofs.«01_k».proof.Proof.ProjSpec
public import Idealize.ShloMosaic.Lib.Pipeline.ValueKit
public import Idealize.ShloMosaic.Lib.Pointwise

/-! # The reference of the projection with dilation 1, read at an index -/

@[expose] public section

set_option maxRecDepth 16384

noncomputable section

open Idealize.ShloMosaic Idealize.ShloMosaic.TcCoe Idealize.SL.Sem

namespace Cert.Proj1ReferenceIdeal.Hand

open Cert.Proj1ReferenceIdeal Cert.Proj1ReferenceIdeal.Gen Cert.Proj1ReferenceIdeal.Read Cert.Ffn Cert.Proj

variable (x0 : Vec Ideal S8x2048x1024 .f32) (x1 x2 : Vec Ideal S8x2048x1x8 .f32) (x3 : Vec Ideal S1024 .f32)
  (x4 : Vec Ideal S1024x3072 .f32)

/-- The normalised row. -/
abbrev row (b : Fin 8) (s : Fin 2048) : Row := rms (fun k => x0 (ix3 b s k)) (fun e => x3 (ix1 e))

theorem row_at (b : Fin 8) (s : Fin 2048) (d : Fin 1024) : val_main_v12 x0 x3 (ix3 b s d) = row x0 x3 b s d := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem proj_at (b : Fin 8) (s : Fin 2048) (j : Fin 3) (h : Fin 16) (e : Fin 64) :
    val_main_v14 x0 x3 x4 (ix5 b s j h e) = lin j (row x0 x3 b s) (fun k e => x4 (ix2 k e)) ⟨64 * h.val + e.val, by omega⟩ := by
  pointwise [val_main_v14, val_main_v13]
  simp only [row_at]
  unfold lin
  refine Finset.sum_congr rfl fun k _ => congrArg (fun i => row x0 x3 b s k * x4 (ix2 k i)) (Fin.ext ?_)
  change j.val * 1024 + h.val * 64 + e.val = 1024 * j.val + (64 * h.val + e.val)
  omega

theorem rotq_at (b : Fin 8) (s : Fin 2048) (h : Fin 16) (e : Fin 64) :
    val_main_v30 x0 x1 x2 x3 x4 (ix4 b s h e) = rope (lin 0 (row x0 x3 b s) (fun k e => x4 (ix2 k e)))
      (fun i => x1 (ix4 b s 0 i)) (fun i => x2 (ix4 b s 0 i)) ⟨64 * h.val + e.val, by omega⟩ := by
  pointwise [val_main_v30, val_main_v29, val_main_v28, val_main_v27, val_main_v26, val_main_v25, val_main_v24,
    val_main_v23, val_main_v22, val_main_v21, val_main_v20, val_main_v19, val_main_v18, val_main_v17, val_main_v16, val_main_v15]
  simp only [proj_at]
  exact rope_head _ (fun i => x1 (ix4 b s 0 i)) (fun i => x2 (ix4 b s 0 i)) h e

theorem rotk_at (b : Fin 8) (s : Fin 2048) (h : Fin 16) (e : Fin 64) :
    val_main_v48 x0 x1 x2 x3 x4 (ix4 b s h e) = rope (lin 1 (row x0 x3 b s) (fun k e => x4 (ix2 k e)))
      (fun i => x1 (ix4 b s 0 i)) (fun i => x2 (ix4 b s 0 i)) ⟨64 * h.val + e.val, by omega⟩ := by
  pointwise [val_main_v48, val_main_v47, val_main_v46, val_main_v45, val_main_v44, val_main_v43, val_main_v42,
    val_main_v41, val_main_v40, val_main_v39, val_main_v38, val_main_v37, val_main_v36, val_main_v35, val_main_v34, val_main_v33]
  simp only [proj_at]
  exact rope_head _ (fun i => x1 (ix4 b s 0 i)) (fun i => x2 (ix4 b s 0 i)) h e

/-- The heads side by side, the positions sorted by class: entry `s` of class `c` is position `1 s + c`. -/
theorem class_at (z : Vec Ideal S8x2048x16x64 .f32) (b : Fin 8) (c : Fin 1) (s : Fin 2048) (d : Fin 1024) :
    truncf (F := Ideal) .bf16 (shapeCast S8x1x2048x1024 (shapeCast S8x2048x16x64 (transpose S8x1x2048x16x64 [0, 2, 1, 3, 4]
      (shapeCast S8x2048x1x16x64 z shapeCasts_S8x2048x16x64_S8x2048x1x16x64) transposes_S8x2048x1x16x64_S8x1x2048x16x64_0_2_1_3_4)
      shapeCasts_S8x1x2048x16x64_S8x2048x16x64) shapeCasts_S8x2048x16x64_S8x1x2048x1024) bitsLt_bf16_f32 (ix4 b c s d)
      = z (ix4 b ⟨s.val * 1 + c.val, by omega⟩ ⟨d.val / 64, by omega⟩ ⟨d.val % 64, by omega⟩) := by
  pointwise []

theorem scaled_at (i : S8x2048x16x64.Idx) :
    val_main_v32 x0 x1 x2 x3 x4 i = val_main_v30 x0 x1 x2 x3 x4 i * Ideal.ofBits FTy.f32 1043900987#32 := by
  unfold val_main_v32 val_main_v31 val_main_cst_2
  pointwise []

theorem heads_at (b : Fin 8) (s : Fin 2048) (h : Fin 16) (e : Fin 64) :
    val_main_v50 x0 x3 x4 (ix4 b s h e) = val_main_v14 x0 x3 x4 (ix5 b s 2 h e) := by
  unfold val_main_v50 val_main_v49
  pointwise []

/-- The queries. -/
theorem q_at (b : Fin 8) (c : Fin 1) (s : Fin 2048) (d : Fin 1024) :
    val_main_v55 x0 x1 x2 x3 x4 (ix4 b c s d) = rope (lin 0 (row x0 x3 b ⟨s.val * 1 + c.val, by omega⟩) (fun k e => x4 (ix2 k e)))
      (fun i => x1 (ix4 b ⟨s.val * 1 + c.val, by omega⟩ 0 i)) (fun i => x2 (ix4 b ⟨s.val * 1 + c.val, by omega⟩ 0 i)) d
      * Ideal.ofBits FTy.f32 1043900987#32 := by
  have e : (⟨64 * (d.val / 64) + d.val % 64, by omega⟩ : Fin 1024) = d := Fin.ext (by dsimp only; omega)
  refine (class_at (val_main_v32 x0 x1 x2 x3 x4) b c s d).trans ?_
  rw [scaled_at, rotq_at]
  simp only [e]

/-- The keys. -/
theorem k_at (b : Fin 8) (c : Fin 1) (s : Fin 2048) (d : Fin 1024) :
    val_main_v60 x0 x1 x2 x3 x4 (ix4 b c s d) = rope (lin 1 (row x0 x3 b ⟨s.val * 1 + c.val, by omega⟩) (fun k e => x4 (ix2 k e)))
      (fun i => x1 (ix4 b ⟨s.val * 1 + c.val, by omega⟩ 0 i)) (fun i => x2 (ix4 b ⟨s.val * 1 + c.val, by omega⟩ 0 i)) d := by
  have e : (⟨64 * (d.val / 64) + d.val % 64, by omega⟩ : Fin 1024) = d := Fin.ext (by dsimp only; omega)
  refine (class_at (val_main_v48 x0 x1 x2 x3 x4) b c s d).trans ?_
  rw [rotk_at]
  simp only [e]

/-- The values. -/
theorem v_at (b : Fin 8) (c : Fin 1) (s : Fin 2048) (d : Fin 1024) :
    val_main_v65 x0 x3 x4 (ix4 b c s d)
      = lin 2 (row x0 x3 b ⟨s.val * 1 + c.val, by omega⟩) (fun k e => x4 (ix2 k e)) d := by
  have e : (⟨64 * (d.val / 64) + d.val % 64, by omega⟩ : Fin 1024) = d := Fin.ext (by dsimp only; omega)
  refine (class_at (val_main_v50 x0 x3 x4) b c s d).trans ?_
  rw [heads_at, proj_at]
  simp only [e]

end Cert.Proj1ReferenceIdeal.Hand
end
-- ==== Proof.Proj1KernelValue.lean ====
module
public import proofs.«01_k».proof.Proof.Gen.Proj1KernelIdeal.Frame
public import proofs.«01_k».proof.Proof.ProjSpec
public import Idealize.ShloMosaic.Lib.Pipeline.ValueKit
public import Idealize.ShloMosaic.Lib.Pointwise
public import Idealize.ShloMosaic.Lib.StableHlo.ReadAt

/-! # The projection with dilation 1, as the kernel's block computes it, and the three arrays it writes -/

@[expose] public section

set_option maxRecDepth 16384

noncomputable section

open Idealize.ShloMosaic Idealize.ShloMosaic.TcCoe Idealize.SL.Sem

namespace Cert.Proj1KernelIdeal.Hand

open Cert.Proj1KernelIdeal Cert.Proj1KernelIdeal.Gen Cert.Ffn Cert.Proj

/-! ## The payloads at an index -/

section Payloads

variable (a : FVec Ideal S512x1024 .bf16) (w : FVec Ideal S1024x3072 .bf16) (C B A : FVec Ideal S512x128 .f32)
variable (v0 : Vec Ideal S1x512x1024 .f32) (v2 v4 v6 : Vec Ideal S1x512x128 .f32) (v8 : Vec Ideal S1x1024 .f32)
  (v23 : Vec Ideal S1024x3072 .bf16)

theorem row_at (s : Fin 512) (k : Fin 1024) :
    k0_pay5 v0 v8 (ix2 s k) = rms (fun k => v0 (ix3 0 s k)) (fun e => v8 (ix2 0 e)) k := by
  pointwise [k0_pay5]
  rfl

theorem w_at (k : Fin 1024) (e : Fin 3072) : k0_pay6 v23 (ix2 k e) = v23 (ix2 k e) := by
  pointwise [k0_pay6]

theorem tab2_at (s : Fin 512) (l : Fin 128) : k0_pay2 v2 (ix2 s l) = v2 (ix3 0 s l) := by
  pointwise [k0_pay2]

theorem tab3_at (s : Fin 512) (l : Fin 128) : k0_pay3 v4 (ix2 s l) = v4 (ix3 0 s l) := by
  pointwise [k0_pay3]

theorem tab4_at (s : Fin 512) (l : Fin 128) : k0_pay4 v6 (ix2 s l) = v6 (ix3 0 s l) := by
  pointwise [k0_pay4]

theorem lin_q_at (s : Fin 512) (d : Fin 1024) :
    k0_pay7 v0 v8 v23 (ix2 s d) = lin 0 (fun k => k0_pay5 v0 v8 (ix2 s k)) (fun k e => k0_pay6 v23 (ix2 k e)) d := by
  pointwise [k0_pay7]
  unfold lin
  refine Finset.sum_congr rfl fun k _ => congrArg (fun i => k0_pay5 v0 v8 (ix2 s k) * k0_pay6 v23 (ix2 k i)) (Fin.ext ?_)
  simp

theorem lin_k_at (s : Fin 512) (d : Fin 1024) :
    k0_pay18 a w (ix2 s d) = lin 1 (fun k => a (ix2 s k)) (fun k e => w (ix2 k e)) d := by
  pointwise [k0_pay18]
  unfold lin
  exact Finset.sum_congr rfl fun k _ => congrArg (fun i => a (ix2 s k) * w (ix2 k i)) (Fin.ext rfl)

theorem lin_v_at (s : Fin 512) (d : Fin 1024) :
    k0_pay1 (k0_pay28 a w) (ix4 0 0 s d) = lin 2 (fun k => a (ix2 s k)) (fun k e => w (ix2 k e)) d := by
  pointwise [k0_pay1, k0_pay28]
  unfold lin
  exact Finset.sum_congr rfl fun k _ => congrArg (fun i => a (ix2 s k) * w (ix2 k i)) (Fin.ext rfl)

/-- Three products at the right places of a row are the rotation at one of them. -/
theorem lanes_of (y : Row) (c b a : Fin 128 → EReal) (d i j k : Fin 1024) (l : Fin 128) (hi : i.val = d.val)
    (hj : j.val = 128 * (d.val / 128) + (d.val % 128 + 120) % 128) (hk : k.val = 128 * (d.val / 128) + (d.val % 128 + 8) % 128)
    (hl : l.val = d.val % 128) : y i * c l + y j * b l + y k * a l = lanes y c b a d := by
  obtain rfl : i = d := Fin.ext hi
  unfold lanes
  rw [← Fin.ext (b := ⟨_, _⟩) hj, ← Fin.ext (b := ⟨_, _⟩) hk, ← Fin.ext (b := ⟨_, _⟩) hl]

set_option maxHeartbeats 2000000 in
theorem rot_q_at (s : Fin 512) (d : Fin 1024) :
    k0_pay26 (k0_pay17 (k0_pay2 v2) (k0_pay3 v4) (k0_pay4 v6) (k0_pay8 v0 v2 v4 v6 v8 v23)
      (k0_pay10 (k0_pay2 v2) (k0_pay3 v4) (k0_pay4 v6) (k0_pay9 v0 v8 v23))
      (k0_pay11 (k0_pay2 v2) (k0_pay3 v4) (k0_pay4 v6) (k0_pay7 v0 v8 v23))
      (k0_pay12 (k0_pay2 v2) (k0_pay3 v4) (k0_pay4 v6) (k0_pay7 v0 v8 v23))
      (k0_pay13 (k0_pay2 v2) (k0_pay3 v4) (k0_pay4 v6) (k0_pay7 v0 v8 v23))
      (k0_pay14 (k0_pay2 v2) (k0_pay3 v4) (k0_pay4 v6) (k0_pay7 v0 v8 v23))
      (k0_pay15 (k0_pay2 v2) (k0_pay3 v4) (k0_pay4 v6) (k0_pay7 v0 v8 v23))
      (k0_pay16 (k0_pay7 v0 v8 v23))) (ix4 0 0 s d)
      = lanes (fun d => k0_pay7 v0 v8 v23 (ix2 s d)) (fun l => k0_pay2 v2 (ix2 s l)) (fun l => k0_pay3 v4 (ix2 s l))
        (fun l => k0_pay4 v6 (ix2 s l)) d * Ideal.ofBits FTy.f32 1043900987#32 := by
  pointwise [k0_pay26, k0_pay17, k0_pay16, k0_pay15, k0_pay14, k0_pay13, k0_pay12, k0_pay11, k0_pay10, k0_pay9, k0_pay8]
  refine congrArg (· * Ideal.ofBits FTy.f32 1043900987#32) ?_
  split_ifs
  all_goals
    refine lanes_of (fun d => k0_pay7 v0 v8 v23 (ix2 s d)) (fun l => k0_pay2 v2 (ix2 s l)) (fun l => k0_pay3 v4 (ix2 s l))
      (fun l => k0_pay4 v6 (ix2 s l)) d _ _ _ _ ?_ ?_ ?_ ?_
    all_goals first | rfl | (dsimp only; omega)

set_option maxHeartbeats 2000000 in
theorem rot_k_at (s : Fin 512) (d : Fin 1024) :
    k0_pay27 C B A (k0_pay18 a w) (k0_pay19 C B A a w) (k0_pay20 C B A a w) (k0_pay21 C B A a w) (k0_pay22 C B A a w)
      (k0_pay23 a w) (k0_pay24 C a w) (k0_pay25 a w) (ix4 0 0 s d)
      = lanes (fun d => k0_pay18 a w (ix2 s d)) (fun l => C (ix2 s l)) (fun l => B (ix2 s l)) (fun l => A (ix2 s l)) d := by
  pointwise [k0_pay27, k0_pay25, k0_pay24, k0_pay23, k0_pay22, k0_pay21, k0_pay20, k0_pay19]
  split_ifs
  all_goals
    refine lanes_of (fun d => k0_pay18 a w (ix2 s d)) (fun l => C (ix2 s l)) (fun l => B (ix2 s l)) (fun l => A (ix2 s l)) d
      _ _ _ _ ?_ ?_ ?_ ?_
    all_goals first | rfl | (dsimp only; omega)

end Payloads

/-! ## The blocks, and what the arrays they come from hold -/

theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![0, 0] ∧ win0_5.index t = ![0, 0] ∧ win0_6.index t = ![t.val / 4, 0, t.val % 4, 0]
    ∧ win0_7.index t = ![t.val / 4, 0, t.val % 4, 0] ∧ win0_8.index t = ![t.val / 4, 0, t.val % 4, 0] :=
  (by decide +kernel : ∀ t : Fin grid0.N, _)

variable (m : (ℓ : Loc nD τ sig) → Buf (Elt Ideal) ℓ)

theorem V4 (c : Dev nD) (b : Fin 8) (s : Fin 2048) (l : Fin 128) :
    V m c main_v4 (ix3 b s l) = tabC (fun i => m ((c : Thread nD τ).loc main_arg1) (ix4 b s 0 i)) l := by
  have hl := l.isLt
  unfold V
  after_reads_at
  unfold tabC
  split_ifs
  all_goals first | omega | skip
  all_goals after_reads_at
  all_goals repeat' split
  all_goals first
    | (exfalso; omega)
    | rfl
    | exact congrArg (fun i => m ((c : Thread nD τ).loc main_arg1) (ix4 b s 0 i)) (Fin.ext (by dsimp only; omega))

theorem V6 (c : Dev nD) (b : Fin 8) (s : Fin 2048) (l : Fin 128) :
    V m c main_v6 (ix3 b s l) = tabB (fun i => m ((c : Thread nD τ).loc main_arg2) (ix4 b s 0 i)) l := by
  have hl := l.isLt
  unfold V
  after_reads_at
  unfold tabB
  split_ifs
  all_goals first | omega | skip
  all_goals after_reads_at
  all_goals repeat' split
  all_goals first
    | (exfalso; omega)
    | rfl
    | exact congrArg (fun i => m ((c : Thread nD τ).loc main_arg2) (ix4 b s 0 i)) (Fin.ext (by dsimp only; omega))

theorem V9 (c : Dev nD) (b : Fin 8) (s : Fin 2048) (l : Fin 128) :
    V m c main_v9 (ix3 b s l) = tabA (fun i => m ((c : Thread nD τ).loc main_arg2) (ix4 b s 0 i)) l := by
  have hl := l.isLt
  unfold V
  after_reads_at
  unfold tabA
  split_ifs
  all_goals first | omega | skip
  all_goals after_reads_at
  all_goals repeat' split
  all_goals first
    | (exfalso; omega)
    | rfl
    | exact congrArg (fun x : EReal => -x) (congrArg (fun i => m ((c : Thread nD τ).loc main_arg2) (ix4 b s 0 i))
        (Fin.ext (by dsimp only; omega)))

theorem V10 (c : Dev nD) (e : Fin 1024) : V m c main_v10 (ix2 0 e) = m ((c : Thread nD τ).loc main_arg3) (ix1 e) := by
  unfold V
  after_reads_at

theorem V11 (c : Dev nD) (k : Fin 1024) (e : Fin 3072) : V m c main_v11 (ix2 k e) = m ((c : Thread nD τ).loc main_arg4) (ix2 k e) := by
  unfold V
  after_reads_at

/-- The normalised row at one position of the sequence. -/
def arow (c : Dev nD) (b : Fin 8) (s : Fin 2048) : Row :=
  rms (fun k => m ((c : Thread nD τ).loc main_arg0) (ix3 b s k)) (fun e => m ((c : Thread nD τ).loc main_arg3) (ix1 e))

/-- A third of the projection at one position. -/
def proj (c : Dev nD) (o : Fin 3) (b : Fin 8) (s : Fin 2048) : Row :=
  lin o (arow m c b s) (fun k e => m ((c : Thread nD τ).loc main_arg4) (ix2 k e))

/-- A third of the projection, rotated. -/
def rotated (c : Dev nD) (o : Fin 3) (b : Fin 8) (s : Fin 2048) : Row :=
  rope (proj m c o b s) (fun i => m ((c : Thread nD τ).loc main_arg1) (ix4 b s 0 i))
    (fun i => m ((c : Thread nD τ).loc main_arg2) (ix4 b s 0 i))

section Blocks

variable (c : Dev nD) (t : Fin cfg0.N) (s : Fin 512) (hb : t.val / 4 < 8) (hs : 512 * (t.val % 4) + s.val < 2048)
include hb hs

theorem row_eq : (fun k => k0_pay5 (iblk m c 0 t) (iblk m c 4 t) (ix2 s k))
    = arow m c ⟨t.val / 4, hb⟩ ⟨512 * (t.val % 4) + s.val, hs⟩ := by
  funext k
  refine (row_at _ _ s k).trans ?_
  have e0 : ∀ k, iblk m c 0 t (ix3 0 s k) = m ((c : Thread nD τ).loc main_arg0) (ix3 ⟨t.val / 4, hb⟩ ⟨512 * (t.val % 4) + s.val, hs⟩ k) := fun k =>
    (show _ = V m c main_arg0 (ix3 ⟨t.val / 4, hb⟩ ⟨512 * (t.val % 4) + s.val, hs⟩ k) by blk_point [iblk, idx t]).trans
      (congrFun (V_main_arg0 m c) _)
  have e4 : ∀ e, iblk m c 4 t (ix2 0 e) = m ((c : Thread nD τ).loc main_arg3) (ix1 e) := fun e =>
    (show _ = V m c main_v10 (ix2 0 e) by blk_point [iblk, idx t]).trans (V10 m c e)
  simp only [e0, e4]
  rfl

omit hb hs in
theorem w_eq : (fun k e => k0_pay6 (iblk m c 5 t) (ix2 k e)) = fun k e => m ((c : Thread nD τ).loc main_arg4) (ix2 k e) := by
  funext k e
  refine (w_at _ k e).trans ?_
  exact (show _ = V m c main_v11 (ix2 k e) by blk_point [iblk, idx t]).trans (V11 m c k e)

theorem tab_c (l : Fin 128) : k0_pay2 (iblk m c 1 t) (ix2 s l)
    = tabC (fun i => m ((c : Thread nD τ).loc main_arg1) (ix4 ⟨t.val / 4, hb⟩ ⟨512 * (t.val % 4) + s.val, hs⟩ 0 i)) l :=
  (tab2_at _ s l).trans ((show _ = V m c main_v4 (ix3 ⟨t.val / 4, hb⟩ ⟨512 * (t.val % 4) + s.val, hs⟩ l) by blk_point [iblk, idx t]).trans
    (V4 m c _ _ l))

theorem tab_b (l : Fin 128) : k0_pay3 (iblk m c 2 t) (ix2 s l)
    = tabB (fun i => m ((c : Thread nD τ).loc main_arg2) (ix4 ⟨t.val / 4, hb⟩ ⟨512 * (t.val % 4) + s.val, hs⟩ 0 i)) l :=
  (tab3_at _ s l).trans ((show _ = V m c main_v6 (ix3 ⟨t.val / 4, hb⟩ ⟨512 * (t.val % 4) + s.val, hs⟩ l) by blk_point [iblk, idx t]).trans
    (V6 m c _ _ l))

theorem tab_a (l : Fin 128) : k0_pay4 (iblk m c 3 t) (ix2 s l)
    = tabA (fun i => m ((c : Thread nD τ).loc main_arg2) (ix4 ⟨t.val / 4, hb⟩ ⟨512 * (t.val % 4) + s.val, hs⟩ 0 i)) l :=
  (tab4_at _ s l).trans ((show _ = V m c main_v9 (ix3 ⟨t.val / 4, hb⟩ ⟨512 * (t.val % 4) + s.val, hs⟩ l) by blk_point [iblk, idx t]).trans
    (V9 m c _ _ l))

theorem q_at (d : Fin 1024) : (outsAt0 m c t).1 (ix4 0 0 s d)
    = rotated m c 0 ⟨t.val / 4, hb⟩ ⟨512 * (t.val % 4) + s.val, hs⟩ d * Ideal.ofBits FTy.f32 1043900987#32 := by
  unfold outsAt0
  dsimp only
  frame_open
  frame_out
  refine (rot_q_at ..).trans (congrArg (· * Ideal.ofBits FTy.f32 1043900987#32) ?_)
  refine (lanes_congr (fun d => ?_) (tab_c m c t s hb hs) (tab_b m c t s hb hs) (tab_a m c t s hb hs) d).trans (lanes_eq_rope _ _ _ d)
  refine (lin_q_at _ _ _ s d).trans ?_
  rw [row_eq m c t s hb hs, w_eq]
  rfl

theorem k_at (d : Fin 1024) : (outsAt0 m c t).2.1 (ix4 0 0 s d)
    = rotated m c 1 ⟨t.val / 4, hb⟩ ⟨512 * (t.val % 4) + s.val, hs⟩ d := by
  unfold outsAt0
  dsimp only
  frame_open
  frame_out
  refine (rot_k_at ..).trans ?_
  refine (lanes_congr (fun d => ?_) (tab_c m c t s hb hs) (tab_b m c t s hb hs) (tab_a m c t s hb hs) d).trans (lanes_eq_rope _ _ _ d)
  refine (lin_k_at _ _ s d).trans ?_
  rw [row_eq m c t s hb hs, w_eq]
  rfl

theorem v_at (d : Fin 1024) : (outsAt0 m c t).2.2 (ix4 0 0 s d)
    = proj m c 2 ⟨t.val / 4, hb⟩ ⟨512 * (t.val % 4) + s.val, hs⟩ d := by
  unfold outsAt0
  dsimp only
  frame_open
  frame_out
  refine (lin_v_at _ _ s d).trans ?_
  rw [row_eq m c t s hb hs, w_eq]
  rfl

end Blocks

/-! ## The three arrays -/

/-- The queries. -/
def resultQ (c : Dev nD) : Vec Ideal S8x1x2048x1024 .bf16 := fun y =>
  rotated m c 0 (y 0) (y 2) (y 3) * Ideal.ofBits FTy.f32 1043900987#32

/-- The keys. -/
def resultK (c : Dev nD) : Vec Ideal S8x1x2048x1024 .bf16 := fun y => rotated m c 1 (y 0) (y 2) (y 3)

/-- The values. -/
def resultV (c : Dev nD) : Vec Ideal S8x1x2048x1024 .bf16 := fun y => proj m c 2 (y 0) (y 2) (y 3)

theorem finalQ (c : Dev nD) : (dats m 0 c).arrAt 6 (cfgs 0).N = resultQ m c := by
  refine (dats m 0 c).arrAt_eq_of_covers 6 _ (by decide +kernel) fun t _ y => ?_
  blk_simp
  rw [after0_6]
  obtain ⟨z, x, r, d, rfl⟩ : ∃ (z : Fin 1) (x : Fin 1) (r : Fin 512) (d : Fin 1024), y = ix4 z x r d :=
    ⟨y 0, y 1, y 2, y 3, funext fun a => match a with | ⟨0, _⟩ => rfl | ⟨1, _⟩ => rfl | ⟨2, _⟩ => rfl | ⟨3, _⟩ => rfl⟩
  obtain rfl : z = 0 := Subsingleton.elim _ _
  obtain rfl : x = 0 := Subsingleton.elim _ _
  have ht : t.val < 32 := t.isLt
  refine (q_at m c t r (by omega) (by omega) d).trans ?_
  refine congrArg (resultQ m c) (a₁ := ix4 ⟨t.val / 4, by omega⟩ 0 ⟨512 * (t.val % 4) + r.val, by omega⟩ d) ?_
  blk_ext [idx t]

theorem finalK (c : Dev nD) : (dats m 0 c).arrAt 7 (cfgs 0).N = resultK m c := by
  refine (dats m 0 c).arrAt_eq_of_covers 7 _ (by decide +kernel) fun t _ y => ?_
  blk_simp
  rw [after0_7]
  obtain ⟨z, x, r, d, rfl⟩ : ∃ (z : Fin 1) (x : Fin 1) (r : Fin 512) (d : Fin 1024), y = ix4 z x r d :=
    ⟨y 0, y 1, y 2, y 3, funext fun a => match a with | ⟨0, _⟩ => rfl | ⟨1, _⟩ => rfl | ⟨2, _⟩ => rfl | ⟨3, _⟩ => rfl⟩
  obtain rfl : z = 0 := Subsingleton.elim _ _
  obtain rfl : x = 0 := Subsingleton.elim _ _
  have ht : t.val < 32 := t.isLt
  refine (k_at m c t r (by omega) (by omega) d).trans ?_
  refine congrArg (resultK m c) (a₁ := ix4 ⟨t.val / 4, by omega⟩ 0 ⟨512 * (t.val % 4) + r.val, by omega⟩ d) ?_
  blk_ext [idx t]

theorem finalV (c : Dev nD) : (dats m 0 c).arrAt 8 (cfgs 0).N = resultV m c := by
  refine (dats m 0 c).arrAt_eq_of_covers 8 _ (by decide +kernel) fun t _ y => ?_
  blk_simp
  rw [after0_8]
  obtain ⟨z, x, r, d, rfl⟩ : ∃ (z : Fin 1) (x : Fin 1) (r : Fin 512) (d : Fin 1024), y = ix4 z x r d :=
    ⟨y 0, y 1, y 2, y 3, funext fun a => match a with | ⟨0, _⟩ => rfl | ⟨1, _⟩ => rfl | ⟨2, _⟩ => rfl | ⟨3, _⟩ => rfl⟩
  obtain rfl : z = 0 := Subsingleton.elim _ _
  obtain rfl : x = 0 := Subsingleton.elim _ _
  have ht : t.val < 32 := t.isLt
  refine (v_at m c t r (by omega) (by omega) d).trans ?_
  refine congrArg (resultV m c) (a₁ := ix4 ⟨t.val / 4, by omega⟩ 0 ⟨512 * (t.val % 4) + r.val, by omega⟩ d) ?_
  blk_ext [idx t]

end Cert.Proj1KernelIdeal.Hand
end
-- ==== Proof.Dil.lean ====
module
public import proofs.«01_k».proof.Proof.Gen.DilFfnKernel.Frame
public import proofs.«01_k».proof.Proof.Gen.DilFfnKernelIdeal.Frame
public import proofs.«01_k».proof.Proof.Gen.DilFfnReferenceIdeal.Run
public import proofs.«01_k».proof.Proof.Gen.DilFfnReferenceIdeal.Read
public import proofs.«01_k».proof.Proof.Gen.Proj1Kernel.Frame
public import proofs.«01_k».proof.Proof.Gen.Proj1KernelIdeal.Frame
public import proofs.«01_k».proof.Proof.Gen.Proj1ReferenceIdeal.Run
public import proofs.«01_k».proof.Proof.Gen.Proj1ReferenceIdeal.Read
public import proofs.«01_k».proof.Proof.Gen.Proj4Kernel.Frame
public import proofs.«01_k».proof.Proof.Gen.Proj4KernelIdeal.Frame
public import proofs.«01_k».proof.Proof.Gen.Proj4ReferenceIdeal.Run
public import proofs.«01_k».proof.Proof.Gen.Proj4ReferenceIdeal.Read
public import proofs.«01_k».proof.Proof.Gen.Proj16Kernel.Frame
public import proofs.«01_k».proof.Proof.Gen.Proj16KernelIdeal.Frame
public import proofs.«01_k».proof.Proof.Gen.Proj16ReferenceIdeal.Run
public import proofs.«01_k».proof.Proof.Gen.Proj16ReferenceIdeal.Read
-- ==== Proof.FfnKernelValue.lean ====
module
public import proofs.«01_k».proof.Proof.Gen.FfnKernelIdeal.Frame
public import proofs.«01_k».proof.Proof.FfnSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnKernelIdeal.Hand

open Cert.FfnKernelIdeal Cert.FfnKernelIdeal.Gen Cert.Ffn

/-- The projection, normalised and added to the residual. -/
theorem mixed_at (P0 : Vec Ideal S1x512x1024 .f32) (P1 : Vec Ideal S1x512x1024 .bf16) (P2 : Vec Ideal S1024x1024 .bf16)
    (P3 : Vec Ideal S1x1024 .f32) (r : Fin 512) (d : Fin 1024) :
    k0_pay2 P0 P1 P2 P3 (ix2 r d) = mixed (fun k => P1 (ix3 0 r k)) (fun k e => P2 (ix2 k e)) (fun e => P3 (ix2 0 e))
      (fun e => P0 (ix3 0 r e)) d := by
  pointwise [k0_pay2]
  rfl

/-- The row the feed-forward reads. -/
theorem pre_at (P0 : Vec Ideal S1x512x1024 .f32) (P1 : Vec Ideal S1x512x1024 .bf16) (P2 : Vec Ideal S1024x1024 .bf16)
    (P3 P4 : Vec Ideal S1x1024 .f32) (r : Fin 512) (d : Fin 1024) :
    k0_pay3 P0 P1 P2 P3 P4 (ix2 r d) = rms (fun e => k0_pay2 P0 P1 P2 P3 (ix2 r e)) (fun e => P4 (ix2 0 e)) d := by
  pointwise [k0_pay3]
  rfl

/-- One tile over its weight blocks. -/
abbrev tileOf (a : FVec Ideal S512x1024 .bf16) (r : Fin 512) (g u : Vec Ideal S1024x256 .bf16) (w : Vec Ideal S256x1024 .bf16) : Row :=
  tile (fun k => a (ix2 r k)) (fun k x => g (ix2 k x)) (fun k x => u (ix2 k x)) (fun x e => w (ix2 x e))

/-- The eleven tiles, as the kernel adds them up. -/
theorem acc_at (a : FVec Ideal S512x1024 .bf16)
    (g0 u0 g1 u1 g2 u2 g3 u3 g4 u4 g5 u5 g6 u6 g7 u7 g8 u8 g9 u9 g10 u10 : Vec Ideal S1024x256 .bf16)
    (w0 w1 w2 w3 w4 w5 w6 w7 w8 w9 w10 : Vec Ideal S256x1024 .bf16) (r : Fin 512) (d : Fin 1024) :
    k0_pay19 a (k0_pay15 a (k0_pay11 a (k0_pay8 a (k0_pay6 a (k0_pay4 a g0 u0 w0) (k0_pay5 a g1 u1 w1) g2 u2 w2)
      (k0_pay7 a g3 u3) w3 g4 u4 w4) (k0_pay9 a u5) (k0_pay10 a g5) w5 g6 u6 w6) (k0_pay12 a g7) (k0_pay13 a u7)
      (k0_pay14 a g7) w7 g8 u8 w8) (k0_pay16 a g9) (k0_pay17 a u9) (k0_pay18 a g9) w9 g10 u10 w10 (ix2 r d)
    = tileOf a r g0 u0 w0 d + tileOf a r g1 u1 w1 d + tileOf a r g2 u2 w2 d + tileOf a r g3 u3 w3 d
      + tileOf a r g4 u4 w4 d + tileOf a r g5 u5 w5 d + tileOf a r g6 u6 w6 d + tileOf a r g7 u7 w7 d
      + tileOf a r g8 u8 w8 d + tileOf a r g9 u9 w9 d + tileOf a r g10 u10 w10 d := by
  pointwise [k0_pay19, k0_pay18, k0_pay17, k0_pay16, k0_pay15, k0_pay14, k0_pay13, k0_pay12, k0_pay11, k0_pay10,
    k0_pay9, k0_pay8, k0_pay7, k0_pay6, k0_pay5, k0_pay4]
  rfl

/-- The result row of a block, from the accumulated tiles. -/
theorem post_at (h : FVec Ideal S512x1024 .f32) (g : Vec Ideal S1x1024 .f32) (a : FVec Ideal S512x1024 .bf16)
    (p : FVec Ideal S512x1024 .f32) (x y z : FVec Ideal S512x256 .f32) (w9 : Vec Ideal S256x1024 .bf16)
    (g10 u10 : Vec Ideal S1024x256 .bf16) (w10 : Vec Ideal S256x1024 .bf16) (r : Fin 512) (d : Fin 1024) :
    k0_pay1 h (k0_pay19 a p x y z w9 g10 u10 w10) (k0_pay20 g) (k0_pay21 a p x y z w9 g10 u10 w10) (ix3 0 r d)
    = h (ix2 r d) + rms (fun e => k0_pay19 a p x y z w9 g10 u10 w10 (ix2 r e)) (fun e => g (ix2 0 e)) d := by
  pointwise [k0_pay1, k0_pay20, k0_pay21, k0_pay19]
  unfold rms
  pointwise [k0_pay19]

theorem idx : ∀ t : Fin cfg0.N, win0_0.index t = ![t.val / 4, t.val % 4, 0] ∧ win0_1.index t = ![0, 0]
    ∧ win0_2.index t = ![0, 0] ∧ win0_3.index t = ![t.val / 4, t.val % 4, 0] ∧ win0_4.index t = ![0, 0]
    ∧ win0_5.index t = ![0, 0] ∧ win0_6.index t = ![0, 0] ∧ win0_7.index t = ![0, 0]
    ∧ win0_8.index t = ![t.val / 4, t.val % 4, 0] :=
  (by decide +kernel : ∀ t : Fin grid0.N, _)

variable (m : (ℓ : Loc nD τ sig) → Buf (Elt Ideal) ℓ)

/-- The result of the call as a function of the arguments of the program. -/
def result (c : Dev nD) : Vec Ideal S8x2048x1024 .f32 := fun y =>
  ffn (mixed (fun k => m ((c : Thread nD τ).loc main_arg0) (ix3 (y 0) (y 1) k)) (fun k e => m ((c : Thread nD τ).loc main_arg1) (ix2 k e))
      (fun e => m ((c : Thread nD τ).loc main_arg2) (ix1 e)) (fun e => m ((c : Thread nD τ).loc main_arg3) (ix3 (y 0) (y 1) e)))
    (fun e => m ((c : Thread nD τ).loc main_arg4) (ix1 e)) (fun k e => m ((c : Thread nD τ).loc main_arg5) (ix2 k e))
    (fun f e => m ((c : Thread nD τ).loc main_arg6) (ix2 f e)) (fun e => m ((c : Thread nD τ).loc main_arg7) (ix1 e)) (y 2)

/-- The result block over the blocks of one grid point. -/
theorem out_at (x0 : Vec Ideal S1x512x1024 .bf16) (x1 : Vec Ideal S1024x1024 .bf16) (x2 : Vec Ideal S1x1024 .f32)
    (x3 : Vec Ideal S1x512x1024 .f32) (x4 : Vec Ideal S1x1024 .f32) (x5 : Vec Ideal S1024x5632 .bf16)
    (x6 : Vec Ideal S2816x1024 .bf16) (x7 : Vec Ideal S1x1024 .f32) (r : Fin 512) (d : Fin 1024) :
    out0_8 x0 x1 x2 x3 x4 x5 x6 x7 (ix3 0 r d)
    = ffn (mixed (fun k => x0 (ix3 0 r k)) (fun k e => x1 (ix2 k e)) (fun e => x2 (ix2 0 e)) (fun e => x3 (ix3 0 r e)))
      (fun e => x4 (ix2 0 e)) (fun k e => x5 (ix2 k e)) (fun f e => x6 (ix2 f e)) (fun e => x7 (ix2 0 e)) d := by
  unfold_out out0_8
  frame_out
  refine (post_at ..).trans ?_
  unfold ffn
  rw [mixed_at]
  have hp : (fun k => k0_pay3 x3 x0 x1 x2 x4 (ix2 r k)) = rms (mixed (fun k => x0 (ix3 0 r k)) (fun k e => x1 (ix2 k e))
      (fun e => x2 (ix2 0 e)) fun e => x3 (ix3 0 r e)) fun e => x4 (ix2 0 e) :=
    funext fun k => (pre_at ..).trans (by simp only [mixed_at])
  rw [← hp]
  refine congrArg₂ (· + ·) rfl (rms_congr (fun e => ?_) _ _)
  refine (acc_at ..).trans ?_
  rw [swiglu_eq_add]
  refine congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) ?_ ?_) ?_) ?_) ?_) ?_) ?_) ?_) ?_) ?_) ?_
  all_goals
    refine tile_eq_part _ _ _ _ _ _ _ _ (fun k x => ?_) (fun k x => ?_) (fun x k => ?_) <;> (pointwise; blk_ext [])

theorem final (c : Dev nD) : (dats m 0 c).arrAt 8 (cfgs 0).N = result m c := by
  refine (dats m 0 c).arrAt_eq_of_covers 8 _ (by decide +kernel) fun t _ y => ?_
  blk_simp
  rw [after0_8]
  obtain ⟨z, r, d, rfl⟩ : ∃ (z : Fin 1) (r : Fin 512) (d : Fin 1024), y = ix3 z r d :=
    ⟨y 0, y 1, y 2, funext fun a => match a with | ⟨0, _⟩ => rfl | ⟨1, _⟩ => rfl | ⟨2, _⟩ => rfl⟩
  obtain rfl : z = 0 := Subsingleton.elim _ _
  refine (out_at ..).trans ?_
  unfold result
  blk_point [iblk, V, idx t]

end Cert.FfnKernelIdeal.Hand
end
-- ==== Proof.FfnReferenceValue.lean ====
module
public import proofs.«01_k».proof.Proof.Gen.FfnReferenceIdeal.Read
public import proofs.«01_k».proof.Proof.FfnSpec
public import Idealize.ShloMosaic.Lib.Pipeline.ValueKit
public import Idealize.ShloMosaic.Lib.Pointwise

/-! # The reference, read at an index -/

@[expose] public section

set_option maxRecDepth 16384

noncomputable section

open Idealize.ShloMosaic Idealize.ShloMosaic.TcCoe Idealize.SL.Sem

namespace Cert.FfnReferenceIdeal.Hand

open Cert.FfnReferenceIdeal Cert.FfnReferenceIdeal.Gen Cert.FfnReferenceIdeal.Read Cert.Ffn

variable (x0 : Vec Ideal S8x2048x1024 .f32) (x1 : Vec Ideal S1024x1024 .f32) (x2 : Vec Ideal S1024 .f32)
  (x3 : Vec Ideal S8x2048x1024 .f32) (x4 : Vec Ideal S1024 .f32) (x5 : Vec Ideal S1024x5632 .f32)
  (x6 : Vec Ideal S2816x1024 .f32) (x7 : Vec Ideal S1024 .f32)

theorem mixed_at (b : Fin 8) (s : Fin 2048) (d : Fin 1024) :
    val_main_v14 x0 x1 x2 x3 (ix3 b s d) = mixed (fun k => x0 (ix3 b s k)) (fun k e => x1 (ix2 k e)) (fun e => x2 (ix1 e))
      (fun e => x3 (ix3 b s e)) d := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]
  rfl

theorem pre_at (b : Fin 8) (s : Fin 2048) (d : Fin 1024) :
    val_main_v27 x0 x1 x2 x3 x4 (ix3 b s d) = rms (fun e => val_main_v14 x0 x1 x2 x3 (ix3 b s e)) (fun e => x4 (ix1 e)) d := by
  pointwise [val_main_v27, val_main_v26, val_main_v25, val_main_v24, val_main_v23, val_main_v22, val_main_v21, val_main_v20,
    val_main_v19, val_main_v18, val_main_v17, val_main_v16, val_main_v15, val_main_cst_2, val_main_cst_3, val_main_cst_4]
  rfl

theorem swiglu_at (b : Fin 8) (s : Fin 2048) (d : Fin 1024) :
    val_main_v33 x0 x1 x2 x3 x4 x5 x6 (ix3 b s d) = swiglu (fun e => val_main_v27 x0 x1 x2 x3 x4 (ix3 b s e))
      (fun k e => x5 (ix2 k e)) (fun f e => x6 (ix2 f e)) d := by
  pointwise [val_main_v33, val_main_v32, val_main_v31, val_main_v30, val_main_call0_v0, val_main_call0_v1, val_main_call0_v2,
    val_main_call0_v3, val_main_call0_v4, val_main_call0_v5, val_main_call0_cst, val_main_call0_cst_0, val_main_v29, val_main_v28]
  unfold swiglu unit
  simp only [zero_sub]

theorem post_at (b : Fin 8) (s : Fin 2048) (d : Fin 1024) :
    val_main_v47 x0 x1 x2 x3 x4 x5 x6 x7 (ix3 b s d) = val_main_v14 x0 x1 x2 x3 (ix3 b s d)
      + rms (fun e => val_main_v33 x0 x1 x2 x3 x4 x5 x6 (ix3 b s e)) (fun e => x7 (ix1 e)) d := by
  pointwise [val_main_v47, val_main_v46, val_main_v45, val_main_v44, val_main_v43, val_main_v42, val_main_v41, val_main_v40,
    val_main_v39, val_main_v38, val_main_v37, val_main_v36, val_main_v35, val_main_v34, val_main_cst_5, val_main_cst_6, val_main_cst_7]
  rfl

/-- The reference's result is the block of `FfnSpec`. -/
theorem val_eq (b : Fin 8) (s : Fin 2048) (d : Fin 1024) :
    val_main_v47 x0 x1 x2 x3 x4 x5 x6 x7 (ix3 b s d)
    = ffn (mixed (fun k => x0 (ix3 b s k)) (fun k e => x1 (ix2 k e)) (fun e => x2 (ix1 e)) (fun e => x3 (ix3 b s e)))
      (fun e => x4 (ix1 e)) (fun k e => x5 (ix2 k e)) (fun f e => x6 (ix2 f e)) (fun e => x7 (ix1 e)) d := by
  rw [post_at]
  simp only [swiglu_at, pre_at, mixed_at]
  rfl

end Cert.FfnReferenceIdeal.Hand
end
-- ==== Proof.DilSpec.lean ====
module
public import proofs.«01_k».proof.Proof.FfnSpec

/-! # The dilated patterns' outputs, weighted by the softmax of their log-sum-exps -/

@[expose] public section

noncomputable section

namespace Cert.Dil

open Idealize.ShloMosaic Cert.Ffn

/-- The softmax weight of the score `x` among `a`, `b` and `c`. -/
def weight (x a b c : EReal) : EReal :=
  Ideal.div (Ideal.exp (x - max (max a b) c))
    (Ideal.exp (a - max (max a b) c) + Ideal.exp (b - max (max a b) c) + Ideal.exp (c - max (max a b) c))

/-- The row the output projection reads: every lane of head `d / 64` carries that head's three weights. -/
def comb (l0 l1 l2 : Fin 16 → EReal) (o0 o1 o2 : Row) : Row := fun d =>
  weight (l0 ⟨d.val / 64, by omega⟩) (l0 ⟨d.val / 64, by omega⟩) (l1 ⟨d.val / 64, by omega⟩) (l2 ⟨d.val / 64, by omega⟩) * o0 d
  + weight (l1 ⟨d.val / 64, by omega⟩) (l0 ⟨d.val / 64, by omega⟩) (l1 ⟨d.val / 64, by omega⟩) (l2 ⟨d.val / 64, by omega⟩) * o1 d
  + weight (l2 ⟨d.val / 64, by omega⟩) (l0 ⟨d.val / 64, by omega⟩) (l1 ⟨d.val / 64, by omega⟩) (l2 ⟨d.val / 64, by omega⟩) * o2 d

theorem exp_nonneg (x : EReal) : 0 ≤ Ideal.exp x := by
  induction x using EReal.rec with
  | bot => simp
  | top => simp
  | coe r => rw [Ideal.exp_coe]; exact_mod_cast (Real.exp_pos r).le

/-- Below its maximum a score's exponential is a real number. -/
theorem exp_sub_ne_top {x y : EReal} (h : x ≤ y) : Ideal.exp (x - y) ≠ ⊤ := by
  induction y using EReal.rec with
  | bot =>
    rw [le_bot_iff.1 h]
    simp
  | top =>
    rw [EReal.sub_top]
    simp
  | coe r =>
    induction x using EReal.rec with
    | bot => simp
    | top => simp at h
    | coe q => rw [← EReal.coe_sub, Ideal.exp_coe]; exact EReal.coe_ne_top _

/-- A weight is never `+∞`. -/
theorem weight_ne_top {x a b c : EReal} (h : x = a ∨ x = b ∨ x = c) : weight x a b c ≠ ⊤ := by
  have hx : x ≤ max (max a b) c := by
    rcases h with rfl | rfl | rfl
    · exact le_max_of_le_left (le_max_left _ _)
    · exact le_max_of_le_left (le_max_right _ _)
    · exact le_max_right _ _
  have ha : Ideal.exp (x - max (max a b) c) ≤ Ideal.exp (a - max (max a b) c) + Ideal.exp (b - max (max a b) c)
      + Ideal.exp (c - max (max a b) c) := by
    rcases h with rfl | rfl | rfl
    · exact le_add_of_le_of_nonneg (le_add_of_nonneg_right (exp_nonneg _)) (exp_nonneg _)
    · exact le_add_of_le_of_nonneg (le_add_of_nonneg_left (exp_nonneg _)) (exp_nonneg _)
    · exact le_add_of_nonneg_left (add_nonneg (exp_nonneg _) (exp_nonneg _))
  have ht := exp_sub_ne_top hx
  have h0 := exp_nonneg (x - max (max a b) c)
  unfold weight
  generalize Ideal.exp (x - max (max a b) c) = e at *
  generalize Ideal.exp (a - max (max a b) c) + Ideal.exp (b - max (max a b) c) + Ideal.exp (c - max (max a b) c) = s at *
  unfold Ideal.div
  by_cases hs : s = 0
  · subst hs
    rw [if_pos rfl, if_neg (not_lt.2 ha)]
    simp
  · rw [if_neg hs]
    lift e to ℝ using ⟨ht, fun hb => by simp [hb] at h0⟩
    induction s using EReal.rec with
    | bot => simp
    | top => simp
    | coe r => rw [← EReal.coe_inv, ← EReal.coe_mul]; exact EReal.coe_ne_top _

/-- A number split into itself and its own rounding error. -/
theorem add_sub_self {a : EReal} (h : a ≠ ⊤) : a + (a - a) = a := by
  induction a using EReal.rec with
  | bot => simp
  | top => exact absurd rfl h
  | coe r => rw [← EReal.coe_sub, sub_self, EReal.coe_zero, add_zero]

/-- The head of a lane, as the kernel computes it. -/
theorem head_word : ∀ d : Fin 1024, (BitVec.ofNat 32 d.val).sshiftRight 6 = BitVec.ofNat 32 (d.val / 64) := by
  decide +kernel

/-- Spreading the heads' weights over the lanes picks each lane's own. -/
theorem spread (f : Fin 128 → EReal) (d : Fin 1024) :
    ∑ k, f k * (if k.val = d.val / 64 then 1 else 0) = f ⟨d.val / 64, by omega⟩ := by
  rw [Finset.sum_eq_single (⟨d.val / 64, by omega⟩ : Fin 128)]
  · simp
  · intro k _ hk
    rw [if_neg fun h => hk (Fin.ext h), mul_zero]
  · intro h
    exact absurd (Finset.mem_univ _) h

end Cert.Dil
end
-- ==== Proof.DilPayload.lean ====
module
public import proofs.«01_k».proof.Proof.Gen.DilFfnKernelIdeal.Frame
public import proofs.«01_k».proof.Proof.DilSpec
public import Idealize.ShloMosaic.Lib.Pipeline.ValueKit
public import Idealize.ShloMosaic.Lib.Pointwise

/-! # The blocks of the dilated layer's second half, over the values the body reads -/

@[expose] public section

set_option maxRecDepth 16384

noncomputable section

open Idealize.ShloMosaic Idealize.ShloMosaic.TcCoe Idealize.SL.Sem

namespace Cert.DilFfnKernelIdeal.Hand

open Cert.DilFfnKernelIdeal Cert.DilFfnKernelIdeal.Gen Cert.Ffn Cert.Dil

/-- The matrix that spreads the heads over the lanes. -/
theorem spread_at (k : Fin 128) (d : Fin 1024) :
    k0_pay223 (F := Ideal) (ix2 k d) = if k.val = d.val / 64 then 1 else 0 := by
  pointwise [k0_pay223]
  have h : IntOp.shrsi ArithUnit.vector (BitVec.ofNat 32 d.val) 6#32 = BitVec.ofNat 32 (d.val / 64) := head_word d
  rw [h]
  unfold Scalar.select IntOp.cmpi
  have e : (BitVec.ofNat 32 (d.val / 64) = BitVec.ofNat 32 k.val) ↔ k.val = d.val / 64 := by
    rw [← BitVec.toNat_inj, BitVec.toNat_ofNat, BitVec.toNat_ofNat, Nat.mod_eq_of_lt (by omega), Nat.mod_eq_of_lt (by omega)]
    exact eq_comm
  by_cases hk : k.val = d.val / 64
  · simp [hk]
  · rw [if_neg hk]
    have hb : (BitVec.ofNat 32 (d.val / 64) == BitVec.ofNat 32 k.val) = false := beq_eq_false_iff_ne.2 fun h' => hk (e.1 h')
    simp [hb]

/-- A weight's two parts, each spread over the lanes, sum to the lane's weight. -/
theorem spread_sum (f : Fin 128 → EReal) (d : Fin 1024) (h : f ⟨d.val / 64, by omega⟩ ≠ ⊤) :
    ∑ k, f k * k0_pay223 (F := Ideal) (ix2 k d) + ∑ k, (f k - f k) * k0_pay223 (F := Ideal) (ix2 k d)
    = f ⟨d.val / 64, by omega⟩ := by
  simp only [spread_at]
  rw [spread f d, spread (fun k => f k - f k) d, add_sub_self h]

variable (u0 u1 : FVec Ideal S512x128 .f32) (u2 : Vec Ideal S1x512x128 .f32)

theorem wide0_at (r : Fin 512) (d : Fin 1024) :
    k0_pay224 u0 u1 u2 (ix2 r d) = (fun k : Fin 128 => weight (u0 (ix2 r k)) (u0 (ix2 r k)) (u1 (ix2 r k)) (u2 (ix3 0 r k)))
      ⟨d.val / 64, by omega⟩ := by
  pointwise [k0_pay224, k0_pay222, k0_pay221, k0_pay220, k0_pay219, k0_pay218, k0_pay217]
  exact spread_sum (fun k : Fin 128 => weight (u0 (ix2 r k)) (u0 (ix2 r k)) (u1 (ix2 r k)) (u2 (ix3 0 r k))) d
    (weight_ne_top (.inl rfl))

theorem wide1_at (r : Fin 512) (d : Fin 1024) :
    k0_pay225 u0 u1 u2 (ix2 r d) = (fun k : Fin 128 => weight (u1 (ix2 r k)) (u0 (ix2 r k)) (u1 (ix2 r k)) (u2 (ix3 0 r k)))
      ⟨d.val / 64, by omega⟩ := by
  pointwise [k0_pay225, k0_pay222, k0_pay221, k0_pay220, k0_pay219, k0_pay218, k0_pay217]
  exact spread_sum (fun k : Fin 128 => weight (u1 (ix2 r k)) (u0 (ix2 r k)) (u1 (ix2 r k)) (u2 (ix3 0 r k))) d
    (weight_ne_top (.inr (.inl rfl)))

theorem wide2_at (r : Fin 512) (d : Fin 1024) :
    k0_pay226 u0 u1 u2 (ix2 r d) = (fun k : Fin 128 => weight (u2 (ix3 0 r k)) (u0 (ix2 r k)) (u1 (ix2 r k)) (u2 (ix3 0 r k)))
      ⟨d.val / 64, by omega⟩ := by
  pointwise [k0_pay226, k0_pay222, k0_pay221, k0_pay220, k0_pay219, k0_pay218, k0_pay217]
  exact spread_sum (fun k : Fin 128 => weight (u2 (ix3 0 r k)) (u0 (ix2 r k)) (u1 (ix2 r k)) (u2 (ix3 0 r k))) d
    (weight_ne_top (.inr (.inr rfl)))

/-- Eight chunks of 128 lanes, side by side. -/
def slabs (w : Fin 8 → Vec Ideal S1x512x128 .f32) (r : Fin 512) : Row := fun d =>
  w ⟨d.val / 128, by omega⟩ (ix3 0 r ⟨d.val % 128, by omega⟩)

theorem slab_hit (w : Fin 8 → Vec Ideal S1x512x128 .f32) (r : Fin 512) (d : Fin 1024) (c : Fin 8) (l : Fin 128)
    (h : d.val = 128 * c.val + l.val) : w c (ix3 0 r l) = slabs w r d := by
  have hc : (⟨d.val / 128, by omega⟩ : Fin 8) = c := Fin.ext (by dsimp only; omega)
  have hl : (⟨d.val % 128, by omega⟩ : Fin 128) = l := Fin.ext (by dsimp only; omega)
  unfold slabs
  rw [hc, hl]

/-- The row of eight chunks, as the concatenation reads it. -/
def cat (A0 A1 A2 : FVec Ideal S512x1024 .f32) (p0 q0 t0 p1 q1 t1 p2 q2 t2 p3 q3 t3 p4 q4 t4 p5 q5 t5 p6 q6 t6 p7 q7 t7 : Vec Ideal S1x512x128 .f32) (r : Fin 512) (k : Fin 1024) : EReal :=
  if h0 : k.val < 128 then A0 (ix2 r k) * p0 (ix3 0 r ⟨k.val, h0⟩) + A1 (ix2 r k) * q0 (ix3 0 r ⟨k.val, h0⟩) + A2 (ix2 r k) * t0 (ix3 0 r ⟨k.val, h0⟩)
  else   if h1 : k.val - 128 < 128 then A0 (ix2 r ⟨128 + (k.val - 128), by omega⟩) * p1 (ix3 0 r ⟨k.val - 128, by omega⟩) + A1 (ix2 r ⟨128 + (k.val - 128), by omega⟩) * q1 (ix3 0 r ⟨k.val - 128, by omega⟩) + A2 (ix2 r ⟨128 + (k.val - 128), by omega⟩) * t1 (ix3 0 r ⟨k.val - 128, by omega⟩)
  else   if h2 : k.val - 128 - 128 < 128 then A0 (ix2 r ⟨256 + (k.val - 128 - 128), by omega⟩) * p2 (ix3 0 r ⟨k.val - 128 - 128, by omega⟩) + A1 (ix2 r ⟨256 + (k.val - 128 - 128), by omega⟩) * q2 (ix3 0 r ⟨k.val - 128 - 128, by omega⟩) + A2 (ix2 r ⟨256 + (k.val - 128 - 128), by omega⟩) * t2 (ix3 0 r ⟨k.val - 128 - 128, by omega⟩)
  else   if h3 : k.val - 128 - 128 - 128 < 128 then A0 (ix2 r ⟨384 + (k.val - 128 - 128 - 128), by omega⟩) * p3 (ix3 0 r ⟨k.val - 128 - 128 - 128, by omega⟩) + A1 (ix2 r ⟨384 + (k.val - 128 - 128 - 128), by omega⟩) * q3 (ix3 0 r ⟨k.val - 128 - 128 - 128, by omega⟩) + A2 (ix2 r ⟨384 + (k.val - 128 - 128 - 128), by omega⟩) * t3 (ix3 0 r ⟨k.val - 128 - 128 - 128, by omega⟩)
  else   if h4 : k.val - 128 - 128 - 128 - 128 < 128 then A0 (ix2 r ⟨512 + (k.val - 128 - 128 - 128 - 128), by omega⟩) * p4 (ix3 0 r ⟨k.val - 128 - 128 - 128 - 128, by omega⟩) + A1 (ix2 r ⟨512 + (k.val - 128 - 128 - 128 - 128), by omega⟩) * q4 (ix3 0 r ⟨k.val - 128 - 128 - 128 - 128, by omega⟩) + A2 (ix2 r ⟨512 + (k.val - 128 - 128 - 128 - 128), by omega⟩) * t4 (ix3 0 r ⟨k.val - 128 - 128 - 128 - 128, by omega⟩)
  else   if h5 : k.val - 128 - 128 - 128 - 128 - 128 < 128 then A0 (ix2 r ⟨640 + (k.val - 128 - 128 - 128 - 128 - 128), by omega⟩) * p5 (ix3 0 r ⟨k.val - 128 - 128 - 128 - 128 - 128, by omega⟩) + A1 (ix2 r ⟨640 + (k.val - 128 - 128 - 128 - 128 - 128), by omega⟩) * q5 (ix3 0 r ⟨k.val - 128 - 128 - 128 - 128 - 128, by omega⟩) + A2 (ix2 r ⟨640 + (k.val - 128 - 128 - 128 - 128 - 128), by omega⟩) * t5 (ix3 0 r ⟨k.val - 128 - 128 - 128 - 128 - 128, by omega⟩)
  else   if h6 : k.val - 128 - 128 - 128 - 128 - 128 - 128 < 128 then A0 (ix2 r ⟨768 + (k.val - 128 - 128 - 128 - 128 - 128 - 128), by omega⟩) * p6 (ix3 0 r ⟨k.val - 128 - 128 - 128 - 128 - 128 - 128, by omega⟩) + A1 (ix2 r ⟨768 + (k.val - 128 - 128 - 128 - 128 - 128 - 128), by omega⟩) * q6 (ix3 0 r ⟨k.val - 128 - 128 - 128 - 128 - 128 - 128, by omega⟩) + A2 (ix2 r ⟨768 + (k.val - 128 - 128 - 128 - 128 - 128 - 128), by omega⟩) * t6 (ix3 0 r ⟨k.val - 128 - 128 - 128 - 128 - 128 - 128, by omega⟩)
  else A0 (ix2 r ⟨896 + (k.val - 128 - 128 - 128 - 128 - 128 - 128 - 128), by omega⟩) * p7 (ix3 0 r ⟨k.val - 128 - 128 - 128 - 128 - 128 - 128 - 128, by omega⟩) + A1 (ix2 r ⟨896 + (k.val - 128 - 128 - 128 - 128 - 128 - 128 - 128), by omega⟩) * q7 (ix3 0 r ⟨k.val - 128 - 128 - 128 - 128 - 128 - 128 - 128, by omega⟩) + A2 (ix2 r ⟨896 + (k.val - 128 - 128 - 128 - 128 - 128 - 128 - 128), by omega⟩) * t7 (ix3 0 r ⟨k.val - 128 - 128 - 128 - 128 - 128 - 128 - 128, by omega⟩)

theorem cat_at (A0 A1 A2 : FVec Ideal S512x1024 .f32) (p0 q0 t0 p1 q1 t1 p2 q2 t2 p3 q3 t3 p4 q4 t4 p5 q5 t5 p6 q6 t6 p7 q7 t7 : Vec Ideal S1x512x128 .f32) (r : Fin 512) (k : Fin 1024) :
    cat A0 A1 A2 p0 q0 t0 p1 q1 t1 p2 q2 t2 p3 q3 t3 p4 q4 t4 p5 q5 t5 p6 q6 t6 p7 q7 t7 r k
    = A0 (ix2 r k) * slabs ![p0, p1, p2, p3, p4, p5, p6, p7] r k + A1 (ix2 r k) * slabs ![q0, q1, q2, q3, q4, q5, q6, q7] r k
      + A2 (ix2 r k) * slabs ![t0, t1, t2, t3, t4, t5, t6, t7] r k := by
  unfold cat
  split_ifs with h0 h1 h2 h3 h4 h5 h6
  · exact congrArg₂ (· + ·) (congrArg₂ (· + ·) (congrArg₂ (· * ·) (congrArg (fun j => A0 (ix2 r j)) (Fin.ext (by first | rfl | (dsimp only; omega))))
      (slab_hit ![p0, p1, p2, p3, p4, p5, p6, p7] r k 0 ⟨k.val, by omega⟩ (by show k.val = 128 * 0 + (k.val); omega)))
      (congrArg₂ (· * ·) (congrArg (fun j => A1 (ix2 r j)) (Fin.ext (by first | rfl | (dsimp only; omega))))
      (slab_hit ![q0, q1, q2, q3, q4, q5, q6, q7] r k 0 ⟨k.val, by omega⟩ (by show k.val = 128 * 0 + (k.val); omega)))) (congrArg₂ (· * ·) (congrArg (fun j => A2 (ix2 r j)) (Fin.ext (by first | rfl | (dsimp only; omega))))
      (slab_hit ![t0, t1, t2, t3, t4, t5, t6, t7] r k 0 ⟨k.val, by omega⟩ (by show k.val = 128 * 0 + (k.val); omega)))
  · exact congrArg₂ (· + ·) (congrArg₂ (· + ·) (congrArg₂ (· * ·) (congrArg (fun j => A0 (ix2 r j)) (Fin.ext (by first | rfl | (dsimp only; omega))))
      (slab_hit ![p0, p1, p2, p3, p4, p5, p6, p7] r k 1 ⟨k.val - 128, by omega⟩ (by show k.val = 128 * 1 + (k.val - 128); omega)))
      (congrArg₂ (· * ·) (congrArg (fun j => A1 (ix2 r j)) (Fin.ext (by first | rfl | (dsimp only; omega))))
      (slab_hit ![q0, q1, q2, q3, q4, q5, q6, q7] r k 1 ⟨k.val - 128, by omega⟩ (by show k.val = 128 * 1 + (k.val - 128); omega)))) (congrArg₂ (· * ·) (congrArg (fun j => A2 (ix2 r j)) (Fin.ext (by first | rfl | (dsimp only; omega))))
      (slab_hit ![t0, t1, t2, t3, t4, t5, t6, t7] r k 1 ⟨k.val - 128, by omega⟩ (by show k.val = 128 * 1 + (k.val - 128); omega)))
  · exact congrArg₂ (· + ·) (congrArg₂ (· + ·) (congrArg₂ (· * ·) (congrArg (fun j => A0 (ix2 r j)) (Fin.ext (by first | rfl | (dsimp only; omega))))
      (slab_hit ![p0, p1, p2, p3, p4, p5, p6, p7] r k 2 ⟨k.val - 128 - 128, by omega⟩ (by show k.val = 128 * 2 + (k.val - 128 - 128); omega)))
      (congrArg₂ (· * ·) (congrArg (fun j => A1 (ix2 r j)) (Fin.ext (by first | rfl | (dsimp only; omega))))
      (slab_hit ![q0, q1, q2, q3, q4, q5, q6, q7] r k 2 ⟨k.val - 128 - 128, by omega⟩ (by show k.val = 128 * 2 + (k.val - 128 - 128); omega)))) (congrArg₂ (· * ·) (congrArg (fun j => A2 (ix2 r j)) (Fin.ext (by first | rfl | (dsimp only; omega))))
      (slab_hit ![t0, t1, t2, t3, t4, t5, t6, t7] r k 2 ⟨k.val - 128 - 128, by omega⟩ (by show k.val = 128 * 2 + (k.val - 128 - 128); omega)))
  · exact congrArg₂ (· + ·) (congrArg₂ (· + ·) (congrArg₂ (· * ·) (congrArg (fun j => A0 (ix2 r j)) (Fin.ext (by first | rfl | (dsimp only; omega))))
      (slab_hit ![p0, p1, p2, p3, p4, p5, p6, p7] r k 3 ⟨k.val - 128 - 128 - 128, by omega⟩ (by show k.val = 128 * 3 + (k.val - 128 - 128 - 128); omega)))
      (congrArg₂ (· * ·) (congrArg (fun j => A1 (ix2 r j)) (Fin.ext (by first | rfl | (dsimp only; omega))))
      (slab_hit ![q0, q1, q2, q3, q4, q5, q6, q7] r k 3 ⟨k.val - 128 - 128 - 128, by omega⟩ (by show k.val = 128 * 3 + (k.val - 128 - 128 - 128); omega)))) (congrArg₂ (· * ·) (congrArg (fun j => A2 (ix2 r j)) (Fin.ext (by first | rfl | (dsimp only; omega))))
      (slab_hit ![t0, t1, t2, t3, t4, t5, t6, t7] r k 3 ⟨k.val - 128 - 128 - 128, by omega⟩ (by show k.val = 128 * 3 + (k.val - 128 - 128 - 128); omega)))
  · exact congrArg₂ (· + ·) (congrArg₂ (· + ·) (congrArg₂ (· * ·) (congrArg (fun j => A0 (ix2 r j)) (Fin.ext (by first | rfl | (dsimp only; omega))))
      (slab_hit ![p0, p1, p2, p3, p4, p5, p6, p7] r k 4 ⟨k.val - 128 - 128 - 128 - 128, by omega⟩ (by show k.val = 128 * 4 + (k.val - 128 - 128 - 128 - 128); omega)))
      (congrArg₂ (· * ·) (congrArg (fun j => A1 (ix2 r j)) (Fin.ext (by first | rfl | (dsimp only; omega))))
      (slab_hit ![q0, q1, q2, q3, q4, q5, q6, q7] r k 4 ⟨k.val - 128 - 128 - 128 - 128, by omega⟩ (by show k.val = 128 * 4 + (k.val - 128 - 128 - 128 - 128); omega)))) (congrArg₂ (· * ·) (congrArg (fun j => A2 (ix2 r j)) (Fin.ext (by first | rfl | (dsimp only; omega))))
      (slab_hit ![t0, t1, t2, t3, t4, t5, t6, t7] r k 4 ⟨k.val - 128 - 128 - 128 - 128, by omega⟩ (by show k.val = 128 * 4 + (k.val - 128 - 128 - 128 - 128); omega)))
  · exact congrArg₂ (· + ·) (congrArg₂ (· + ·) (congrArg₂ (· * ·) (congrArg (fun j => A0 (ix2 r j)) (Fin.ext (by first | rfl | (dsimp only; omega))))
      (slab_hit ![p0, p1, p2, p3, p4, p5, p6, p7] r k 5 ⟨k.val - 128 - 128 - 128 - 128 - 128, by omega⟩ (by show k.val = 128 * 5 + (k.val - 128 - 128 - 128 - 128 - 128); omega)))
      (congrArg₂ (· * ·) (congrArg (fun j => A1 (ix2 r j)) (Fin.ext (by first | rfl | (dsimp only; omega))))
      (slab_hit ![q0, q1, q2, q3, q4, q5, q6, q7] r k 5 ⟨k.val - 128 - 128 - 128 - 128 - 128, by omega⟩ (by show k.val = 128 * 5 + (k.val - 128 - 128 - 128 - 128 - 128); omega)))) (congrArg₂ (· * ·) (congrArg (fun j => A2 (ix2 r j)) (Fin.ext (by first | rfl | (dsimp only; omega))))
      (slab_hit ![t0, t1, t2, t3, t4, t5, t6, t7] r k 5 ⟨k.val - 128 - 128 - 128 - 128 - 128, by omega⟩ (by show k.val = 128 * 5 + (k.val - 128 - 128 - 128 - 128 - 128); omega)))
  · exact congrArg₂ (· + ·) (congrArg₂ (· + ·) (congrArg₂ (· * ·) (congrArg (fun j => A0 (ix2 r j)) (Fin.ext (by first | rfl | (dsimp only; omega))))
      (slab_hit ![p0, p1, p2, p3, p4, p5, p6, p7] r k 6 ⟨k.val - 128 - 128 - 128 - 128 - 128 - 128, by omega⟩ (by show k.val = 128 * 6 + (k.val - 128 - 128 - 128 - 128 - 128 - 128); omega)))
      (congrArg₂ (· * ·) (congrArg (fun j => A1 (ix2 r j)) (Fin.ext (by first | rfl | (dsimp only; omega))))
      (slab_hit ![q0, q1, q2, q3, q4, q5, q6, q7] r k 6 ⟨k.val - 128 - 128 - 128 - 128 - 128 - 128, by omega⟩ (by show k.val = 128 * 6 + (k.val - 128 - 128 - 128 - 128 - 128 - 128); omega)))) (congrArg₂ (· * ·) (congrArg (fun j => A2 (ix2 r j)) (Fin.ext (by first | rfl | (dsimp only; omega))))
      (slab_hit ![t0, t1, t2, t3, t4, t5, t6, t7] r k 6 ⟨k.val - 128 - 128 - 128 - 128 - 128 - 128, by omega⟩ (by show k.val = 128 * 6 + (k.val - 128 - 128 - 128 - 128 - 128 - 128); omega)))
  · exact congrArg₂ (· + ·) (congrArg₂ (· + ·) (congrArg₂ (· * ·) (congrArg (fun j => A0 (ix2 r j)) (Fin.ext (by first | rfl | (dsimp only; omega))))
      (slab_hit ![p0, p1, p2, p3, p4, p5, p6, p7] r k 7 ⟨k.val - 128 - 128 - 128 - 128 - 128 - 128 - 128, by omega⟩ (by show k.val = 128 * 7 + (k.val - 128 - 128 - 128 - 128 - 128 - 128 - 128); omega)))
      (congrArg₂ (· * ·) (congrArg (fun j => A1 (ix2 r j)) (Fin.ext (by first | rfl | (dsimp only; omega))))
      (slab_hit ![q0, q1, q2, q3, q4, q5, q6, q7] r k 7 ⟨k.val - 128 - 128 - 128 - 128 - 128 - 128 - 128, by omega⟩ (by show k.val = 128 * 7 + (k.val - 128 - 128 - 128 - 128 - 128 - 128 - 128); omega)))) (congrArg₂ (· * ·) (congrArg (fun j => A2 (ix2 r j)) (Fin.ext (by first | rfl | (dsimp only; omega))))
      (slab_hit ![t0, t1, t2, t3, t4, t5, t6, t7] r k 7 ⟨k.val - 128 - 128 - 128 - 128 - 128 - 128 - 128, by omega⟩ (by show k.val = 128 * 7 + (k.val - 128 - 128 - 128 - 128 - 128 - 128 - 128); omega)))

/-- The attention's row, projected, normalised and added to the residual. -/
theorem mixed_at (p0 q0 t0 p1 q1 t1 p2 q2 t2 p3 q3 t3 p4 q4 t4 p5 q5 t5 p6 q6 t6 p7 q7 t7 : Vec Ideal S1x512x128 .f32) (x : Vec Ideal S1x512x1024 .f32)
    (wo : Vec Ideal S1024x1024 .bf16) (g : Vec Ideal S1x1024 .f32) (r : Fin 512) (d : Fin 1024) :
    k0_pay242 (k0_pay229 (k0_pay225 u0 u1 u2) (k0_pay226 u0 u1 u2) (k0_pay227 u0 u1 u2) (k0_pay228 p0) q0 t0)
      (k0_pay230 (k0_pay224 u0 u1 u2) (k0_pay225 u0 u1 u2) (k0_pay226 u0 u1 u2) p1 q1 t1)
      (k0_pay233 (k0_pay231 (k0_pay224 u0 u1 u2) (k0_pay225 u0 u1 u2) p2 q2) (k0_pay232 (k0_pay226 u0 u1 u2)) t2)
      (k0_pay234 (k0_pay224 u0 u1 u2) (k0_pay225 u0 u1 u2) (k0_pay226 u0 u1 u2) p3 q3 t3)
      (k0_pay235 (k0_pay224 u0 u1 u2) (k0_pay225 u0 u1 u2) (k0_pay226 u0 u1 u2) p4 q4 t4)
      (k0_pay238 (k0_pay225 u0 u1 u2) (k0_pay226 u0 u1 u2) (k0_pay236 (k0_pay224 u0 u1 u2)) (k0_pay237 p5) q5 t5)
      (k0_pay239 (k0_pay224 u0 u1 u2) (k0_pay225 u0 u1 u2) (k0_pay226 u0 u1 u2) p6 q6 t6)
      (k0_pay240 (k0_pay224 u0 u1 u2) (k0_pay225 u0 u1 u2) p7 q7) (k0_pay241 (k0_pay226 u0 u1 u2)) t7 x wo g (ix2 r d)
    = mixed (cat (k0_pay224 u0 u1 u2) (k0_pay225 u0 u1 u2) (k0_pay226 u0 u1 u2) p0 q0 t0 p1 q1 t1 p2 q2 t2 p3 q3 t3 p4 q4 t4 p5 q5 t5 p6 q6 t6 p7 q7 t7 r)
      (fun k e => wo (ix2 k e)) (fun e => g (ix2 0 e)) (fun e => x (ix3 0 r e)) d := by
  pointwise [k0_pay242, k0_pay241, k0_pay240, k0_pay239, k0_pay238, k0_pay237, k0_pay236, k0_pay235, k0_pay234, k0_pay233,
    k0_pay232, k0_pay231, k0_pay230, k0_pay229, k0_pay228, k0_pay227]
  rfl

/-- The lanes of a block's row from the heads' scores and the chunks. -/
theorem cat_comb (p0 q0 t0 p1 q1 t1 p2 q2 t2 p3 q3 t3 p4 q4 t4 p5 q5 t5 p6 q6 t6 p7 q7 t7 : Vec Ideal S1x512x128 .f32) (r : Fin 512) :
    cat (k0_pay224 u0 u1 u2) (k0_pay225 u0 u1 u2) (k0_pay226 u0 u1 u2) p0 q0 t0 p1 q1 t1 p2 q2 t2 p3 q3 t3 p4 q4 t4 p5 q5 t5 p6 q6 t6 p7 q7 t7 r
    = comb (fun h => u0 (ix2 r ⟨h.val, by omega⟩)) (fun h => u1 (ix2 r ⟨h.val, by omega⟩))
      (fun h => u2 (ix3 0 r ⟨h.val, by omega⟩))
      (slabs ![p0, p1, p2, p3, p4, p5, p6, p7] r) (slabs ![q0, q1, q2, q3, q4, q5, q6, q7] r) (slabs ![t0, t1, t2, t3, t4, t5, t6, t7] r) := by
  funext k
  rw [cat_at, wide0_at, wide1_at, wide2_at]
  rfl

/-- The row the feed-forward reads. -/
theorem pre_at (b0 b1 b2 b3 b4 b5 b6 : FVec Ideal S512x128 .bf16) (y z : FVec Ideal S512x128 .f32) (t7 : Vec Ideal S1x512x128 .f32)
    (x : Vec Ideal S1x512x1024 .f32) (wo : Vec Ideal S1024x1024 .bf16) (g gp : Vec Ideal S1x1024 .f32) (r : Fin 512) (d : Fin 1024) :
    k0_pay243 b0 b1 b2 b3 b4 b5 b6 y z t7 x wo g gp (ix2 r d)
    = rms (fun e => k0_pay242 b0 b1 b2 b3 b4 b5 b6 y z t7 x wo g (ix2 r e)) (fun e => gp (ix2 0 e)) d := by
  pointwise [k0_pay243]
  rfl

/-- One tile over its weight blocks. -/
abbrev tileOf (a : FVec Ideal S512x1024 .bf16) (r : Fin 512) (g u : Vec Ideal S1024x256 .bf16) (w : Vec Ideal S256x1024 .bf16) : Row :=
  tile (fun k => a (ix2 r k)) (fun k x => g (ix2 k x)) (fun k x => u (ix2 k x)) (fun x e => w (ix2 x e))

/-- The eleven tiles, as the kernel adds them up. -/
theorem acc_at (a : FVec Ideal S512x1024 .bf16)
    (g0 u0 g1 u1 g2 u2 g3 u3 g4 u4 g5 u5 g6 u6 g7 u7 g8 u8 g9 u9 g10 u10 : Vec Ideal S1024x256 .bf16)
    (w0 w1 w2 w3 w4 w5 w6 w7 w8 w9 w10 : Vec Ideal S256x1024 .bf16) (r : Fin 512) (d : Fin 1024) :
    k0_pay259 a (k0_pay255 a (k0_pay251 a (k0_pay248 a (k0_pay246 a (k0_pay244 a g0 u0 w0) (k0_pay245 a g1 u1 w1) g2 u2 w2)
      (k0_pay247 a g3 u3) w3 g4 u4 w4) (k0_pay249 a u5) (k0_pay250 a g5) w5 g6 u6 w6) (k0_pay252 a g7) (k0_pay253 a u7)
      (k0_pay254 a g7) w7 g8 u8 w8) (k0_pay256 a g9) (k0_pay257 a u9) (k0_pay258 a g9) w9 g10 u10 w10 (ix2 r d)
    = tileOf a r g0 u0 w0 d + tileOf a r g1 u1 w1 d + tileOf a r g2 u2 w2 d + tileOf a r g3 u3 w3 d
      + tileOf a r g4 u4 w4 d + tileOf a r g5 u5 w5 d + tileOf a r g6 u6 w6 d + tileOf a r g7 u7 w7 d
      + tileOf a r g8 u8 w8 d + tileOf a r g9 u9 w9 d + tileOf a r g10 u10 w10 d := by
  pointwise [k0_pay259, k0_pay258, k0_pay257, k0_pay256, k0_pay255, k0_pay254, k0_pay253, k0_pay252, k0_pay251, k0_pay250,
    k0_pay249, k0_pay248, k0_pay247, k0_pay246, k0_pay245, k0_pay244]
  rfl

/-- The result row of a block, from the accumulated tiles. -/
theorem post_at (h : FVec Ideal S512x1024 .f32) (g : Vec Ideal S1x1024 .f32) (a : FVec Ideal S512x1024 .bf16)
    (p : FVec Ideal S512x1024 .f32) (x y z : FVec Ideal S512x256 .f32) (w9 : Vec Ideal S256x1024 .bf16)
    (g10 u10 : Vec Ideal S1024x256 .bf16) (w10 : Vec Ideal S256x1024 .bf16) (r : Fin 512) (d : Fin 1024) :
    k0_pay1 h (k0_pay259 a p x y z w9 g10 u10 w10) (k0_pay260 g) (k0_pay262 (k0_pay261 a p x y z w9 g10 u10 w10)) (ix3 0 r d)
    = h (ix2 r d) + rms (fun e => k0_pay259 a p x y z w9 g10 u10 w10 (ix2 r e)) (fun e => g (ix2 0 e)) d := by
  pointwise [k0_pay1, k0_pay260, k0_pay261, k0_pay262]
  rfl

end Cert.DilFfnKernelIdeal.Hand
end
-- ==== Proof.StrideRead.lean ====
module
public import Idealize.ShloMosaic.PureOps.Ideal.Laws
public import Idealize.ShloMosaic.Lib.Pipeline.ValueKit
public import Idealize.ShloMosaic.Lib.Pipeline.ReadBack
public import Idealize.ShloMosaic.Lib.Pointwise

/-! # Reading back a block that was stored one residue class of its rows at a time -/

@[expose] public section

noncomputable section

namespace Cert.Stride

open Idealize.ShloMosaic

/-- The last store covered the rows `≡ r` modulo `D`: such a row is read from it, another from the stores before. -/
theorem read_row {sig : RefSig} {κ : Kind} {sp : Space} {C D n c r : ℕ}
    (v : View sig κ sp ⟨3, ![C, 512, 128]⟩ .f32)
    (inb : ∀ a, (![1, n, 128] : Fin 3 → ℕ) a = 0
      ∨ (![c, r, 0] : Fin 3 → ℕ) a + (![1, D, 1] : Fin 3 → ℕ) a * ((![1, n, 128] : Fin 3 → ℕ) a - 1) < (![C, 512, 128] : Fin 3 → ℕ) a)
    (pos : ∀ a, 0 < (![1, D, 1] : Fin 3 → ℕ) a) (w : Vec Ideal ⟨3, ![1, n, 128]⟩ .f32)
    (L : List (View.Piece (Elt Ideal) ⟨3, ![C, 512, 128]⟩ .f32))
    (inb' : ∀ a, (![c, 0, 0] : Fin 3 → ℕ) a + (![1, 512, 128] : Fin 3 → ℕ) a ≤ (![C, 512, 128] : Fin 3 → ℕ) a)
    (s : Fin 512) (l : Fin 128) (val : EReal) (hD : D * n = 512) (hr : r < D)
    (hit : ∀ h : s.val / D < n, s.val % D = r → w (ix3 0 ⟨s.val / D, h⟩ l) = val)
    (miss : s.val % D ≠ r → v.readCov L (Rect.unit (s := ⟨3, ![C, 512, 128]⟩) ![c, 0, 0] ![1, 512, 128] inb').toLoadRect (ix3 0 s l) = val) :
    v.readCov (⟨⟨⟨![c, r, 0], ![1, n, 128], ![1, D, 1], inb⟩, pos⟩, w⟩ :: L)
      (Rect.unit (s := ⟨3, ![C, 512, 128]⟩) ![c, 0, 0] ![1, 512, 128] inb').toLoadRect (ix3 0 s l) = val := by
  rw [View.readCov_eq_canon'] at miss ⊢
  have hs := s.isLt
  have hq : s.val / D < n := Nat.div_lt_of_lt_mul (by omega)
  by_cases h : s.val % D = r
  · have e : (Rect.unit (s := ⟨3, ![C, 512, 128]⟩) ![c, 0, 0] ![1, 512, 128] inb').toLoadRect.idx (ix3 0 s l)
        = (⟨⟨![c, r, 0], ![1, n, 128], ![1, D, 1], inb⟩, pos⟩ : Rect ⟨3, ![C, 512, 128]⟩).emb (ix3 0 ⟨s.val / D, hq⟩ l) := by
      have hm := Nat.mod_add_div s.val D
      funext a
      refine Fin.ext ?_
      match a with
      | ⟨0, _⟩ => show c + 1 * 0 = c + 1 * 0; rfl
      | ⟨1, _⟩ => show 0 + 1 * s.val = r + D * (s.val / D); omega
      | ⟨2, _⟩ => show 0 + 1 * l.val = 0 + 1 * l.val; rfl
    show View.canon (Val := Elt Ideal) (e := .f32) _ ((Rect.unit (s := ⟨3, ![C, 512, 128]⟩) ![c, 0, 0] ![1, 512, 128] inb').toLoadRect.idx (ix3 0 s l)) = val
    rw [e, View.canon_cons_emb]
    exact hit hq h
  · show View.canon (Val := Elt Ideal) (e := .f32) _ ((Rect.unit (s := ⟨3, ![C, 512, 128]⟩) ![c, 0, 0] ![1, 512, 128] inb').toLoadRect.idx (ix3 0 s l)) = val
    rw [View.canon_cons_of_not_mem]
    · exact miss h
    · intro hm
      obtain ⟨j, _, hj⟩ := (LoadRect.mem_set _).1 hm (1 : Fin 3)
      have hj' : 0 + 1 * s.val = r + D * j := hj
      apply h
      rw [show s.val = r + D * j by omega, Nat.add_mul_mod_self_left, Nat.mod_eq_of_lt hr]

/-- A store to another chunk does not show in this one. -/
theorem skip_row {sig : RefSig} {κ : Kind} {sp : Space} {C D n c c' r : ℕ}
    (v : View sig κ sp ⟨3, ![C, 512, 128]⟩ .f32)
    (inb : ∀ a, (![1, n, 128] : Fin 3 → ℕ) a = 0
      ∨ (![c', r, 0] : Fin 3 → ℕ) a + (![1, D, 1] : Fin 3 → ℕ) a * ((![1, n, 128] : Fin 3 → ℕ) a - 1) < (![C, 512, 128] : Fin 3 → ℕ) a)
    (pos : ∀ a, 0 < (![1, D, 1] : Fin 3 → ℕ) a) (w : Vec Ideal ⟨3, ![1, n, 128]⟩ .f32)
    (L : List (View.Piece (Elt Ideal) ⟨3, ![C, 512, 128]⟩ .f32))
    (inb' : ∀ a, (![c, 0, 0] : Fin 3 → ℕ) a + (![1, 512, 128] : Fin 3 → ℕ) a ≤ (![C, 512, 128] : Fin 3 → ℕ) a)
    (s : Fin 512) (l : Fin 128) (val : EReal) (hc : c' ≠ c)
    (miss : v.readCov L (Rect.unit (s := ⟨3, ![C, 512, 128]⟩) ![c, 0, 0] ![1, 512, 128] inb').toLoadRect (ix3 0 s l) = val) :
    v.readCov (⟨⟨⟨![c', r, 0], ![1, n, 128], ![1, D, 1], inb⟩, pos⟩, w⟩ :: L)
      (Rect.unit (s := ⟨3, ![C, 512, 128]⟩) ![c, 0, 0] ![1, 512, 128] inb').toLoadRect (ix3 0 s l) = val := by
  rw [View.readCov_eq_canon'] at miss ⊢
  show View.canon (Val := Elt Ideal) (e := .f32) _ ((Rect.unit (s := ⟨3, ![C, 512, 128]⟩) ![c, 0, 0] ![1, 512, 128] inb').toLoadRect.idx (ix3 0 s l)) = val
  rw [View.canon_cons_of_not_mem]
  · exact miss
  · intro hm
    obtain ⟨j, hj0, hj⟩ := (LoadRect.mem_set _).1 hm (0 : Fin 3)
    have hj0' : j < 1 := hj0
    have hj' : c + 1 * 0 = c' + 1 * j := hj
    omega

end Cert.Stride
end
-- ==== Proof.DilKernelValue.lean ====
module
public import proofs.«01_k».proof.Proof.DilPayload
public import proofs.«01_k».proof.Proof.StrideRead

/-! # The result of the dilated layer's second half, as a function of its arguments -/

@[expose] public section

set_option maxRecDepth 16384

noncomputable section

open Idealize.ShloMosaic Idealize.ShloMosaic.TcCoe Idealize.SL.Sem

namespace Cert.DilFfnKernelIdeal.Hand

open Cert.DilFfnKernelIdeal Cert.DilFfnKernelIdeal.Gen Cert.Ffn Cert.Dil Cert.Stride

theorem cast_at (v : Vec Ideal S1x512x128 .f32) (r : Fin 512) (l : Fin 128) :
    shapeCast S512x128 v shapeCasts_S1x512x128_S512x128 (ix2 r l) = v (ix3 0 r l) := by
  pointwise []

/-- Eight chunks agree with a row if each of them does. -/
theorem slabs_eq {w0 w1 w2 w3 w4 w5 w6 w7 : Vec Ideal S1x512x128 .f32} {r : Fin 512} {f : Row}
    (h0 : ∀ l : Fin 128, w0 (ix3 0 r l) = f ⟨128 * 0 + l.val, by omega⟩)
    (h1 : ∀ l : Fin 128, w1 (ix3 0 r l) = f ⟨128 * 1 + l.val, by omega⟩)
    (h2 : ∀ l : Fin 128, w2 (ix3 0 r l) = f ⟨128 * 2 + l.val, by omega⟩)
    (h3 : ∀ l : Fin 128, w3 (ix3 0 r l) = f ⟨128 * 3 + l.val, by omega⟩)
    (h4 : ∀ l : Fin 128, w4 (ix3 0 r l) = f ⟨128 * 4 + l.val, by omega⟩)
    (h5 : ∀ l : Fin 128, w5 (ix3 0 r l) = f ⟨128 * 5 + l.val, by omega⟩)
    (h6 : ∀ l : Fin 128, w6 (ix3 0 r l) = f ⟨128 * 6 + l.val, by omega⟩)
    (h7 : ∀ l : Fin 128, w7 (ix3 0 r l) = f ⟨128 * 7 + l.val, by omega⟩) :
    slabs ![w0, w1, w2, w3, w4, w5, w6, w7] r = f := by
  funext k
  have key : ∀ (c : Fin 8) (l : Fin 128), ![w0, w1, w2, w3, w4, w5, w6, w7] c (ix3 0 r l)
      = f ⟨128 * c.val + l.val, by omega⟩ := fun c => match c with
    | 0 => h0 | 1 => h1 | 2 => h2 | 3 => h3 | 4 => h4 | 5 => h5 | 6 => h6 | 7 => h7
  refine (key ⟨k.val / 128, by omega⟩ ⟨k.val % 128, by omega⟩).trans (congrArg f (Fin.ext ?_))
  dsimp only
  omega

variable (m : (ℓ : Loc nD τ sig) → Buf (Elt Ideal) ℓ)

/-- The row the output projection reads, from the blocks of one grid point. -/
def attn (c : Dev nD) (t : Fin cfg0.N) (r : Fin 512) : Row :=
  comb (fun h => iblk m c 3 t (ix4 0 0 r ⟨h.val, by omega⟩))
    (fun h => iblk m c 4 t (ix4 0 ⟨r.val % 4, by omega⟩ ⟨r.val / 4, by omega⟩ ⟨h.val, by omega⟩))
    (fun h => iblk m c 5 t (ix4 0 ⟨r.val % 16, by omega⟩ ⟨r.val / 16, by omega⟩ ⟨h.val, by omega⟩))
    (fun k => iblk m c 0 t (ix4 0 0 r k))
    (fun k => iblk m c 1 t (ix4 0 ⟨r.val % 4, by omega⟩ ⟨r.val / 4, by omega⟩ k))
    (fun k => iblk m c 2 t (ix4 0 ⟨r.val % 16, by omega⟩ ⟨r.val / 16, by omega⟩ k))

theorem comb_congr {l0 l1 l2 l0' l1' l2' : Fin 16 → EReal} {o0 o1 o2 o0' o1' o2' : Row} (h0 : ∀ h, l0 h = l0' h)
    (h1 : ∀ h, l1 h = l1' h) (h2 : ∀ h, l2 h = l2' h) (h3 : o0 = o0') (h4 : o1 = o1') (h5 : o2 = o2') :
    comb l0 l1 l2 o0 o1 o2 = comb l0' l1' l2' o0' o1' o2' := by
  rw [funext h0, funext h1, funext h2, h3, h4, h5]

/-- The eleven tiles of a row whose normalised form is `A`. -/
theorem acc_row (a : FVec Ideal S512x1024 .bf16) (A : Row)
    (g0 u0 g1 u1 g2 u2 g3 u3 g4 u4 g5 u5 g6 u6 g7 u7 g8 u8 g9 u9 g10 u10 : Vec Ideal S1024x256 .bf16)
    (w0 w1 w2 w3 w4 w5 w6 w7 w8 w9 w10 : Vec Ideal S256x1024 .bf16) (r : Fin 512) (d : Fin 1024) (hA : ∀ k, a (ix2 r k) = A k) :
    k0_pay259 a (k0_pay255 a (k0_pay251 a (k0_pay248 a (k0_pay246 a (k0_pay244 a g0 u0 w0) (k0_pay245 a g1 u1 w1) g2 u2 w2)
      (k0_pay247 a g3 u3) w3 g4 u4 w4) (k0_pay249 a u5) (k0_pay250 a g5) w5 g6 u6 w6) (k0_pay252 a g7) (k0_pay253 a u7)
      (k0_pay254 a g7) w7 g8 u8 w8) (k0_pay256 a g9) (k0_pay257 a u9) (k0_pay258 a g9) w9 g10 u10 w10 (ix2 r d)
    = tile A (fun k x => g0 (ix2 k x)) (fun k x => u0 (ix2 k x)) (fun x e => w0 (ix2 x e)) d
      + tile A (fun k x => g1 (ix2 k x)) (fun k x => u1 (ix2 k x)) (fun x e => w1 (ix2 x e)) d
      + tile A (fun k x => g2 (ix2 k x)) (fun k x => u2 (ix2 k x)) (fun x e => w2 (ix2 x e)) d
      + tile A (fun k x => g3 (ix2 k x)) (fun k x => u3 (ix2 k x)) (fun x e => w3 (ix2 x e)) d
      + tile A (fun k x => g4 (ix2 k x)) (fun k x => u4 (ix2 k x)) (fun x e => w4 (ix2 x e)) d
      + tile A (fun k x => g5 (ix2 k x)) (fun k x => u5 (ix2 k x)) (fun x e => w5 (ix2 x e)) d
      + tile A (fun k x => g6 (ix2 k x)) (fun k x => u6 (ix2 k x)) (fun x e => w6 (ix2 x e)) d
      + tile A (fun k x => g7 (ix2 k x)) (fun k x => u7 (ix2 k x)) (fun x e => w7 (ix2 x e)) d
      + tile A (fun k x => g8 (ix2 k x)) (fun k x => u8 (ix2 k x)) (fun x e => w8 (ix2 x e)) d
      + tile A (fun k x => g9 (ix2 k x)) (fun k x => u9 (ix2 k x)) (fun x e => w9 (ix2 x e)) d
      + tile A (fun k x => g10 (ix2 k x)) (fun k x => u10 (ix2 k x)) (fun x e => w10 (ix2 x e)) d := by
  obtain rfl : (fun k => a (ix2 r k)) = A := funext hA
  exact acc_at ..

set_option maxHeartbeats 16000000 in
theorem out_at (c : Dev nD) (t : Fin cfg0.N) (r : Fin 512) (d : Fin 1024) (C' : Row) (hC' : attn m c t r = C') :
    outsAt0 m c t (ix3 0 r d)
    = ffn (mixed C' (fun k e => iblk m c 6 t (ix2 k e)) (fun e => iblk m c 7 t (ix2 0 e)) (fun e => iblk m c 8 t (ix3 0 r e)))
      (fun e => iblk m c 9 t (ix2 0 e)) (fun k e => iblk m c 10 t (ix2 k e)) (fun f e => iblk m c 11 t (ix2 f e))
      (fun e => iblk m c 12 t (ix2 0 e)) d := by
  unfold outsAt0
  frame_open
  simp (disch := decide) only [↓ View.readCov_skip, ↓ View.readCov_cons_toLoadRect, ↓ View.readCov_fill]
  frame_out
  refine (post_at ..).trans ?_
  rw [mixed_at, cat_comb]
  generalize hC : comb _ _ _ _ _ _ = C
  have hCC : C = C' := by
    rw [← hC, ← hC']
    clear hC hC'
    unfold attn
    refine comb_congr (fun h => ?_) (fun h => ?_) (fun h => ?_) (slabs_eq (fun l => ?_) (fun l => ?_) (fun l => ?_) (fun l => ?_) (fun l => ?_) (fun l => ?_) (fun l => ?_) (fun l => ?_))
      (slabs_eq (fun l => ?_) (fun l => ?_) (fun l => ?_) (fun l => ?_) (fun l => ?_) (fun l => ?_) (fun l => ?_) (fun l => ?_))
      (slabs_eq (fun l => ?_) (fun l => ?_) (fun l => ?_) (fun l => ?_) (fun l => ?_) (fun l => ?_) (fun l => ?_) (fun l => ?_))
    · refine (cast_at ..).trans ?_
      open_payloads
      pointwise
      blk_ext []
    · refine (cast_at ..).trans ?_
      repeat refine skip_row _ _ _ _ _ _ _ _ _ (by decide) ?_
      refine read_row _ _ _ _ _ _ _ _ _ (by decide) (by decide) (fun hq h => ?_) (fun n0 => ?_)
      · simp only [h]
        open_payloads
        pointwise
        blk_ext []
      repeat refine skip_row _ _ _ _ _ _ _ _ _ (by decide) ?_
      refine read_row _ _ _ _ _ _ _ _ _ (by decide) (by decide) (fun hq h => ?_) (fun n1 => ?_)
      · simp only [h]
        open_payloads
        pointwise
        blk_ext []
      repeat refine skip_row _ _ _ _ _ _ _ _ _ (by decide) ?_
      refine read_row _ _ _ _ _ _ _ _ _ (by decide) (by decide) (fun hq h => ?_) (fun n2 => ?_)
      · simp only [h]
        open_payloads
        pointwise
        blk_ext []
      repeat refine skip_row _ _ _ _ _ _ _ _ _ (by decide) ?_
      refine read_row _ _ _ _ _ _ _ _ _ (by decide) (by decide) (fun hq h => ?_) (fun n3 => ?_)
      · simp only [h]
        open_payloads
        pointwise
        blk_ext []
      exfalso
      omega
    · skip
      repeat refine skip_row _ _ _ _ _ _ _ _ _ (by decide) ?_
      refine read_row _ _ _ _ _ _ _ _ _ (by decide) (by decide) (fun hq h => ?_) (fun n0 => ?_)
      · simp only [h]
        open_payloads
        pointwise
        blk_ext []
      repeat refine skip_row _ _ _ _ _ _ _ _ _ (by decide) ?_
      refine read_row _ _ _ _ _ _ _ _ _ (by decide) (by decide) (fun hq h => ?_) (fun n1 => ?_)
      · simp only [h]
        open_payloads
        pointwise
        blk_ext []
      repeat refine skip_row _ _ _ _ _ _ _ _ _ (by decide) ?_
      refine read_row _ _ _ _ _ _ _ _ _ (by decide) (by decide) (fun hq h => ?_) (fun n2 => ?_)
      · simp only [h]
        open_payloads
        pointwise
        blk_ext []
      repeat refine skip_row _ _ _ _ _ _ _ _ _ (by decide) ?_
      refine read_row _ _ _ _ _ _ _ _ _ (by decide) (by decide) (fun hq h => ?_) (fun n3 => ?_)
      · simp only [h]
        open_payloads
        pointwise
        blk_ext []
      repeat refine skip_row _ _ _ _ _ _ _ _ _ (by decide) ?_
      refine read_row _ _ _ _ _ _ _ _ _ (by decide) (by decide) (fun hq h => ?_) (fun n4 => ?_)
      · simp only [h]
        open_payloads
        pointwise
        blk_ext []
      repeat refine skip_row _ _ _ _ _ _ _ _ _ (by decide) ?_
      refine read_row _ _ _ _ _ _ _ _ _ (by decide) (by decide) (fun hq h => ?_) (fun n5 => ?_)
      · simp only [h]
        open_payloads
        pointwise
        blk_ext []
      repeat refine skip_row _ _ _ _ _ _ _ _ _ (by decide) ?_
      refine read_row _ _ _ _ _ _ _ _ _ (by decide) (by decide) (fun hq h => ?_) (fun n6 => ?_)
      · simp only [h]
        open_payloads
        pointwise
        blk_ext []
      repeat refine skip_row _ _ _ _ _ _ _ _ _ (by decide) ?_
      refine read_row _ _ _ _ _ _ _ _ _ (by decide) (by decide) (fun hq h => ?_) (fun n7 => ?_)
      · simp only [h]
        open_payloads
        pointwise
        blk_ext []
      repeat refine skip_row _ _ _ _ _ _ _ _ _ (by decide) ?_
      refine read_row _ _ _ _ _ _ _ _ _ (by decide) (by decide) (fun hq h => ?_) (fun n8 => ?_)
      · simp only [h]
        open_payloads
        pointwise
        blk_ext []
      repeat refine skip_row _ _ _ _ _ _ _ _ _ (by decide) ?_
      refine read_row _ _ _ _ _ _ _ _ _ (by decide) (by decide) (fun hq h => ?_) (fun n9 => ?_)
      · simp only [h]
        open_payloads
        pointwise
        blk_ext []
      repeat refine skip_row _ _ _ _ _ _ _ _ _ (by decide) ?_
      refine read_row _ _ _ _ _ _ _ _ _ (by decide) (by decide) (fun hq h => ?_) (fun n10 => ?_)
      · simp only [h]
        open_payloads
        pointwise
        blk_ext []
      repeat refine skip_row _ _ _ _ _ _ _ _ _ (by decide) ?_
      refine read_row _ _ _ _ _ _ _ _ _ (by decide) (by decide) (fun hq h => ?_) (fun n11 => ?_)
      · simp only [h]
        open_payloads
        pointwise
        blk_ext []
      repeat refine skip_row _ _ _ _ _ _ _ _ _ (by decide) ?_
      refine read_row _ _ _ _ _ _ _ _ _ (by decide) (by decide) (fun hq h => ?_) (fun n12 => ?_)
      · simp only [h]
        open_payloads
        pointwise
        blk_ext []
      repeat refine skip_row _ _ _ _ _ _ _ _ _ (by decide) ?_
      refine read_row _ _ _ _ _ _ _ _ _ (by decide) (by decide) (fun hq h => ?_) (fun n13 => ?_)
      · simp only [h]
        open_payloads
        pointwise
        blk_ext []
      repeat refine skip_row _ _ _ _ _ _ _ _ _ (by decide) ?_
      refine read_row _ _ _ _ _ _ _ _ _ (by decide) (by decide) (fun hq h => ?_) (fun n14 => ?_)
      · simp only [h]
        open_payloads
        pointwise
        blk_ext []
      repeat refine skip_row _ _ _ _ _ _ _ _ _ (by decide) ?_
      refine read_row _ _ _ _ _ _ _ _ _ (by decide) (by decide) (fun hq h => ?_) (fun n15 => ?_)
      · simp only [h]
        open_payloads
        pointwise
        blk_ext []
      exfalso
      omega
    iterate 8
      · open_payloads
        pointwise
        blk_ext []
    iterate 8
      · skip
        repeat refine skip_row _ _ _ _ _ _ _ _ _ (by decide) ?_
        refine read_row _ _ _ _ _ _ _ _ _ (by decide) (by decide) (fun hq h => ?_) (fun n0 => ?_)
        · simp only [h]
          open_payloads
          pointwise
          blk_ext []
        repeat refine skip_row _ _ _ _ _ _ _ _ _ (by decide) ?_
        refine read_row _ _ _ _ _ _ _ _ _ (by decide) (by decide) (fun hq h => ?_) (fun n1 => ?_)
        · simp only [h]
          open_payloads
          pointwise
          blk_ext []
        repeat refine skip_row _ _ _ _ _ _ _ _ _ (by decide) ?_
        refine read_row _ _ _ _ _ _ _ _ _ (by decide) (by decide) (fun hq h => ?_) (fun n2 => ?_)
        · simp only [h]
          open_payloads
          pointwise
          blk_ext []
        repeat refine skip_row _ _ _ _ _ _ _ _ _ (by decide) ?_
        refine read_row _ _ _ _ _ _ _ _ _ (by decide) (by decide) (fun hq h => ?_) (fun n3 => ?_)
        · simp only [h]
          open_payloads
          pointwise
          blk_ext []
        exfalso
        omega
    iterate 8
      · skip
        repeat refine skip_row _ _ _ _ _ _ _ _ _ (by decide) ?_
        refine read_row _ _ _ _ _ _ _ _ _ (by decide) (by decide) (fun hq h => ?_) (fun n0 => ?_)
        · simp only [h]
          open_payloads
          pointwise
          blk_ext []
        repeat refine skip_row _ _ _ _ _ _ _ _ _ (by decide) ?_
        refine read_row _ _ _ _ _ _ _ _ _ (by decide) (by decide) (fun hq h => ?_) (fun n1 => ?_)
        · simp only [h]
          open_payloads
          pointwise
          blk_ext []
        repeat refine skip_row _ _ _ _ _ _ _ _ _ (by decide) ?_
        refine read_row _ _ _ _ _ _ _ _ _ (by decide) (by decide) (fun hq h => ?_) (fun n2 => ?_)
        · simp only [h]
          open_payloads
          pointwise
          blk_ext []
        repeat refine skip_row _ _ _ _ _ _ _ _ _ (by decide) ?_
        refine read_row _ _ _ _ _ _ _ _ _ (by decide) (by decide) (fun hq h => ?_) (fun n3 => ?_)
        · simp only [h]
          open_payloads
          pointwise
          blk_ext []
        repeat refine skip_row _ _ _ _ _ _ _ _ _ (by decide) ?_
        refine read_row _ _ _ _ _ _ _ _ _ (by decide) (by decide) (fun hq h => ?_) (fun n4 => ?_)
        · simp only [h]
          open_payloads
          pointwise
          blk_ext []
        repeat refine skip_row _ _ _ _ _ _ _ _ _ (by decide) ?_
        refine read_row _ _ _ _ _ _ _ _ _ (by decide) (by decide) (fun hq h => ?_) (fun n5 => ?_)
        · simp only [h]
          open_payloads
          pointwise
          blk_ext []
        repeat refine skip_row _ _ _ _ _ _ _ _ _ (by decide) ?_
        refine read_row _ _ _ _ _ _ _ _ _ (by decide) (by decide) (fun hq h => ?_) (fun n6 => ?_)
        · simp only [h]
          open_payloads
          pointwise
          blk_ext []
        repeat refine skip_row _ _ _ _ _ _ _ _ _ (by decide) ?_
        refine read_row _ _ _ _ _ _ _ _ _ (by decide) (by decide) (fun hq h => ?_) (fun n7 => ?_)
        · simp only [h]
          open_payloads
          pointwise
          blk_ext []
        repeat refine skip_row _ _ _ _ _ _ _ _ _ (by decide) ?_
        refine read_row _ _ _ _ _ _ _ _ _ (by decide) (by decide) (fun hq h => ?_) (fun n8 => ?_)
        · simp only [h]
          open_payloads
          pointwise
          blk_ext []
        repeat refine skip_row _ _ _ _ _ _ _ _ _ (by decide) ?_
        refine read_row _ _ _ _ _ _ _ _ _ (by decide) (by decide) (fun hq h => ?_) (fun n9 => ?_)
        · simp only [h]
          open_payloads
          pointwise
          blk_ext []
        repeat refine skip_row _ _ _ _ _ _ _ _ _ (by decide) ?_
        refine read_row _ _ _ _ _ _ _ _ _ (by decide) (by decide) (fun hq h => ?_) (fun n10 => ?_)
        · simp only [h]
          open_payloads
          pointwise
          blk_ext []
        repeat refine skip_row _ _ _ _ _ _ _ _ _ (by decide) ?_
        refine read_row _ _ _ _ _ _ _ _ _ (by decide) (by decide) (fun hq h => ?_) (fun n11 => ?_)
        · simp only [h]
          open_payloads
          pointwise
          blk_ext []
        repeat refine skip_row _ _ _ _ _ _ _ _ _ (by decide) ?_
        refine read_row _ _ _ _ _ _ _ _ _ (by decide) (by decide) (fun hq h => ?_) (fun n12 => ?_)
        · simp only [h]
          open_payloads
          pointwise
          blk_ext []
        repeat refine skip_row _ _ _ _ _ _ _ _ _ (by decide) ?_
        refine read_row _ _ _ _ _ _ _ _ _ (by decide) (by decide) (fun hq h => ?_) (fun n13 => ?_)
        · simp only [h]
          open_payloads
          pointwise
          blk_ext []
        repeat refine skip_row _ _ _ _ _ _ _ _ _ (by decide) ?_
        refine read_row _ _ _ _ _ _ _ _ _ (by decide) (by decide) (fun hq h => ?_) (fun n14 => ?_)
        · simp only [h]
          open_payloads
          pointwise
          blk_ext []
        repeat refine skip_row _ _ _ _ _ _ _ _ _ (by decide) ?_
        refine read_row _ _ _ _ _ _ _ _ _ (by decide) (by decide) (fun hq h => ?_) (fun n15 => ?_)
        · simp only [h]
          open_payloads
          pointwise
          blk_ext []
        exfalso
        omega
  unfold ffn
  refine congrArg₂ (· + ·) ?_ (rms_congr (fun e => ?_) _ _)
  · rw [hCC]
  · refine (acc_row (A := rms (mixed C' (fun k e => iblk m c 6 t (ix2 k e)) (fun e => iblk m c 7 t (ix2 0 e)) (fun e => iblk m c 8 t (ix3 0 r e)))
      (fun e => iblk m c 9 t (ix2 0 e))) (hA := fun k => ?_) ..).trans ?_
    · refine (pre_at ..).trans (rms_congr (fun e => ?_) _ _)
      rw [mixed_at, cat_comb, hC, hCC]
    clear hC hCC hC'
    rw [swiglu_eq_add]
    refine congrArg₂ (· + ·) (congrArg₂ (· + ·) (congrArg₂ (· + ·) (congrArg₂ (· + ·) (congrArg₂ (· + ·) (congrArg₂ (· + ·)
      (congrArg₂ (· + ·) (congrArg₂ (· + ·) (congrArg₂ (· + ·) (congrArg₂ (· + ·) ?_ ?_) ?_) ?_) ?_) ?_) ?_) ?_) ?_) ?_) ?_
    all_goals
      refine tile_eq_part _ _ _ _ _ _ _ _ (fun k x => ?_) (fun k x => ?_) (fun x k => ?_) <;> (pointwise; blk_ext [])

end Cert.DilFfnKernelIdeal.Hand
end
-- ==== Proof.DilResult.lean ====
module
public import proofs.«01_k».proof.Proof.DilKernelValue
public import Idealize.ShloMosaic.Lib.StableHlo.ReadAt

/-! # The array the dilated layer's second half writes -/

@[expose] public section

set_option maxRecDepth 16384

noncomputable section

open Idealize.ShloMosaic Idealize.ShloMosaic.TcCoe Idealize.SL.Sem

namespace Cert.DilFfnKernelIdeal.Hand

open Cert.DilFfnKernelIdeal Cert.DilFfnKernelIdeal.Gen Cert.Ffn Cert.Dil

theorem idx : ∀ t : Fin cfg0.N, win0_0.index t = ![t.val / 4, 0, t.val % 4, 0] ∧ win0_1.index t = ![t.val / 4, 0, t.val % 4, 0]
    ∧ win0_2.index t = ![t.val / 4, 0, t.val % 4, 0] ∧ win0_3.index t = ![t.val / 4, 0, t.val % 4, 0]
    ∧ win0_4.index t = ![t.val / 4, 0, t.val % 4, 0] ∧ win0_5.index t = ![t.val / 4, 0, t.val % 4, 0]
    ∧ win0_6.index t = ![0, 0] ∧ win0_7.index t = ![0, 0] ∧ win0_8.index t = ![t.val / 4, t.val % 4, 0]
    ∧ win0_9.index t = ![0, 0] ∧ win0_10.index t = ![0, 0] ∧ win0_11.index t = ![0, 0] ∧ win0_12.index t = ![0, 0]
    ∧ win0_13.index t = ![t.val / 4, t.val % 4, 0] :=
  (by decide +kernel : ∀ t : Fin grid0.N, _)

variable (m : (ℓ : Loc nD τ sig) → Buf (Elt Ideal) ℓ)

/-! What the arrays the call reads hold, at an index: the host reshapes, rounds and pads its arguments. -/

theorem V1 (c : Dev nD) (b : Fin 8) (s : Fin 2048) (k : Fin 1024) :
    V m c main_v1 (ix4 b 0 s k) = m ((c : Thread nD τ).loc main_arg0) (ix4 b s ⟨k.val / 64, by omega⟩ ⟨k.val % 64, by omega⟩) := by
  unfold V
  after_reads_at

theorem V3 (c : Dev nD) (b : Fin 8) (r : Fin 4) (s : Fin 512) (k : Fin 1024) :
    V m c main_v3 (ix4 b r s k)
    = m ((c : Thread nD τ).loc main_arg1) (ix4 ⟨b.val * 4 + r.val, by omega⟩ s ⟨k.val / 64, by omega⟩ ⟨k.val % 64, by omega⟩) := by
  unfold V
  after_reads_at

theorem V5 (c : Dev nD) (b : Fin 8) (r : Fin 16) (s : Fin 128) (k : Fin 1024) :
    V m c main_v5 (ix4 b r s k)
    = m ((c : Thread nD τ).loc main_arg2) (ix4 ⟨b.val * 16 + r.val, by omega⟩ s ⟨k.val / 64, by omega⟩ ⟨k.val % 64, by omega⟩) := by
  unfold V
  after_reads_at

theorem V7 (c : Dev nD) (b : Fin 8) (s : Fin 2048) (h : Fin 16) :
    V m c main_v7 (ix4 b 0 s ⟨h.val, by omega⟩) = m ((c : Thread nD τ).loc main_arg3) (ix3 b s h) := by
  unfold V
  after_reads_at

theorem V9 (c : Dev nD) (b : Fin 8) (r : Fin 4) (s : Fin 512) (h : Fin 16) :
    V m c main_v9 (ix4 b r s ⟨h.val, by omega⟩) = m ((c : Thread nD τ).loc main_arg4) (ix3 ⟨b.val * 4 + r.val, by omega⟩ s h) := by
  unfold V
  after_reads_at
  split
  · rfl
  · omega

theorem V11 (c : Dev nD) (b : Fin 8) (r : Fin 16) (s : Fin 128) (h : Fin 16) :
    V m c main_v11 (ix4 b r s ⟨h.val, by omega⟩) = m ((c : Thread nD τ).loc main_arg5) (ix3 ⟨b.val * 16 + r.val, by omega⟩ s h) := by
  unfold V
  after_reads_at
  split
  · rfl
  · omega

theorem V13 (c : Dev nD) (e : Fin 1024) : V m c main_v13 (ix2 0 e) = m ((c : Thread nD τ).loc main_arg7) (ix1 e) := by
  unfold V
  after_reads_at

theorem V14 (c : Dev nD) (e : Fin 1024) : V m c main_v14 (ix2 0 e) = m ((c : Thread nD τ).loc main_arg9) (ix1 e) := by
  unfold V
  after_reads_at

theorem V17 (c : Dev nD) (e : Fin 1024) : V m c main_v17 (ix2 0 e) = m ((c : Thread nD τ).loc main_arg12) (ix1 e) := by
  unfold V
  after_reads_at

/-- The row the output projection reads at one position of the sequence. -/
def attnRow (c : Dev nD) (b : Fin 8) (s : Fin 2048) : Row :=
  comb (fun h => m ((c : Thread nD τ).loc main_arg3) (ix3 b s h))
    (fun h => m ((c : Thread nD τ).loc main_arg4) (ix3 ⟨b.val * 4 + s.val % 4, by omega⟩ ⟨s.val / 4, by omega⟩ h))
    (fun h => m ((c : Thread nD τ).loc main_arg5) (ix3 ⟨b.val * 16 + s.val % 16, by omega⟩ ⟨s.val / 16, by omega⟩ h))
    (fun k => m ((c : Thread nD τ).loc main_arg0) (ix4 b s ⟨k.val / 64, by omega⟩ ⟨k.val % 64, by omega⟩))
    (fun k => m ((c : Thread nD τ).loc main_arg1) (ix4 ⟨b.val * 4 + s.val % 4, by omega⟩ ⟨s.val / 4, by omega⟩ ⟨k.val / 64, by omega⟩ ⟨k.val % 64, by omega⟩))
    (fun k => m ((c : Thread nD τ).loc main_arg2) (ix4 ⟨b.val * 16 + s.val % 16, by omega⟩ ⟨s.val / 16, by omega⟩ ⟨k.val / 64, by omega⟩ ⟨k.val % 64, by omega⟩))

/-- The result of the call as a function of the arguments of the program. -/
def result (c : Dev nD) : Vec Ideal S8x2048x1024 .f32 := fun y =>
  ffn (mixed (attnRow m c (y 0) (y 1)) (fun k e => m ((c : Thread nD τ).loc main_arg6) (ix2 k e))
      (fun e => m ((c : Thread nD τ).loc main_arg7) (ix1 e)) (fun e => m ((c : Thread nD τ).loc main_arg8) (ix3 (y 0) (y 1) e)))
    (fun e => m ((c : Thread nD τ).loc main_arg9) (ix1 e)) (fun k e => m ((c : Thread nD τ).loc main_arg10) (ix2 k e))
    (fun f e => m ((c : Thread nD τ).loc main_arg11) (ix2 f e)) (fun e => m ((c : Thread nD τ).loc main_arg12) (ix1 e)) (y 2)

theorem attn_eq (c : Dev nD) (t : Fin cfg0.N) (r : Fin 512) (h0 : t.val / 4 < 8) (h1 : 512 * (t.val % 4) + r.val < 2048) :
    attn m c t r = attnRow m c ⟨t.val / 4, h0⟩ ⟨512 * (t.val % 4) + r.val, h1⟩ := by
  unfold attn attnRow
  refine comb_congr (fun h => ?_) (fun h => ?_) (fun h => ?_) (funext fun k => ?_) (funext fun k => ?_) (funext fun k => ?_)
  · refine (show iblk m c 3 t _ = V m c main_v7 (ix4 ⟨t.val / 4, h0⟩ 0 ⟨512 * (t.val % 4) + r.val, h1⟩ ⟨h.val, by omega⟩) from ?_).trans ((V7 ..).trans ?_)
    · blk_point [iblk, idx t]
    · congr 1
      blk_ext []
  · refine (show iblk m c 4 t _ = V m c main_v9 (ix4 ⟨t.val / 4, h0⟩ ⟨r.val % 4, by omega⟩ ⟨128 * (t.val % 4) + r.val / 4, by omega⟩ ⟨h.val, by omega⟩) from ?_).trans ((V9 ..).trans ?_)
    · blk_point [iblk, idx t]
    · congr 1
      blk_ext []
  · refine (show iblk m c 5 t _ = V m c main_v11 (ix4 ⟨t.val / 4, h0⟩ ⟨r.val % 16, by omega⟩ ⟨32 * (t.val % 4) + r.val / 16, by omega⟩ ⟨h.val, by omega⟩) from ?_).trans ((V11 ..).trans ?_)
    · blk_point [iblk, idx t]
    · congr 1
      blk_ext []
  · refine (show iblk m c 0 t _ = V m c main_v1 (ix4 ⟨t.val / 4, h0⟩ 0 ⟨512 * (t.val % 4) + r.val, h1⟩ k) from ?_).trans ((V1 ..).trans ?_)
    · blk_point [iblk, idx t]
    · congr 1
      blk_ext []
  · refine (show iblk m c 1 t _ = V m c main_v3 (ix4 ⟨t.val / 4, h0⟩ ⟨r.val % 4, by omega⟩ ⟨128 * (t.val % 4) + r.val / 4, by omega⟩ k) from ?_).trans ((V3 ..).trans ?_)
    · blk_point [iblk, idx t]
    · congr 1
      blk_ext []
  · refine (show iblk m c 2 t _ = V m c main_v5 (ix4 ⟨t.val / 4, h0⟩ ⟨r.val % 16, by omega⟩ ⟨32 * (t.val % 4) + r.val / 16, by omega⟩ k) from ?_).trans ((V5 ..).trans ?_)
    · blk_point [iblk, idx t]
    · congr 1
      blk_ext []

theorem final (c : Dev nD) : (dats m 0 c).arrAt 13 (cfgs 0).N = result m c := by
  refine (dats m 0 c).arrAt_eq_of_covers 13 _ (by decide +kernel) fun t _ y => ?_
  blk_simp
  rw [after0_13]
  obtain ⟨z, r, d, rfl⟩ : ∃ (z : Fin 1) (r : Fin 512) (d : Fin 1024), y = ix3 z r d :=
    ⟨y 0, y 1, y 2, funext fun a => match a with | ⟨0, _⟩ => rfl | ⟨1, _⟩ => rfl | ⟨2, _⟩ => rfl⟩
  obtain rfl : z = 0 := Subsingleton.elim _ _
  have ht : t.val < 32 := t.isLt
  refine (out_at m c t r d _ (attn_eq m c t r (by omega) (by omega))).trans ?_
  unfold result
  have e7 : ∀ e : Fin 1024, iblk m c 7 t (ix2 0 e) = V m c main_v13 (ix2 0 e) := fun e => by blk_point [iblk, idx t]
  have e9 : ∀ e : Fin 1024, iblk m c 9 t (ix2 0 e) = V m c main_v14 (ix2 0 e) := fun e => by blk_point [iblk, idx t]
  have e12 : ∀ e : Fin 1024, iblk m c 12 t (ix2 0 e) = V m c main_v17 (ix2 0 e) := fun e => by blk_point [iblk, idx t]
  simp only [e7, e9, e12]
  blk_point [iblk, V, idx t]
  · exact V13 m c _
  · exact V14 m c _
  · exact V17 m c _

end Cert.DilFfnKernelIdeal.Hand
end
-- ==== Proof.DilReferenceValue.lean ====
module
public import proofs.«01_k».proof.Proof.Gen.DilFfnReferenceIdeal.Read
public import proofs.«01_k».proof.Proof.DilSpec
public import Idealize.ShloMosaic.Lib.Pipeline.ValueKit
public import Idealize.ShloMosaic.Lib.Pointwise

/-! # The reference of the dilated layer's second half, read at an index -/

@[expose] public section

set_option maxRecDepth 16384

noncomputable section

open Idealize.ShloMosaic Idealize.ShloMosaic.TcCoe Idealize.SL.Sem

namespace Cert.DilFfnReferenceIdeal.Hand

open Cert.DilFfnReferenceIdeal Cert.DilFfnReferenceIdeal.Gen Cert.DilFfnReferenceIdeal.Read Cert.Ffn Cert.Dil

variable (x0 : Vec Ideal S8x2048x16x64 .f32) (x1 : Vec Ideal S32x512x16x64 .f32) (x2 : Vec Ideal S128x128x16x64 .f32)
  (x3 : Vec Ideal S8x2048x16 .f32) (x4 : Vec Ideal S32x512x16 .f32) (x5 : Vec Ideal S128x128x16 .f32)
  (x6 : Vec Ideal S1024x1024 .f32) (x7 : Vec Ideal S1024 .f32) (x8 : Vec Ideal S8x2048x1024 .f32)
  (x9 : Vec Ideal S1024 .f32) (x10 : Vec Ideal S1024x5632 .f32) (x11 : Vec Ideal S2816x1024 .f32) (x12 : Vec Ideal S1024 .f32)

theorem sum_at (b : Fin 8) (s : Fin 2048) :
    val_main_v41 x0 x1 x2 x3 x4 x5 x6 (ix2 b s) = ∑ k, val_main_v39 x0 x1 x2 x3 x4 x5 x6 (ix3 b s k) * val_main_v39 x0 x1 x2 x3 x4 x5 x6 (ix3 b s k) := by
  rw [val_main_v41_apply]
  have h0 : (val_main_cst_2 (F := Ideal)) (Shape.Idx.first h_S_) = 0 := by
    show Ideal.ofBits FTy.f32 0#32 = 0
    simp [Ideal.ofBits, Ideal.ieee]
  rw [h0, zero_add]
  refine Finset.sum_congr rfl fun k _ => ?_
  have e : idx_main_v41 (ix2 b s) k = ix3 b s k := funext fun a => match a with | ⟨0, _⟩ => rfl | ⟨1, _⟩ => rfl | ⟨2, _⟩ => rfl
  rw [e, val_main_v40_apply]
  rfl

theorem scale_at (b : Fin 8) (s : Fin 2048) (d : Fin 1024) :
    val_main_v48 x0 x1 x2 x3 x4 x5 x6 (ix3 b s d) = Ideal.rsqrt
      (Ideal.div (val_main_v41 x0 x1 x2 x3 x4 x5 x6 (ix2 b s)) (Ideal.ofBits FTy.f32 1149239296#32) +
        Ideal.ofBits FTy.f32 897988541#32) := by
  pointwise [val_main_v48, val_main_v47, val_main_v46, val_main_v45, val_main_v44, val_main_v43, val_main_v42, val_main_cst_3, val_main_cst_4]

theorem mixed_at (b : Fin 8) (s : Fin 2048) (d : Fin 1024) :
    val_main_v53 x0 x1 x2 x3 x4 x5 x6 x7 x8 (ix3 b s d) = mixed (fun k => val_main_v38 x0 x1 x2 x3 x4 x5 (ix3 b s k))
      (fun k e => x6 (ix2 k e)) (fun e => x7 (ix1 e)) (fun e => x8 (ix3 b s e)) d := by
  have hp : ∀ e : Fin 1024, val_main_v39 x0 x1 x2 x3 x4 x5 x6 (ix3 b s e)
      = ∑ k, val_main_v38 x0 x1 x2 x3 x4 x5 (ix3 b s k) * x6 (ix2 k e) := fun e => by pointwise [val_main_v39]
  have hg : val_main_v51 x7 (ix3 b s d) = x7 (ix1 d) := by pointwise [val_main_v51, val_main_v50]
  rw [val_main_v53_apply, val_main_v52_apply, val_main_v49_apply, scale_at, sum_at, hg]
  simp only [hp]
  rfl

theorem fold3 (f : Fin 3 → EReal) : (Finset.univ : Finset (Fin 3)).fold max ⊥ f = max (max (f 0) (f 1)) (f 2) := by
  rw [show (Finset.univ : Finset (Fin 3)) = {0, 1, 2} from rfl]
  simp [max_assoc]

theorem scores_at (b : Fin 8) (s : Fin 2048) (h : Fin 16) (j : Fin 3) :
    val_main_v21 x3 x4 x5 (ix4 b s h j) = ![val_main_v11 x3 (ix3 b s h), val_main_v14 x4 (ix3 b s h), val_main_v17 x5 (ix3 b s h)] j := by
  pointwise [val_main_v21, val_main_v20, val_main_v19, val_main_v18]
  match j with
  | 0 => rfl
  | 1 => rfl
  | 2 => rfl

theorem outs_at (b : Fin 8) (s : Fin 2048) (h : Fin 16) (j : Fin 3) (e : Fin 64) :
    val_main_v36 x0 x1 x2 (ix5 b s h j e) = ![val_main_v2 x0 (ix4 b s h e), val_main_v5 x1 (ix4 b s h e), val_main_v8 x2 (ix4 b s h e)] j := by
  pointwise [val_main_v36, val_main_v35, val_main_v34, val_main_v33]
  match j with
  | 0 => rfl
  | 1 => rfl
  | 2 => rfl

theorem fold_at (z : Vec Ideal S8x2048x16x3 .f32) (b : Fin 8) (s : Fin 2048) (h : Fin 16) :
    Host.reduce (FloatOps.maximumf (F := Ideal) (φ := .f32)) z (val_main_cst (F := Ideal)) reducesTo_S8x2048x16x3_S8x2048x16_d3 h_S_ (ix3 b s h) =
     (Finset.univ : Finset (Fin 3)).fold max ⊥ fun k => z (ix4 b s h k) := by
  have hr : S8x2048x16x3.Reduces [3] S8x2048x16 := by decide
  rw [Host.reduce_eq_fold_single (a := 3) (FloatOps.maximumf (F := Ideal) (φ := .f32)) z _ reducesTo_S8x2048x16x3_S8x2048x16_d3 hr h_S_]
  have h0 : (val_main_cst (F := Ideal)) (Shape.Idx.first h_S_) = ⊥ := by
    show Ideal.ofBits FTy.f32 4286578688#32 = ⊥
    simp [Ideal.ofBits, Ideal.ieee]
  rw [h0]
  have hl : z ∘ hr.lift (ix3 b s h) = fun k : Fin 3 => z (ix4 b s h k) := by
    funext k
    refine congrArg z (funext fun c => ?_)
    match c with
    | ⟨0, _⟩ => rfl
    | ⟨1, _⟩ => rfl
    | ⟨2, _⟩ => rfl
    | ⟨3, _⟩ => rfl
  rw [hl]
  rfl

theorem max_at (b : Fin 8) (s : Fin 2048) (h : Fin 16) :
    val_main_v24 x3 x4 x5 (ix3 b s h) = max (max (val_main_v11 x3 (ix3 b s h)) (val_main_v14 x4 (ix3 b s h)))
      (val_main_v17 x5 (ix3 b s h)) := by
  rw [val_main_v24_apply]
  have h0 : val_main_v23 (F := Ideal) (ix3 b s h) = ⊥ := by
    pointwise [val_main_v23, val_main_cst_0]
    simp [Ideal.ofBits, Ideal.ieee]
  have h1 : val_main_v22 x3 x4 x5 (ix3 b s h) = max (max (val_main_v11 x3 (ix3 b s h)) (val_main_v14 x4 (ix3 b s h)))
      (val_main_v17 x5 (ix3 b s h)) := by
    refine (fold_at (val_main_v21 x3 x4 x5) b s h).trans ((fold3 _).trans ?_)
    rw [scores_at, scores_at, scores_at]
    rfl
  rw [h0, h1]
  exact max_eq_right bot_le

theorem weight_at (b : Fin 8) (s : Fin 2048) (h : Fin 16) (j : Fin 3) :
    val_main_v32 x3 x4 x5 (ix4 b s h j) = weight (![val_main_v11 x3 (ix3 b s h), val_main_v14 x4 (ix3 b s h), val_main_v17 x5 (ix3 b s h)] j)
      (val_main_v11 x3 (ix3 b s h)) (val_main_v14 x4 (ix3 b s h)) (val_main_v17 x5 (ix3 b s h)) := by
  pointwise [val_main_v32, val_main_v31, val_main_v30, val_main_v29, val_main_v28, val_main_v27, val_main_v26,
    val_main_v25, val_main_cst_1]
  rw [Fin.sum_univ_three, scores_at, scores_at, scores_at, scores_at, max_at]
  rfl

theorem att_at (b : Fin 8) (s : Fin 2048) (d : Fin 1024) :
    val_main_v38 x0 x1 x2 x3 x4 x5 (ix3 b s d)
    = comb (fun h => val_main_v11 x3 (ix3 b s h)) (fun h => val_main_v14 x4 (ix3 b s h)) (fun h => val_main_v17 x5 (ix3 b s h))
      (fun k => val_main_v2 x0 (ix4 b s ⟨k.val / 64, by omega⟩ ⟨k.val % 64, by omega⟩))
      (fun k => val_main_v5 x1 (ix4 b s ⟨k.val / 64, by omega⟩ ⟨k.val % 64, by omega⟩))
      (fun k => val_main_v8 x2 (ix4 b s ⟨k.val / 64, by omega⟩ ⟨k.val % 64, by omega⟩)) d := by
  pointwise [val_main_v38, val_main_v37]
  rw [Fin.sum_univ_three]
  simp only [weight_at, outs_at]
  rfl

theorem out0_at (b : Fin 8) (s : Fin 2048) (h : Fin 16) (e : Fin 64) :
    val_main_v2 x0 (ix4 b s h e) = x0 (ix4 b s h e) := by
  pointwise [val_main_v2, val_main_v1, val_main_v0]

theorem out1_at (b : Fin 8) (s : Fin 2048) (h : Fin 16) (e : Fin 64) :
    val_main_v5 x1 (ix4 b s h e) = x1 (ix4 ⟨b.val * 4 + s.val % 4, by omega⟩ ⟨s.val / 4, by omega⟩ h e) := by
  pointwise [val_main_v5, val_main_v4, val_main_v3]

theorem out2_at (b : Fin 8) (s : Fin 2048) (h : Fin 16) (e : Fin 64) :
    val_main_v8 x2 (ix4 b s h e) = x2 (ix4 ⟨b.val * 16 + s.val % 16, by omega⟩ ⟨s.val / 16, by omega⟩ h e) := by
  pointwise [val_main_v8, val_main_v7, val_main_v6]

theorem lse0_at (b : Fin 8) (s : Fin 2048) (h : Fin 16) :
    val_main_v11 x3 (ix3 b s h) = x3 (ix3 b s h) := by
  pointwise [val_main_v11, val_main_v10, val_main_v9]

theorem lse1_at (b : Fin 8) (s : Fin 2048) (h : Fin 16) :
    val_main_v14 x4 (ix3 b s h) = x4 (ix3 ⟨b.val * 4 + s.val % 4, by omega⟩ ⟨s.val / 4, by omega⟩ h) := by
  pointwise [val_main_v14, val_main_v13, val_main_v12]

theorem lse2_at (b : Fin 8) (s : Fin 2048) (h : Fin 16) :
    val_main_v17 x5 (ix3 b s h) = x5 (ix3 ⟨b.val * 16 + s.val % 16, by omega⟩ ⟨s.val / 16, by omega⟩ h) := by
  pointwise [val_main_v17, val_main_v16, val_main_v15]

theorem pre_at (b : Fin 8) (s : Fin 2048) (d : Fin 1024) :
    val_main_v66 x0 x1 x2 x3 x4 x5 x6 x7 x8 x9 (ix3 b s d)
    = rms (fun e => val_main_v53 x0 x1 x2 x3 x4 x5 x6 x7 x8 (ix3 b s e)) (fun e => x9 (ix1 e)) d := by
  pointwise [val_main_v66, val_main_v65, val_main_v64, val_main_v63, val_main_v62, val_main_v61, val_main_v60, val_main_v59,
    val_main_v58, val_main_v57, val_main_v56, val_main_v55, val_main_v54, val_main_cst_5, val_main_cst_6, val_main_cst_7]
  rfl

theorem swiglu_at (b : Fin 8) (s : Fin 2048) (d : Fin 1024) :
    val_main_v72 x0 x1 x2 x3 x4 x5 x6 x7 x8 x9 x10 x11 (ix3 b s d)
    = swiglu (fun e => val_main_v66 x0 x1 x2 x3 x4 x5 x6 x7 x8 x9 (ix3 b s e))
      (fun k e => x10 (ix2 k e)) (fun f e => x11 (ix2 f e)) d := by
  pointwise [val_main_v72, val_main_v71, val_main_v70, val_main_v69, val_main_call0_v0, val_main_call0_v1, val_main_call0_v2,
    val_main_call0_v3, val_main_call0_v4, val_main_call0_v5, val_main_call0_cst, val_main_call0_cst_0, val_main_v68, val_main_v67]
  unfold swiglu unit
  simp only [zero_sub]

theorem post_at (b : Fin 8) (s : Fin 2048) (d : Fin 1024) :
    val_main_v86 x0 x1 x2 x3 x4 x5 x6 x7 x8 x9 x10 x11 x12 (ix3 b s d) = val_main_v53 x0 x1 x2 x3 x4 x5 x6 x7 x8 (ix3 b s d)
      + rms (fun e => val_main_v72 x0 x1 x2 x3 x4 x5 x6 x7 x8 x9 x10 x11 (ix3 b s e)) (fun e => x12 (ix1 e)) d := by
  pointwise [val_main_v86, val_main_v85, val_main_v84, val_main_v83, val_main_v82, val_main_v81, val_main_v80, val_main_v79,
    val_main_v78, val_main_v77, val_main_v76, val_main_v75, val_main_v74, val_main_v73, val_main_cst_8, val_main_cst_9,
    val_main_cst_10]
  rfl

/-- The reference's result is the block of `DilSpec` and `FfnSpec`. -/
theorem val_eq (b : Fin 8) (s : Fin 2048) (d : Fin 1024) :
    val_main_v86 x0 x1 x2 x3 x4 x5 x6 x7 x8 x9 x10 x11 x12 (ix3 b s d)
    = ffn (mixed (comb (fun h => x3 (ix3 b s h)) (fun h => x4 (ix3 ⟨b.val * 4 + s.val % 4, by omega⟩ ⟨s.val / 4, by omega⟩ h))
        (fun h => x5 (ix3 ⟨b.val * 16 + s.val % 16, by omega⟩ ⟨s.val / 16, by omega⟩ h))
        (fun k => x0 (ix4 b s ⟨k.val / 64, by omega⟩ ⟨k.val % 64, by omega⟩))
        (fun k => x1 (ix4 ⟨b.val * 4 + s.val % 4, by omega⟩ ⟨s.val / 4, by omega⟩ ⟨k.val / 64, by omega⟩ ⟨k.val % 64, by omega⟩))
        (fun k => x2 (ix4 ⟨b.val * 16 + s.val % 16, by omega⟩ ⟨s.val / 16, by omega⟩ ⟨k.val / 64, by omega⟩ ⟨k.val % 64, by omega⟩)))
      (fun k e => x6 (ix2 k e)) (fun e => x7 (ix1 e)) (fun e => x8 (ix3 b s e)))
      (fun e => x9 (ix1 e)) (fun k e => x10 (ix2 k e)) (fun f e => x11 (ix2 f e)) (fun e => x12 (ix1 e)) d := by
  rw [post_at]
  simp only [swiglu_at, pre_at, mixed_at, att_at, out0_at, out1_at, out2_at, lse0_at, lse1_at, lse2_at]
  rfl

end Cert.DilFfnReferenceIdeal.Hand
end
-- ==== Proof.lean ====
/-
  The claims about the sparse attention call: its frames, as written and idealized, the reference's frame, and the
  constants the idealization names.
-/
module

public import proofs.«01_k».proof.Defs
public import proofs.«01_k».proof.Proof.Frame
public import proofs.«01_k».proof.Proof.Bits.Frame
public import proofs.«01_k».proof.Proof.Gen.ReferenceIdeal.Run
public import proofs.«01_k».proof.Proof.Ffn
public import proofs.«01_k».proof.Proof.Proj1ReferenceValue
public import proofs.«01_k».proof.Proof.Proj1KernelValue
public import proofs.«01_k».proof.Proof.Dil
public import proofs.«01_k».proof.Proof.FfnKernelValue
public import proofs.«01_k».proof.Proof.FfnReferenceValue
public import proofs.«01_k».proof.Proof.DilResult
public import proofs.«01_k».proof.Proof.DilReferenceValue
public import Idealize.ShloMosaic.Lib.Claim
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Hand.frame (F := Bits) m ρ

theorem frame_ideal : Cert.quiescent_KernelIdeal := fun m ρ _ => Cert.KernelIdeal.Hand.frame (F := Ideal) m ρ

theorem preserves : Cert.preserves_Kernel_KernelIdeal :=
  ⟨IdealRules.named_const.statement _ _ _ _ _ rfl, IdealRules.named_const.statement _ _ _ _ _ rfl⟩

theorem frame_reference : Cert.quiescent_ReferenceIdeal := fun m ρ _ =>
  (θ_run Cert.ReferenceIdeal.defs _ _).mono (fun r h => ⟨fun c => (h c).2,
    sem_eq_zero_of_no_sems (by decide) r.2⟩) (Cert.ReferenceIdeal.Value.run (F := Ideal) m ρ)

theorem frame_ffn : Cert.quiescent_FfnKernel := fun m ρ _ => Cert.FfnKernel.Gen.frame (F := Bits) m ρ

theorem frame_ffn_ideal : Cert.quiescent_FfnKernelIdeal := fun m ρ _ => Cert.FfnKernelIdeal.Gen.frame (F := Ideal) m ρ

theorem frame_ffn_reference : Cert.quiescent_FfnReferenceIdeal := fun m ρ _ =>
  (θ_run Cert.FfnReferenceIdeal.defs _ _).mono (fun r h => ⟨fun c => (h c).2,
    sem_eq_zero_of_no_sems (by decide) r.2⟩) (Cert.FfnReferenceIdeal.Value.run (F := Ideal) m ρ)

/-- The output projection and feed-forward, as tiled by the kernel, are the reference's. -/
theorem ffn_eq : Cert.algebraic_FfnKernelIdeal_FfnReferenceIdeal := by
  pair_intro
  · run_from Cert.FfnKernelIdeal.Gen.run_main m g
  · run_from Cert.FfnReferenceIdeal.Value.run m' g'
    rw [Cert.FfnKernelIdeal.Hand.final m c]
    rw [Cert.FfnReferenceIdeal.Read.val_main_v47_eq]
    obtain ⟨e0, e1, e2, e3, e4, e5, e6, e7⟩ := hagree c
    rw [e0, e1, e2, e3, e4, e5, e6, e7]
    funext y
    obtain ⟨b, s, d, rfl⟩ : ∃ (b : Fin 8) (s : Fin 2048) (d : Fin 1024), y = ix3 b s d :=
      ⟨y 0, y 1, y 2, funext fun a => match a with | ⟨0, _⟩ => rfl | ⟨1, _⟩ => rfl | ⟨2, _⟩ => rfl⟩
    exact Cert.FfnReferenceIdeal.Hand.val_eq ..

theorem frame_dil : Cert.quiescent_DilFfnKernel := fun m ρ _ => Cert.DilFfnKernel.Gen.frame (F := Bits) m ρ

theorem frame_dil_ideal : Cert.quiescent_DilFfnKernelIdeal := fun m ρ _ => Cert.DilFfnKernelIdeal.Gen.frame (F := Ideal) m ρ

theorem frame_dil_reference : Cert.quiescent_DilFfnReferenceIdeal := fun m ρ _ =>
  (θ_run Cert.DilFfnReferenceIdeal.defs _ _).mono (fun r h => ⟨fun c => (h c).2,
    sem_eq_zero_of_no_sems (by decide) r.2⟩) (Cert.DilFfnReferenceIdeal.Value.run (F := Ideal) m ρ)

set_option maxHeartbeats 4000000 in
/-- The second half of the dilated layer, as tiled by the kernel, is the reference's. -/
theorem dil_eq : Cert.algebraic_DilFfnKernelIdeal_DilFfnReferenceIdeal := by
  pair_intro
  · run_from Cert.DilFfnKernelIdeal.Gen.run_main m g
    all_goals first
      | with_reducible exact Cert.DilFfnKernelIdeal.Gen.V_main_arg0 m c
      | with_reducible exact Cert.DilFfnKernelIdeal.Gen.V_main_arg1 m c
      | with_reducible exact Cert.DilFfnKernelIdeal.Gen.V_main_arg2 m c
      | with_reducible exact Cert.DilFfnKernelIdeal.Gen.V_main_arg3 m c
      | with_reducible exact Cert.DilFfnKernelIdeal.Gen.V_main_arg4 m c
      | with_reducible exact Cert.DilFfnKernelIdeal.Gen.V_main_arg5 m c
      | with_reducible exact Cert.DilFfnKernelIdeal.Gen.V_main_arg6 m c
      | with_reducible exact Cert.DilFfnKernelIdeal.Gen.V_main_arg7 m c
      | with_reducible exact Cert.DilFfnKernelIdeal.Gen.V_main_arg8 m c
      | with_reducible exact Cert.DilFfnKernelIdeal.Gen.V_main_arg9 m c
      | with_reducible exact Cert.DilFfnKernelIdeal.Gen.V_main_arg10 m c
      | with_reducible exact Cert.DilFfnKernelIdeal.Gen.V_main_arg11 m c
      | with_reducible exact Cert.DilFfnKernelIdeal.Gen.V_main_arg12 m c
  · run_from Cert.DilFfnReferenceIdeal.Value.run m' g'
    rw [Cert.DilFfnKernelIdeal.Hand.final m c]
    obtain ⟨e0, e1, e2, e3, e4, e5, e6, e7, e8, e9, e10, e11, e12⟩ := hagree c
    rw [← e12]
    refine (Cert.DilFfnReferenceIdeal.Read.val_main_v86_eq (StableHlo.launchContents m' c)).trans ?_
    funext y
    obtain ⟨b, s, d, rfl⟩ : ∃ (b : Fin 8) (s : Fin 2048) (d : Fin 1024), y = ix3 b s d :=
      ⟨y 0, y 1, y 2, funext fun a => match a with | ⟨0, _⟩ => rfl | ⟨1, _⟩ => rfl | ⟨2, _⟩ => rfl⟩
    refine (Cert.DilFfnReferenceIdeal.Hand.val_eq ..).trans ?_
    unfold Cert.DilFfnKernelIdeal.Hand.result Cert.DilFfnKernelIdeal.Hand.attnRow
    simp only [← e0, ← e1, ← e2, ← e3, ← e4, ← e5, ← e6, ← e7, ← e8, ← e9, ← e10, ← e11, ← e12]
    rfl

set_option maxHeartbeats 4000000 in
/-- The projection with dilation 1, as tiled by the kernel, is the reference's. -/
theorem proj1_eq : Cert.algebraic_Proj1KernelIdeal_Proj1ReferenceIdeal := by
  pair_intro
  · run_from Cert.Proj1KernelIdeal.Gen.run_main m g
    all_goals first
      | with_reducible exact Cert.Proj1KernelIdeal.Gen.V_main_arg0 m c
      | with_reducible exact Cert.Proj1KernelIdeal.Gen.V_main_arg1 m c
      | with_reducible exact Cert.Proj1KernelIdeal.Gen.V_main_arg2 m c
      | with_reducible exact Cert.Proj1KernelIdeal.Gen.V_main_arg3 m c
      | with_reducible exact Cert.Proj1KernelIdeal.Gen.V_main_arg4 m c
  · run_from Cert.Proj1ReferenceIdeal.Value.run m' g'
    · obtain ⟨e0, e1, e2, e3, e4⟩ := hagree c
      rw [Cert.Proj1KernelIdeal.Hand.finalQ m c]
      refine (Cert.Proj1ReferenceIdeal.Read.val_main_v55_eq m' c).trans ?_
      rw [e0, e1, e2, e3, e4]
      funext y
      obtain ⟨b, z, s, d, rfl⟩ : ∃ (b : Fin 8) (z : Fin 1) (s : Fin 2048) (d : Fin 1024), y = ix4 b z s d :=
        ⟨y 0, y 1, y 2, y 3, funext fun a => match a with | ⟨0, _⟩ => rfl | ⟨1, _⟩ => rfl | ⟨2, _⟩ => rfl | ⟨3, _⟩ => rfl⟩
      have es : (⟨s.val * 1 + z.val, by omega⟩ : Fin 2048) = s := Fin.ext (by dsimp only; omega)
      refine (Cert.Proj1ReferenceIdeal.Hand.q_at ..).trans ?_
      simp only [es]
      rfl
    · obtain ⟨e0, e1, e2, e3, e4⟩ := hagree c
      rw [Cert.Proj1KernelIdeal.Hand.finalK m c]
      refine (Cert.Proj1ReferenceIdeal.Read.val_main_v60_eq m' c).trans ?_
      rw [e0, e1, e2, e3, e4]
      funext y
      obtain ⟨b, z, s, d, rfl⟩ : ∃ (b : Fin 8) (z : Fin 1) (s : Fin 2048) (d : Fin 1024), y = ix4 b z s d :=
        ⟨y 0, y 1, y 2, y 3, funext fun a => match a with | ⟨0, _⟩ => rfl | ⟨1, _⟩ => rfl | ⟨2, _⟩ => rfl | ⟨3, _⟩ => rfl⟩
      have es : (⟨s.val * 1 + z.val, by omega⟩ : Fin 2048) = s := Fin.ext (by dsimp only; omega)
      refine (Cert.Proj1ReferenceIdeal.Hand.k_at ..).trans ?_
      simp only [es]
      rfl
    · obtain ⟨e0, e1, e2, e3, e4⟩ := hagree c
      rw [Cert.Proj1KernelIdeal.Hand.finalV m c]
      refine (Cert.Proj1ReferenceIdeal.Read.val_main_v65_eq _ _ _).trans ?_
      funext y
      obtain ⟨b, z, s, d, rfl⟩ : ∃ (b : Fin 8) (z : Fin 1) (s : Fin 2048) (d : Fin 1024), y = ix4 b z s d :=
        ⟨y 0, y 1, y 2, y 3, funext fun a => match a with | ⟨0, _⟩ => rfl | ⟨1, _⟩ => rfl | ⟨2, _⟩ => rfl | ⟨3, _⟩ => rfl⟩
      have es : (⟨s.val * 1 + z.val, by omega⟩ : Fin 2048) = s := Fin.ext (by dsimp only; omega)
      refine (Cert.Proj1ReferenceIdeal.Hand.v_at ..).trans ?_
      simp only [es]
      rfl

theorem frame_proj1 : Cert.quiescent_Proj1Kernel := fun m ρ _ => Cert.Proj1Kernel.Gen.frame (F := Bits) m ρ

theorem frame_proj1_ideal : Cert.quiescent_Proj1KernelIdeal := fun m ρ _ => Cert.Proj1KernelIdeal.Gen.frame (F := Ideal) m ρ

theorem frame_proj1_reference : Cert.quiescent_Proj1ReferenceIdeal := fun m ρ _ =>
  (θ_run Cert.Proj1ReferenceIdeal.defs _ _).mono (fun r h => ⟨fun c => (h c).2.2.2,
    sem_eq_zero_of_no_sems (by decide) r.2⟩) (Cert.Proj1ReferenceIdeal.Value.run (F := Ideal) m ρ)

theorem frame_proj4 : Cert.quiescent_Proj4Kernel := fun m ρ _ => Cert.Proj4Kernel.Gen.frame (F := Bits) m ρ

theorem frame_proj4_ideal : Cert.quiescent_Proj4KernelIdeal := fun m ρ _ => Cert.Proj4KernelIdeal.Gen.frame (F := Ideal) m ρ

theorem frame_proj4_reference : Cert.quiescent_Proj4ReferenceIdeal := fun m ρ _ =>
  (θ_run Cert.Proj4ReferenceIdeal.defs _ _).mono (fun r h => ⟨fun c => (h c).2.2.2,
    sem_eq_zero_of_no_sems (by decide) r.2⟩) (Cert.Proj4ReferenceIdeal.Value.run (F := Ideal) m ρ)

theorem frame_proj16 : Cert.quiescent_Proj16Kernel := fun m ρ _ => Cert.Proj16Kernel.Gen.frame (F := Bits) m ρ

theorem frame_proj16_ideal : Cert.quiescent_Proj16KernelIdeal := fun m ρ _ => Cert.Proj16KernelIdeal.Gen.frame (F := Ideal) m ρ

theorem frame_proj16_reference : Cert.quiescent_Proj16ReferenceIdeal := fun m ρ _ =>
  (θ_run Cert.Proj16ReferenceIdeal.defs _ _).mono (fun r h => ⟨fun c => (h c).2.2.2,
    sem_eq_zero_of_no_sems (by decide) r.2⟩) (Cert.Proj16ReferenceIdeal.Value.run (F := Ideal) m ρ)

theorem claim : Cert.Claim :=
  ⟨Cert.Kernel.Gen.facts, Cert.KernelIdeal.Gen.facts, Cert.ReferenceIdeal.Gen.facts,
    Cert.FfnKernel.Gen.facts, Cert.FfnKernelIdeal.Gen.facts, Cert.FfnReferenceIdeal.Gen.facts,
    Cert.DilFfnKernel.Gen.facts, Cert.DilFfnKernelIdeal.Gen.facts, Cert.DilFfnReferenceIdeal.Gen.facts,
    Cert.Proj1Kernel.Gen.facts, Cert.Proj1KernelIdeal.Gen.facts, Cert.Proj1ReferenceIdeal.Gen.facts,
    Cert.Proj4Kernel.Gen.facts, Cert.Proj4KernelIdeal.Gen.facts, Cert.Proj4ReferenceIdeal.Gen.facts,
    Cert.Proj16Kernel.Gen.facts, Cert.Proj16KernelIdeal.Gen.facts, Cert.Proj16ReferenceIdeal.Gen.facts,
    frame_kernel, frame_ideal, frame_reference, frame_ffn, frame_ffn_ideal, frame_ffn_reference,
    frame_dil, frame_dil_ideal, frame_dil_reference,
    frame_proj1, frame_proj1_ideal, frame_proj1_reference,
    frame_proj4, frame_proj4_ideal, frame_proj4_reference,
    frame_proj16, frame_proj16_ideal, frame_proj16_reference,
    preserves, trivial, ffn_eq, trivial, trivial, trivial, trivial, dil_eq, proj1_eq⟩

end Cert.Proof

end
